-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "log2e" .f32 0x3FB8AA3B#32 (((Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S256x512x128 : Shape := ⟨3, ![256, 512, 128]⟩
abbrev S32768x1280 : Shape := ⟨2, ![32768, 1280]⟩
abbrev S8x384x128 : Shape := ⟨3, ![8, 384, 128]⟩
abbrev S8 : Shape := ⟨1, ![8]⟩
abbrev S1024x4096 : Shape := ⟨2, ![1024, 4096]⟩
abbrev S4096x1024 : Shape := ⟨2, ![4096, 1024]⟩
abbrev S32768x512 : Shape := ⟨2, ![32768, 512]⟩
abbrev S16x512x128 : Shape := ⟨3, ![16, 512, 128]⟩
abbrev S2048x128 : Shape := ⟨2, ![2048, 128]⟩
abbrev S64x4096 : Shape := ⟨2, ![64, 4096]⟩
abbrev S256x1024 : Shape := ⟨2, ![256, 1024]⟩
abbrev S2048x512 : Shape := ⟨2, ![2048, 512]⟩
abbrev S2x2304x128 : Shape := ⟨3, ![2, 2304, 128]⟩
abbrev S2x18x144x128 : Shape := ⟨4, ![2, 18, 144, 128]⟩
abbrev S2x768x256 : Shape := ⟨3, ![2, 768, 256]⟩
abbrev S2x8x256 : Shape := ⟨3, ![2, 8, 256]⟩
abbrev S128x128 : Shape := ⟨2, ![128, 128]⟩
abbrev S16x128 : Shape := ⟨2, ![16, 128]⟩
abbrev S1x128x128 : Shape := ⟨3, ![1, 128, 128]⟩
abbrev S144x128 : Shape := ⟨2, ![144, 128]⟩
abbrev S1x1x144x128 : Shape := ⟨4, ![1, 1, 144, 128]⟩
abbrev S1x2048x128 : Shape := ⟨3, ![1, 2048, 128]⟩
abbrev S128x256 : Shape := ⟨2, ![128, 256]⟩
abbrev S1x512x128 : Shape := ⟨3, ![1, 512, 128]⟩
abbrev S512x128 : Shape := ⟨2, ![512, 128]⟩
abbrev S1x384x128 : Shape := ⟨3, ![1, 384, 128]⟩
abbrev S384x128 : Shape := ⟨2, ![384, 128]⟩
abbrev S768x128 : Shape := ⟨2, ![768, 128]⟩
abbrev S768x256 : Shape := ⟨2, ![768, 256]⟩
abbrev S256x128 : Shape := ⟨2, ![256, 128]⟩
abbrev S1 : Shape := ⟨1, ![1]⟩
abbrev S128 : Shape := ⟨1, ![128]⟩
abbrev S1x128 : Shape := ⟨2, ![1, 128]⟩
abbrev S1x1x128 : Shape := ⟨3, ![1, 1, 128]⟩
abbrev S144x768 : Shape := ⟨2, ![144, 768]⟩
abbrev S1x768x256 : Shape := ⟨3, ![1, 768, 256]⟩
abbrev S144x256 : Shape := ⟨2, ![144, 256]⟩
abbrev S2x256 : Shape := ⟨2, ![2, 256]⟩
abbrev S1x2x256 : Shape := ⟨3, ![1, 2, 256]⟩
abbrev S1x256 : Shape := ⟨2, ![1, 256]⟩

abbrev nBuf : Space → Nat
  | .hbm => 9
  | .vmem => 25
  | .smem => 1
  | _ => 0

abbrev bufTy : (tb : Table) → Fin (tcTables nBuf tb) → BufTy
  | .hbm, ⟨0, _⟩ => ⟨S256x512x128, .bf16⟩
  | .hbm, ⟨1, _⟩ => ⟨S32768x1280, .bf16⟩
  | .hbm, ⟨2, _⟩ => ⟨S8x384x128, .f32⟩
  | .hbm, ⟨3, _⟩ => ⟨S8, .f32⟩
  | .hbm, ⟨4, _⟩ => ⟨S1024x4096, .f32⟩
  | .hbm, ⟨5, _⟩ => ⟨S4096x1024, .f32⟩
  | .hbm, ⟨6, _⟩ => ⟨S32768x512, .bf16⟩
  | .hbm, ⟨7, _⟩ => ⟨S1024x4096, .bf16⟩
  | .hbm, ⟨8, _⟩ => ⟨S4096x1024, .bf16⟩
  | .local _ .vmem, ⟨0, _⟩ => ⟨S16x512x128, .bf16⟩
  | .local _ .vmem, ⟨1, _⟩ => ⟨S16x512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S8x384x128, .f32⟩
  | .local _ .vmem, ⟨7, _⟩ => ⟨S64x4096, .f32⟩
  | .local _ .vmem, ⟨8, _⟩ => ⟨S64x4096, .f32⟩
  | .local _ .vmem, ⟨9, _⟩ => ⟨S256x1024, .f32⟩
  | .local _ .vmem, ⟨10, _⟩ => ⟨S256x1024, .f32⟩
  | .local _ .vmem, ⟨11, _⟩ => ⟨S2048x512, .bf16⟩
  | .local _ .vmem, ⟨12, _⟩ => ⟨S2048x512, .bf16⟩
  | .local _ .vmem, ⟨13, _⟩ => ⟨S64x4096, .bf16⟩
  | .local _ .vmem, ⟨14, _⟩ => ⟨S64x4096, .bf16⟩
  | .local _ .vmem, ⟨15, _⟩ => ⟨S256x1024, .bf16⟩
  | .local _ .vmem, ⟨16, _⟩ => ⟨S256x1024, .bf16⟩
  | .local _ .vmem, ⟨17, _⟩ => ⟨S2x2304x128, .bf16⟩
  | .local _ .vmem, ⟨18, _⟩ => ⟨S2x18x144x128, .bf16⟩
  | .local _ .vmem, ⟨19, _⟩ => ⟨S2x768x256, .f32⟩
  | .local _ .vmem, ⟨20, _⟩ => ⟨S2x768x256, .f32⟩
  | .local _ .vmem, ⟨21, _⟩ => ⟨S2x768x256, .bf16⟩
  | .local _ .vmem, ⟨22, _⟩ => ⟨S2x768x256, .bf16⟩
  | .local _ .vmem, ⟨23, _⟩ => ⟨S2x8x256, .f32⟩
  | .local _ .vmem, ⟨24, _⟩ => ⟨S2x8x256, .f32⟩
  | .local _ .smem, ⟨0, _⟩ => ⟨S8, .f32⟩
  | _, _ => ⟨S256x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c1_i32_456 : BitVec 32 := 1#32
  let c7_i32 : BitVec 32 := 7#32
  let v732 : BitVec 32 := Scalar.addi c1_i32_456 c7_i32
  let c1_i32_457 : BitVec 32 := 1#32
  ⟨c1_i32_456, v732, c1_i32_457⟩
def k0_mult1 (k0_t1 : Fin k0_t1_loop.trips) : BitVec 32 :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c2_i32_655 : BitVec 32 := 2#32
  let v1056 : BitVec 32 := Scalar.subi v1055 c2_i32_655
  let c128_i32 : BitVec 32 := 128#32
  let v1057 : BitVec 32 := Scalar.muli v1056 c128_i32
  v1057
def k0_off1 (k0_t1 : Fin k0_t1_loop.trips) (c2_i32_655 : BitVec 32) (c0_i32_656 : BitVec 32) : Fin 4 → Nat :=
  let c0_657 : Index := 0#32
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1056 : BitVec 32 := Scalar.subi v1055 c2_i32_655
  let v1059 : BitVec 32 := Scalar.addi v1056 c0_i32_656
  let v1060 : Index := Scalar.indexCast v1059
  let c0_658 : Index := 0#32
  let c0_659 : Index := 0#32
  ![0, v1060.toNat, 0, 0]
def k0_off2 (k0_t1 : Fin k0_t1_loop.trips) (c2_i32_655 : BitVec 32) (c0_i32_668 : BitVec 32) : Fin 4 → Nat :=
  let c1_669 : Index := 1#32
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1056 : BitVec 32 := Scalar.subi v1055 c2_i32_655
  let v1071 : BitVec 32 := Scalar.addi v1056 c0_i32_668
  let v1072 : Index := Scalar.indexCast v1071
  let c0_670 : Index := 0#32
  let c0_671 : Index := 0#32
  ![1, v1072.toNat, 0, 0]
def k0_off3 (k0_t1 : Fin k0_t1_loop.trips) (c2_i32_655 : BitVec 32) : Fin 2 → Nat :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1056 : BitVec 32 := Scalar.subi v1055 c2_i32_655
  let c128_i32 : BitVec 32 := 128#32
  let v1057 : BitVec 32 := Scalar.muli v1056 c128_i32
  let v1058 : BitVec 32 := v1057
  let v1107 : Index := Scalar.indexCast v1058
  let c0_689 : Index := 0#32
  ![v1107.toNat, 0]
def k0_off4 (k0_t1 : Fin k0_t1_loop.trips) (c2_i32_655 : BitVec 32) : Fin 2 → Nat :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1056 : BitVec 32 := Scalar.subi v1055 c2_i32_655
  let c128_i32 : BitVec 32 := 128#32
  let v1057 : BitVec 32 := Scalar.muli v1056 c128_i32
  let v1058 : BitVec 32 := v1057
  let v1112 : Index := Scalar.indexCast v1058
  let c128_690 : Index := 128#32
  ![v1112.toNat, 128]
def k0_off5 (k0_t1 : Fin k0_t1_loop.trips) (c2_i32_655 : BitVec 32) : Fin 2 → Nat :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1056 : BitVec 32 := Scalar.subi v1055 c2_i32_655
  let c128_i32 : BitVec 32 := 128#32
  let v1057 : BitVec 32 := Scalar.muli v1056 c128_i32
  let v1058 : BitVec 32 := v1057
  let v1137 : Index := Scalar.indexCast v1058
  let c256_700 : Index := 256#32
  ![v1137.toNat, 256]
def k0_off6 (k0_t1 : Fin k0_t1_loop.trips) (c2_i32_655 : BitVec 32) : Fin 2 → Nat :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1056 : BitVec 32 := Scalar.subi v1055 c2_i32_655
  let c128_i32 : BitVec 32 := 128#32
  let v1057 : BitVec 32 := Scalar.muli v1056 c128_i32
  let v1058 : BitVec 32 := v1057
  let v1142 : Index := Scalar.indexCast v1058
  let c384_701 : Index := 384#32
  ![v1142.toNat, 384]
def k0_off7 (k0_t1 : Fin k0_t1_loop.trips) : Fin 3 → Nat :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let v1144 : Index := Scalar.indexCast v1055
  let c0_702 : Index := 0#32
  let c0_703 : Index := 0#32
  ![v1144.toNat, 0, 0]
def k0_mult2 (k0_t1 : Fin k0_t1_loop.trips) : BitVec 32 :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c128_i32_704 : BitVec 32 := 128#32
  let v1147 : BitVec 32 := Scalar.muli v1055 c128_i32_704
  v1147
def k0_off8 (k0_t1 : Fin k0_t1_loop.trips) : Fin 3 → Nat :=
  let c0_705 : Index := 0#32
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c128_i32_704 : BitVec 32 := 128#32
  let v1147 : BitVec 32 := Scalar.muli v1055 c128_i32_704
  let v1148 : BitVec 32 := v1147
  let v1149 : Index := Scalar.indexCast v1148
  let c0_706 : Index := 0#32
  ![0, v1149.toNat, 0]
def k0_off9 (k0_t1 : Fin k0_t1_loop.trips) : Fin 3 → Nat :=
  let c1_707 : Index := 1#32
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c128_i32_704 : BitVec 32 := 128#32
  let v1147 : BitVec 32 := Scalar.muli v1055 c128_i32_704
  let v1148 : BitVec 32 := v1147
  let v1152 : Index := Scalar.indexCast v1148
  let c0_708 : Index := 0#32
  ![1, v1152.toNat, 0]
def k0_mult3 (k0_t1 : Fin k0_t1_loop.trips) : BitVec 32 :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c1_i32_855 : BitVec 32 := 1#32
  let v1388 : BitVec 32 := Scalar.subi v1055 c1_i32_855
  let c128_i32_856 : BitVec 32 := 128#32
  let v1389 : BitVec 32 := Scalar.muli v1388 c128_i32_856
  v1389
def k0_off10 (k0_t1 : Fin k0_t1_loop.trips) : Fin 3 → Nat :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c1_i32_903 : BitVec 32 := 1#32
  let v1476 : BitVec 32 := Scalar.addi v1055 c1_i32_903
  let v1477 : Index := Scalar.indexCast v1476
  let c0_904 : Index := 0#32
  let c0_905 : Index := 0#32
  ![v1477.toNat, 0, 0]
def k0_mult4 (k0_t1 : Fin k0_t1_loop.trips) : BitVec 32 :=
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c1_i32_903 : BitVec 32 := 1#32
  let v1476 : BitVec 32 := Scalar.addi v1055 c1_i32_903
  let c128_i32_906 : BitVec 32 := 128#32
  let v1480 : BitVec 32 := Scalar.muli v1476 c128_i32_906
  v1480
def k0_off11 (k0_t1 : Fin k0_t1_loop.trips) : Fin 3 → Nat :=
  let c0_907 : Index := 0#32
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c1_i32_903 : BitVec 32 := 1#32
  let v1476 : BitVec 32 := Scalar.addi v1055 c1_i32_903
  let c128_i32_906 : BitVec 32 := 128#32
  let v1480 : BitVec 32 := Scalar.muli v1476 c128_i32_906
  let v1481 : BitVec 32 := v1480
  let v1482 : Index := Scalar.indexCast v1481
  let c0_908 : Index := 0#32
  ![0, v1482.toNat, 0]
def k0_off12 (k0_t1 : Fin k0_t1_loop.trips) : Fin 3 → Nat :=
  let c1_909 : Index := 1#32
  let c2_i32 : BitVec 32 := 2#32
  let c1_i32_456 : BitVec 32 := 1#32
  let c1_i32_457 : BitVec 32 := 1#32
  let arg19 : BitVec 32 := Scf.iv c1_i32_456 c1_i32_457 k0_t1
  let v1055 : BitVec 32 := Scalar.muli c2_i32 arg19
  let c1_i32_903 : BitVec 32 := 1#32
  let v1476 : BitVec 32 := Scalar.addi v1055 c1_i32_903
  let c128_i32_906 : BitVec 32 := 128#32
  let v1480 : BitVec 32 := Scalar.muli v1476 c128_i32_906
  let v1481 : BitVec 32 := v1480
  let v1485 : Index := Scalar.indexCast v1481
  let c0_910 : Index := 0#32
  ![1, v1485.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S256x512x128 : Shape := ⟨3, ![256, 512, 128]⟩
abbrev S32768x1280 : Shape := ⟨2, ![32768, 1280]⟩
abbrev S8x384x128 : Shape := ⟨3, ![8, 384, 128]⟩
abbrev S8 : Shape := ⟨1, ![8]⟩
abbrev S1024x4096 : Shape := ⟨2, ![1024, 4096]⟩
abbrev S4096x1024 : Shape := ⟨2, ![4096, 1024]⟩
abbrev S2048x64x128 : Shape := ⟨3, ![2048, 64, 128]⟩
abbrev S32768x128 : Shape := ⟨2, ![32768, 128]⟩
abbrev S16x2048x128 : Shape := ⟨3, ![16, 2048, 128]⟩
abbrev S_ : Shape := ⟨0, ![]⟩
abbrev S16x2304x128 : Shape := ⟨3, ![16, 2304, 128]⟩
abbrev S16x18x128x128 : Shape := ⟨4, ![16, 18, 128, 128]⟩
abbrev S16x16x128x128 : Shape := ⟨4, ![16, 16, 128, 128]⟩
abbrev S16x16x384x128 : Shape := ⟨4, ![16, 16, 384, 128]⟩
abbrev S256x384x2x64 : Shape := ⟨4, ![256, 384, 2, 64]⟩
abbrev S256x2x384x64 : Shape := ⟨4, ![256, 2, 384, 64]⟩
abbrev S256x1x2x384x64 : Shape := ⟨5, ![256, 1, 2, 384, 64]⟩
abbrev S256x4x2x384x64 : Shape := ⟨5, ![256, 4, 2, 384, 64]⟩
abbrev S2048x384x64 : Shape := ⟨3, ![2048, 384, 64]⟩
abbrev S2048x384x128 : Shape := ⟨3, ![2048, 384, 128]⟩
abbrev S2x4x384x128 : Shape := ⟨4, ![2, 4, 384, 128]⟩
abbrev S4x2x384x128 : Shape := ⟨4, ![4, 2, 384, 128]⟩
abbrev S1x8x384x128 : Shape := ⟨4, ![1, 8, 384, 128]⟩
abbrev S256x8x384x128 : Shape := ⟨4, ![256, 8, 384, 128]⟩
abbrev S16 : Shape := ⟨1, ![16]⟩
abbrev S16x1 : Shape := ⟨2, ![16, 1]⟩
abbrev S384 : Shape := ⟨1, ![384]⟩
abbrev S1x384 : Shape := ⟨2, ![1, 384]⟩
abbrev S16x384 : Shape := ⟨2, ![16, 384]⟩
abbrev S1x16x1x384x1 : Shape := ⟨5, ![1, 16, 1, 384, 1]⟩
abbrev S16x16x8x384x1 : Shape := ⟨5, ![16, 16, 8, 384, 1]⟩
abbrev S2048x384x1 : Shape := ⟨3, ![2048, 384, 1]⟩
abbrev S2x4 : Shape := ⟨2, ![2, 4]⟩
abbrev S4x2 : Shape := ⟨2, ![4, 2]⟩
abbrev S1x8 : Shape := ⟨2, ![1, 8]⟩
abbrev S256x8 : Shape := ⟨2, ![256, 8]⟩
abbrev S2048x1x1 : Shape := ⟨3, ![2048, 1, 1]⟩
abbrev S2048x128 : Shape := ⟨2, ![2048, 128]⟩
abbrev S2048x1x128 : Shape := ⟨3, ![2048, 1, 128]⟩
abbrev S2048x128x64 : Shape := ⟨3, ![2048, 128, 64]⟩
abbrev S256x8x128x64 : Shape := ⟨4, ![256, 8, 128, 64]⟩
abbrev S256x128x8x64 : Shape := ⟨4, ![256, 128, 8, 64]⟩
abbrev S32768x512 : Shape := ⟨2, ![32768, 512]⟩

abbrev nBuf : Space → Nat
  | .hbm => 113
  | .vmem => 0
  | .smem => 0
  | _ => 0

abbrev bufTy : (tb : Table) → Fin (tcTables nBuf tb) → BufTy
  | .hbm, ⟨0, _⟩ => ⟨S256x512x128, .bf16⟩
  | .hbm, ⟨1, _⟩ => ⟨S32768x1280, .bf16⟩
  | .hbm, ⟨2, _⟩ => ⟨S8x384x128, .f32⟩
  | .hbm, ⟨3, _⟩ => ⟨S8, .f32⟩
  | .hbm, ⟨4, _⟩ => ⟨S1024x4096, .f32⟩
  | .hbm, ⟨5, _⟩ => ⟨S4096x1024, .f32⟩
  | .hbm, ⟨6, _⟩ => ⟨S256x512x128, .f32⟩
  | .hbm, ⟨7, _⟩ => ⟨S2048x64x128, .f32⟩
  | .hbm, ⟨8, _⟩ => ⟨S32768x128, .bf16⟩
  | .hbm, ⟨9, _⟩ => ⟨S32768x128, .f32⟩
  | .hbm, ⟨10, _⟩ => ⟨S16x2048x128, .f32⟩
  | .hbm, ⟨11, _⟩ => ⟨S_, .i32⟩
  | .hbm, ⟨12, _⟩ => ⟨S_, .f32⟩
  | .hbm, ⟨13, _⟩ => ⟨S16x2304x128, .f32⟩
  | .hbm, ⟨14, _⟩ => ⟨S16x18x128x128, .f32⟩
  | .hbm, ⟨15, _⟩ => ⟨S16x16x128x128, .f32⟩
  | .hbm, ⟨16, _⟩ => ⟨S16x16x128x128, .f32⟩
  | .hbm, ⟨17, _⟩ => ⟨S16x16x128x128, .f32⟩
  | .hbm, ⟨18, _⟩ => ⟨S16x16x384x128, .f32⟩
  | .hbm, ⟨19, _⟩ => ⟨S256x384x2x64, .f32⟩
  | .hbm, ⟨20, _⟩ => ⟨S256x2x384x64, .f32⟩
  | .hbm, ⟨21, _⟩ => ⟨S256x1x2x384x64, .f32⟩
  | .hbm, ⟨22, _⟩ => ⟨S256x4x2x384x64, .f32⟩
  | .hbm, ⟨23, _⟩ => ⟨S2048x384x64, .f32⟩
  | .hbm, ⟨24, _⟩ => ⟨S32768x128, .bf16⟩
  | .hbm, ⟨25, _⟩ => ⟨S32768x128, .f32⟩
  | .hbm, ⟨26, _⟩ => ⟨S16x2048x128, .f32⟩
  | .hbm, ⟨27, _⟩ => ⟨S_, .i32⟩
  | .hbm, ⟨28, _⟩ => ⟨S_, .f32⟩
  | .hbm, ⟨29, _⟩ => ⟨S16x2304x128, .f32⟩
  | .hbm, ⟨30, _⟩ => ⟨S16x18x128x128, .f32⟩
  | .hbm, ⟨31, _⟩ => ⟨S16x16x128x128, .f32⟩
  | .hbm, ⟨32, _⟩ => ⟨S16x16x128x128, .f32⟩
  | .hbm, ⟨33, _⟩ => ⟨S16x16x128x128, .f32⟩
  | .hbm, ⟨34, _⟩ => ⟨S16x16x384x128, .f32⟩
  | .hbm, ⟨35, _⟩ => ⟨S256x384x2x64, .f32⟩
  | .hbm, ⟨36, _⟩ => ⟨S256x2x384x64, .f32⟩
  | .hbm, ⟨37, _⟩ => ⟨S256x1x2x384x64, .f32⟩
  | .hbm, ⟨38, _⟩ => ⟨S256x4x2x384x64, .f32⟩
  | .hbm, ⟨39, _⟩ => ⟨S2048x384x64, .f32⟩
  | .hbm, ⟨40, _⟩ => ⟨S2048x384x128, .f32⟩
  | .hbm, ⟨41, _⟩ => ⟨S2x4x384x128, .f32⟩
  | .hbm, ⟨42, _⟩ => ⟨S4x2x384x128, .f32⟩
  | .hbm, ⟨43, _⟩ => ⟨S8x384x128, .f32⟩
  | .hbm, ⟨44, _⟩ => ⟨S1x8x384x128, .f32⟩
  | .hbm, ⟨45, _⟩ => ⟨S256x8x384x128, .f32⟩
  | .hbm, ⟨46, _⟩ => ⟨S2048x384x128, .f32⟩
  | .hbm, ⟨47, _⟩ => ⟨S2048x384x128, .f32⟩
  | .hbm, ⟨48, _⟩ => ⟨S_, .f32⟩
  | .hbm, ⟨49, _⟩ => ⟨S_, .f32⟩
  | .hbm, ⟨50, _⟩ => ⟨S2048x384x128, .f32⟩
  | .hbm, ⟨51, _⟩ => ⟨S2048x384x128, .f32⟩
  | .hbm, ⟨52, _⟩ => ⟨S16, .i32⟩
  | .hbm, ⟨53, _⟩ => ⟨S16x1, .i32⟩
  | .hbm, ⟨54, _⟩ => ⟨S_, .i32⟩
  | .hbm, ⟨55, _⟩ => ⟨S16x1, .i32⟩
  | .hbm, ⟨56, _⟩ => ⟨S16x1, .i32⟩
  | .hbm, ⟨57, _⟩ => ⟨S_, .i32⟩
  | .hbm, ⟨58, _⟩ => ⟨S16x1, .i32⟩
  | .hbm, ⟨59, _⟩ => ⟨S16x1, .i32⟩
  | .hbm, ⟨60, _⟩ => ⟨S384, .i32⟩
  | .hbm, ⟨61, _⟩ => ⟨S1x384, .i32⟩
  | .hbm, ⟨62, _⟩ => ⟨S16x384, .i32⟩
  | .hbm, ⟨63, _⟩ => ⟨S16x384, .i32⟩
  | .hbm, ⟨64, _⟩ => ⟨S16x384, .i32⟩
  | .hbm, ⟨65, _⟩ => ⟨S_, .i32⟩
  | .hbm, ⟨66, _⟩ => ⟨S16x384, .i32⟩
  | .hbm, ⟨67, _⟩ => ⟨S16x384, .i1⟩
  | .hbm, ⟨68, _⟩ => ⟨S_, .i32⟩
  | .hbm, ⟨69, _⟩ => ⟨S16x384, .i32⟩
  | .hbm, ⟨70, _⟩ => ⟨S16x384, .i1⟩
  | .hbm, ⟨71, _⟩ => ⟨S16x384, .i1⟩
  | .hbm, ⟨72, _⟩ => ⟨S1x16x1x384x1, .i1⟩
  | .hbm, ⟨73, _⟩ => ⟨S16x16x8x384x1, .i1⟩
  | .hbm, ⟨74, _⟩ => ⟨S2048x384x1, .i1⟩
  | .hbm, ⟨75, _⟩ => ⟨S_, .f32⟩
  | .hbm, ⟨76, _⟩ => ⟨S_, .f32⟩
  | .hbm, ⟨77, _⟩ => ⟨S2048x384x128, .i1⟩
  | .hbm, ⟨78, _⟩ => ⟨S2048x384x128, .f32⟩
  | .hbm, ⟨79, _⟩ => ⟨S2048x384x128, .f32⟩
  | .hbm, ⟨80, _⟩ => ⟨S2x4, .f32⟩
  | .hbm, ⟨81, _⟩ => ⟨S4x2, .f32⟩
  | .hbm, ⟨82, _⟩ => ⟨S8, .f32⟩
  | .hbm, ⟨83, _⟩ => ⟨S1x8, .f32⟩
  | .hbm, ⟨84, _⟩ => ⟨S256x8, .f32⟩
  | .hbm, ⟨85, _⟩ => ⟨S2048x1x1, .f32⟩
  | .hbm, ⟨86, _⟩ => ⟨S_, .f32⟩
  | .hbm, ⟨87, _⟩ => ⟨S2048x128, .f32⟩
  | .hbm, ⟨88, _⟩ => ⟨S2048x1x128, .f32⟩
  | .hbm, ⟨89, _⟩ => ⟨S2048x1x128, .f32⟩
  | .hbm, ⟨90, _⟩ => ⟨S2048x1x128, .f32⟩
  | .hbm, ⟨91, _⟩ => ⟨S2048x384x128, .f32⟩
  | .hbm, ⟨92, _⟩ => ⟨S2048x384x128, .f32⟩
  | .hbm, ⟨93, _⟩ => ⟨S2048x384x128, .f32⟩
  | .hbm, ⟨94, _⟩ => ⟨S_, .f32⟩
  | .hbm, ⟨95, _⟩ => ⟨S2048x128, .f32⟩
  | .hbm, ⟨96, _⟩ => ⟨S2048x1x128, .f32⟩
  | .hbm, ⟨97, _⟩ => ⟨S2048x1x128, .f32⟩
  | .hbm, ⟨98, _⟩ => ⟨S2048x1x128, .f32⟩
  | .hbm, ⟨99, _⟩ => ⟨S2048x1x128, .f32⟩
  | .hbm, ⟨100, _⟩ => ⟨S2048x1x128, .f32⟩
  | .hbm, ⟨101, _⟩ => ⟨S_, .f32⟩
  | .hbm, ⟨102, _⟩ => ⟨S2048x1x128, .f32⟩
  | .hbm, ⟨103, _⟩ => ⟨S2048x1x128, .f32⟩
  | .hbm, ⟨104, _⟩ => ⟨S2048x384x128, .f32⟩
  | .hbm, ⟨105, _⟩ => ⟨S2048x384x128, .f32⟩
  | .hbm, ⟨106, _⟩ => ⟨S2048x128x64, .f32⟩
  | .hbm, ⟨107, _⟩ => ⟨S256x8x128x64, .f32⟩
  | .hbm, ⟨108, _⟩ => ⟨S256x128x8x64, .f32⟩
  | .hbm, ⟨109, _⟩ => ⟨S32768x512, .f32⟩
  | .hbm, ⟨110, _⟩ => ⟨S32768x512, .bf16⟩
  | .hbm, ⟨111, _⟩ => ⟨S1024x4096, .bf16⟩
  | .hbm, ⟨112, _⟩ => ⟨S4096x1024, .bf16⟩
  | _, _ => ⟨S256x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_1 : Ref sig .tc := ⟨.hbm, 54, rfl⟩
abbrev main_v43 : Ref sig .tc := ⟨.hbm, 55, rfl⟩
abbrev main_v44 : Ref sig .tc := ⟨.hbm, 56, rfl⟩
abbrev main_c_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_3 : Ref sig .tc := ⟨.hbm, 65, rfl⟩
abbrev main_v52 : Ref sig .tc := ⟨.hbm, 66, rfl⟩
abbrev main_v53 : Ref sig .tc := ⟨.hbm, 67, rfl⟩
abbrev main_c_4 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]
-- ==== Kernel2.lean ====
abbrev S32768x512 : Shape := ⟨2, ![32768, 512]⟩
abbrev S4x256x128x128 : Shape := ⟨4, ![4, 256, 128, 128]⟩
abbrev S32768x1280 : Shape := ⟨2, ![32768, 1280]⟩
abbrev S1x512 : Shape := ⟨2, ![1, 512]⟩
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1024x512 : Shape := ⟨2, ![1024, 512]⟩
abbrev S4x8x128x128 : Shape := ⟨4, ![4, 8, 128, 128]⟩
abbrev S1x1x128x128 : Shape := ⟨4, ![1, 1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S4x256x128x128, .f32⟩
  | .hbm, ⟨2, _⟩ => ⟨S32768x1280, .bf16⟩
  | .hbm, ⟨3, _⟩ => ⟨S1x512, .f32⟩
  | .hbm, ⟨4, _⟩ => ⟨S32768x1024, .f32⟩
  | .hbm, ⟨5, _⟩ => ⟨S1024x1024, .bf16⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S4x8x128x128, .f32⟩
  | .local _ .vmem, ⟨3, _⟩ => ⟨S4x8x128x128, .f32⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x512 : Shape := ⟨2, ![32768, 512]⟩
abbrev S4x256x128x128 : Shape := ⟨4, ![4, 256, 128, 128]⟩
abbrev S32768x1280 : Shape := ⟨2, ![32768, 1280]⟩
abbrev S1x512 : Shape := ⟨2, ![1, 512]⟩
abbrev S32768x1024 : Shape := ⟨2, ![32768, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x128x4x128 : Shape := ⟨4, ![256, 128, 4, 128]⟩
abbrev S32768x4x128 : Shape := ⟨3, ![32768, 4, 128]⟩
abbrev S_ : Shape := ⟨0, ![]⟩
abbrev S32768x4 : Shape := ⟨2, ![32768, 4]⟩
abbrev S32768x4x1 : Shape := ⟨3, ![32768, 4, 1]⟩
abbrev S1x4x128 : Shape := ⟨3, ![1, 4, 128]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 84
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S4x256x128x128, .f32⟩
  | .hbm, ⟨2, _⟩ => ⟨S32768x1280, .bf16⟩
  | .hbm, ⟨3, _⟩ => ⟨S1x512, .f32⟩
  | .hbm, ⟨4, _⟩ => ⟨S32768x1024, .f32⟩
  | .hbm, ⟨5, _⟩ => ⟨S1024x1024, .bf16⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S256x128x4x128, .f32⟩
  | .hbm, ⟨11, _⟩ => ⟨S32768x4x128, .f32⟩
  | .hbm, ⟨12, _⟩ => ⟨S32768x4x128, .f32⟩
  | .hbm, ⟨13, _⟩ => ⟨S_, .f32⟩
  | .hbm, ⟨14, _⟩ => ⟨S32768x4, .f32⟩
  | .hbm, ⟨15, _⟩ => ⟨S32768x4x1, .f32⟩
  | .hbm, ⟨16, _⟩ => ⟨S_, .f32⟩
  | .hbm, ⟨17, _⟩ => ⟨S32768x4x1, .f32⟩
  | .hbm, ⟨18, _⟩ => ⟨S32768x4x1, .f32⟩
  | .hbm, ⟨19, _⟩ => ⟨S_, .f32⟩
  | .hbm, ⟨20, _⟩ => ⟨S32768x4x1, .f32⟩
  | .hbm, ⟨21, _⟩ => ⟨S32768x4x1, .f32⟩
  | .hbm, ⟨22, _⟩ => ⟨S32768x4x1, .f32⟩
  | .hbm, ⟨23, _⟩ => ⟨S32768x4x128, .f32⟩
  | .hbm, ⟨24, _⟩ => ⟨S32768x4x128, .f32⟩
  | .hbm, ⟨25, _⟩ => ⟨S1x4x128, .f32⟩
  | .hbm, ⟨26, _⟩ => ⟨S32768x4x128, .f32⟩
  | .hbm, ⟨27, _⟩ => ⟨S32768x4x128, .f32⟩
  | .hbm, ⟨28, _⟩ => ⟨S32768x512, .f32⟩
  | .hbm, ⟨29, _⟩ => ⟨S32768x512, .bf16⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x1024, .f32⟩
  | .hbm, ⟨42, _⟩ => ⟨S1024x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S1024x4096, .f32⟩
  | .hbm, ⟨61, _⟩ => ⟨S32768x4096, .f32⟩
  | .hbm, ⟨62, _⟩ => ⟨S_, .f32⟩
  | .hbm, ⟨63, _⟩ => ⟨S32768x4096, .f32⟩
  | .hbm, ⟨64, _⟩ => ⟨S32768x4096, .f32⟩
  | .hbm, ⟨65, _⟩ => ⟨S32768x4096, .f32⟩
  | .hbm, ⟨66, _⟩ => ⟨S4096x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel3.lean ====
abbrev S32x8 : Shape := ⟨2, ![32, 8]⟩
abbrev S384x128 : Shape := ⟨2, ![384, 128]⟩
abbrev S8x384x128 : Shape := ⟨3, ![8, 384, 128]⟩
abbrev S1x1 : Shape := ⟨2, ![1, 1]⟩
abbrev S1x384x128 : Shape := ⟨3, ![1, 384, 128]⟩

abbrev nBuf : Space → Nat
  | .hbm => 3
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S384x128, .i32⟩
  | .hbm, ⟨2, _⟩ => ⟨S8x384x128, .f32⟩
  | .local _ .vmem, ⟨0, _⟩ => ⟨S384x128, .i32⟩
  | .local _ .vmem, ⟨1, _⟩ => ⟨S8x384x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Kernel3Ideal.lean ====
variable {F : FTy → Type} [FloatOps F] [Named F]
def κ : String → Option EReal := fun
  | "log2e" => some (((Real.log 2)⁻¹ : ℝ) : EReal)
  | _ => none
-- ==== Reference3Ideal.lean ====
abbrev S32x8 : Shape := ⟨2, ![32, 8]⟩
abbrev S384x128 : Shape := ⟨2, ![384, 128]⟩
abbrev S1x1x384x128 : Shape := ⟨4, ![1, 1, 384, 128]⟩
abbrev S8x32x384x128 : Shape := ⟨4, ![8, 32, 384, 128]⟩
abbrev S32 : Shape := ⟨1, ![32]⟩
abbrev S1x32x1x1 : Shape := ⟨4, ![1, 32, 1, 1]⟩
abbrev S8x32 : Shape := ⟨2, ![8, 32]⟩
abbrev S8x32x1x1 : Shape := ⟨4, ![8, 32, 1, 1]⟩
abbrev S_ : Shape := ⟨0, ![]⟩
abbrev S8x384x128 : Shape := ⟨3, ![8, 384, 128]⟩
abbrev S384 : Shape := ⟨1, ![384]⟩
abbrev S384x1 : Shape := ⟨2, ![384, 1]⟩
abbrev S128 : Shape := ⟨1, ![128]⟩
abbrev S1x128 : Shape := ⟨2, ![1, 128]⟩
abbrev S1x384x128 : Shape := ⟨3, ![1, 384, 128]⟩

abbrev nBuf : Space → Nat
  | .hbm => 41
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S384x128, .i32⟩
  | .hbm, ⟨2, _⟩ => ⟨S1x1x384x128, .i32⟩
  | .hbm, ⟨3, _⟩ => ⟨S8x32x384x128, .i32⟩
  | .hbm, ⟨4, _⟩ => ⟨S32, .i32⟩
  | .hbm, ⟨5, _⟩ => ⟨S1x32x1x1, .i32⟩
  | .hbm, ⟨6, _⟩ => ⟨S8x32x384x128, .i32⟩
  | .hbm, ⟨7, _⟩ => ⟨S8x32x384x128, .i1⟩
  | .hbm, ⟨8, _⟩ => ⟨S8x32, .f32⟩
  | .hbm, ⟨9, _⟩ => ⟨S8x32x1x1, .f32⟩
  | .hbm, ⟨10, _⟩ => ⟨S_, .f32⟩
  | .hbm, ⟨11, _⟩ => ⟨S_, .f32⟩
  | .hbm, ⟨12, _⟩ => ⟨S8x32x384x128, .f32⟩
  | .hbm, ⟨13, _⟩ => ⟨S8x32x384x128, .f32⟩
  | .hbm, ⟨14, _⟩ => ⟨S8x32x384x128, .f32⟩
  | .hbm, ⟨15, _⟩ => ⟨S_, .f32⟩
  | .hbm, ⟨16, _⟩ => ⟨S8x384x128, .f32⟩
  | .hbm, ⟨17, _⟩ => ⟨S384, .i32⟩
  | .hbm, ⟨18, _⟩ => ⟨S384x1, .i32⟩
  | .hbm, ⟨19, _⟩ => ⟨S_, .i32⟩
  | .hbm, ⟨20, _⟩ => ⟨S384x1, .i32⟩
  | .hbm, ⟨21, _⟩ => ⟨S384x1, .i32⟩
  | .hbm, ⟨22, _⟩ => ⟨S128, .i32⟩
  | .hbm, ⟨23, _⟩ => ⟨S1x128, .i32⟩
  | .hbm, ⟨24, _⟩ => ⟨S384x128, .i32⟩
  | .hbm, ⟨25, _⟩ => ⟨S384x128, .i32⟩
  | .hbm, ⟨26, _⟩ => ⟨S384x128, .i32⟩
  | .hbm, ⟨27, _⟩ => ⟨S384x128, .i32⟩
  | .hbm, ⟨28, _⟩ => ⟨S_, .i32⟩
  | .hbm, ⟨29, _⟩ => ⟨S384x128, .i32⟩
  | .hbm, ⟨30, _⟩ => ⟨S384x128, .i1⟩
  | .hbm, ⟨31, _⟩ => ⟨S1x384x128, .i1⟩
  | .hbm, ⟨32, _⟩ => ⟨S_, .f32⟩
  | .hbm, ⟨33, _⟩ => ⟨S_, .f32⟩
  | .hbm, ⟨34, _⟩ => ⟨S8x384x128, .f32⟩
  | .hbm, ⟨35, _⟩ => ⟨S8x384x128, .f32⟩
  | .hbm, ⟨36, _⟩ => ⟨S_, .f32⟩
  | .hbm, ⟨37, _⟩ => ⟨S_, .f32⟩
  | .hbm, ⟨38, _⟩ => ⟨S8x384x128, .i1⟩
  | .hbm, ⟨39, _⟩ => ⟨S8x384x128, .f32⟩
  | .hbm, ⟨40, _⟩ => ⟨S8x384x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.AttnLoop.lean ====
module

public import proofs.«01_k».proof.Proof.Gen.Kernel.Loops
public import proofs.«01_k».proof.Proof.Gen.Kernel.Frame

@[expose] public section

set_option maxRecDepth 16384
set_option maxHeartbeats 4000000

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip of the loop over pairs of query blocks touches: the sinks, the queries, the bias table and the
    zero-padded keys and values, which it only reads, at `X·`; the output block and the six score, probability and
    sink-weight buffers, which it writes, at `f·`. -/
abbrev Trip (c : Dev nD) (arg1 : Memref sig .tc .smem S8 .f32) (arg2 : Memref sig .tc .vmem S16x512x128 .bf16) (arg5 : Memref sig .tc .vmem S8x384x128 .f32) (arg11 : Memref sig .tc .vmem S2x2304x128 .bf16) (arg12 : Memref sig .tc .vmem S2x18x144x128 .bf16) (arg8 : Memref sig .tc .vmem S2048x512 .bf16) (arg13 : Memref sig .tc .vmem S2x768x256 .f32) (arg14 : Memref sig .tc .vmem S2x768x256 .f32) (arg15 : Memref sig .tc .vmem S2x768x256 .bf16) (arg16 : Memref sig .tc .vmem S2x768x256 .bf16) (arg17 : Memref sig .tc .vmem S2x8x256 .f32) (arg18 : Memref sig .tc .vmem S2x8x256 .f32) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg8.view.loc (c : Thread nD τ) ↦[arg8.view.set]{fullShare} f8) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

/-- The loop keeps the buffers it reads and holds the ones it writes at some contents. -/
@[sl_loop] def loopInv (𝒱 : Variants) (c : Dev nD) (bd : Option 𝒱.V) (E : Set ℕ) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 where
  inv _ _ := iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (∃ f, (arg8.view.loc (c : Thread nD τ) ↦[arg8.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)))
  step k acc := by
    have hk : k.val < 7 := Nat.lt_of_lt_of_le k.isLt k0_t1_abs.2.1
    unfold Gen.k0_t1_body
    iintro ⟨HRarg1, HRarg2, HRarg5, HRarg11, HRarg12, ⟨%f8, HWarg8⟩, ⟨%f13, HWarg13⟩, ⟨%f14, HWarg14⟩, ⟨%f15, HWarg15⟩, ⟨%f16, HWarg16⟩, ⟨%f17, HWarg17⟩, ⟨%f18, HWarg18⟩⟩
    sl_exec
    sl_step
    sl_close

end Cert.Kernel.Attn

end
-- ==== Proof.AttnFrame.lean ====
module

public import proofs.«01_k».proof.Proof.AttnLoop
public import proofs.«01_k».proof.Proof.Gen.Kernel.Launch
public import Idealize.ShloMosaic.Lib.Claim

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The kernel's body at one grid point: on the inputs' blocks at `x·` and every other buffer at anything it runs to the
    end, and leaves the inputs as they were. -/
theorem run (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec F S8 .f32) (x1 : Vec F S16x512x128 .bf16) (x2 : Vec F S2048x128 .bf16) (x3 : Vec F S2048x128 .bf16) (x4 : Vec F S8x384x128 .f32) (x5 : Vec F S64x4096 .f32) (x6 : Vec F S256x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
        ⊢ wp frame (wpE (defs₀ (F := F)) Variants.none c none) E (cc0_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  intro E K
  simp only [cc0_attention_eq_skeleton]; unfold cc0_attention_skel
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

variable (m : (ℓ : Loc nD τ sig) → Buf (Elt F) ℓ) (ρ : Dev nD → PrngReg)

abbrev ms0 (t : Fin cfg0.N) : Memref sig .tc .smem S8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x384x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x4096 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .bf16 := win0_9.stage (cfg0.slots t 9)
abbrev hs9 (t : Fin cfg0.N) : (ms9 t).IsWhole := hstage0_9 ((cfg0.slots t 9).cast nbuf0_9)
/-- Scratch buffer 0. -/
abbrev scM0 : Memref sig .tc .vmem S2x2304x128 .bf16 := Memref.whole cc0_scratch0
/-- Scratch buffer 1. -/
abbrev scM1 : Memref sig .tc .vmem S2x18x144x128 .bf16 := Memref.whole cc0_scratch1
/-- Scratch buffer 2. -/
abbrev scM2 : Memref sig .tc .vmem S2x768x256 .f32 := Memref.whole cc0_scratch2
/-- Scratch buffer 3. -/
abbrev scM3 : Memref sig .tc .vmem S2x768x256 .f32 := Memref.whole cc0_scratch3
/-- Scratch buffer 4. -/
abbrev scM4 : Memref sig .tc .vmem S2x768x256 .bf16 := Memref.whole cc0_scratch4
/-- Scratch buffer 5. -/
abbrev scM5 : Memref sig .tc .vmem S2x768x256 .bf16 := Memref.whole cc0_scratch5
/-- Scratch buffer 6. -/
abbrev scM6 : Memref sig .tc .vmem S2x8x256 .f32 := Memref.whole cc0_scratch6
/-- Scratch buffer 7. -/
abbrev scM7 : Memref sig .tc .vmem S2x8x256 .f32 := Memref.whole cc0_scratch7

/-- What the points hand on: the scratch buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The outputs whose contents this frame does not name. -/
def forgets : Fin 10 → Bool := fun w => w.val == 7 || w.val == 8 || w.val == 9

/-- The proof data: the arrays as found; after the body each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d) ∗ (∃ d, owns (c : Thread nD τ) (ms8 t) fullShare d) ∗ (∃ d, owns (c : Thread nD τ) (ms9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d) ∗ (∃ d, owns (c : Thread nD τ) (ms8 t) fullShare d) ∗ (∃ d, owns (c : Thread nD τ) (ms9 t) fullShare d))

set_option maxHeartbeats 800000 in
/-- The body at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  simp only [before_0, before_1, before_2, before_3, before_4, before_5, before_6]
  rw [show (dats m 0 c).Φ t.castSucc = Pipeline.ΦA spec0 c from rfl, PhiA_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution ends with the inputs unchanged and every counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame: from any memory with zero counters every execution ends, the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => ⟨(Pipeline.RDat.FramePost.arr_in h.1 c 1 rfl).trans ((A_eq m c 1).trans (V_main_arg0 m c)), (Pipeline.RDat.FramePost.arr_in h.1 c 3 rfl).trans ((A_eq m c 3).trans (V_main_arg1 m c)), (Pipeline.RDat.FramePost.arr_in h.1 c 4 rfl).trans ((A_eq m c 4).trans (V_main_arg2 m c)), (Pipeline.RDat.FramePost.arr_in h.1 c 0 rfl).trans ((A_eq m c 0).trans (V_main_arg3 m c)), (Pipeline.RDat.FramePost.arr_in h.1 c 5 rfl).trans ((A_eq m c 5).trans (V_main_arg4 m c)), (Pipeline.RDat.FramePost.arr_in h.1 c 6 rfl).trans ((A_eq m c 6).trans (V_main_arg5 m c))⟩) (run_main m ρ))
    ((θ_run defs _ _).mono (fun _ h => h.2) (run_main m ρ))

end Cert.Kernel.Attn

end
-- ==== Proof.AttnTiles.lean ====
module

public import proofs.«01_k».proof.Proof.Gen.KernelIdeal.Skeleton
public import Idealize.ShloMosaic.Lib.Pointwise
public import Idealize.ShloMosaic.Lib.Pipeline.ReadBack
public import Idealize.ShloMosaic.Lib.Pipeline.Value
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.Tactic

variable {F : FTy → Type} [FloatOps F] [Named F]

/-- One score tile as a trip stores it: 384 keys by 128 queries of a product, plus the bias tile. -/
def scTile (M : FVec F S768x256 .f32) (off : Fin 2 → ℕ) (h : S768x256.Slices off S384x128) (b : FVec F S1x384x128 .f32) : FVec F S1x384x128 .f32 :=
  shapeCast S1x384x128 (addf (extractStridedSlice S384x128 off M h) (shapeCast S384x128 b shapeCasts_S1x384x128_S384x128)) shapeCasts_S384x128_S1x384x128

/-- The eight score tiles of one query block, last stored first. -/
def scList (M0 M1 : FVec F S768x256 .f32) (b0 b1 b2 b3 b4 b5 b6 b7 : FVec F S1x384x128 .f32) : List (View.Piece (Elt F) S2x768x256 .f32) :=
  [⟨Rect.unit ![1, 384, 128] S1x384x128.size inb_S2x768x256_S1x384x128_1_384_128, scTile M1 ![384, 128] slices_S768x256_o384_128_S384x128 b7⟩,
   ⟨Rect.unit ![1, 384, 0] S1x384x128.size inb_S2x768x256_S1x384x128_1_384_0, scTile M1 ![384, 0] slices_S768x256_o384_0_S384x128 b6⟩,
   ⟨Rect.unit ![1, 0, 128] S1x384x128.size inb_S2x768x256_S1x384x128_1_0_128, scTile M1 ![0, 128] slices_S768x256_o0_128_S384x128 b3⟩,
   ⟨Rect.unit ![1, 0, 0] S1x384x128.size inb_S2x768x256_S1x384x128_1_0_0, scTile M1 ![0, 0] slices_S768x256_o0_0_S384x128 b2⟩,
   ⟨Rect.unit ![0, 384, 128] S1x384x128.size inb_S2x768x256_S1x384x128_0_384_128, scTile M0 ![384, 128] slices_S768x256_o384_128_S384x128 b5⟩,
   ⟨Rect.unit ![0, 384, 0] S1x384x128.size inb_S2x768x256_S1x384x128_0_384_0, scTile M0 ![384, 0] slices_S768x256_o384_0_S384x128 b4⟩,
   ⟨Rect.unit ![0, 0, 128] S1x384x128.size inb_S2x768x256_S1x384x128_0_0_128, scTile M0 ![0, 128] slices_S768x256_o0_128_S384x128 b1⟩,
   ⟨Rect.unit ![0, 0, 0] S1x384x128.size inb_S2x768x256_S1x384x128_0_0_0, scTile M0 ![0, 0] slices_S768x256_o0_0_S384x128 b0⟩]

/-- The score array of one query block, from the two products and the bias table. -/
def scG (M0 M1 : FVec Ideal S768x256 .f32) (B : FVec Ideal S8x384x128 .f32) : FVec Ideal S2x768x256 .f32 := fun y =>
  (if (y 0).val < 1 then M0 (ix2 (y 1) (y 2)) else M1 (ix2 (y 1) (y 2)))
    + B (ix3 (⟨2 * (y 0).val + (y 2).val / 128 + 4 * ((y 1).val / 384), by have := (y 0).isLt; have := (y 1).isLt; have := (y 2).isLt; simp [S2x768x256] at *; omega⟩ : Fin 8)
        (⟨(y 1).val % 384, Nat.mod_lt _ (by norm_num)⟩ : Fin 384) (⟨(y 2).val % 128, Nat.mod_lt _ (by norm_num)⟩ : Fin 128))

theorem scTile_apply (M : FVec Ideal S768x256 .f32) (o0 o1 : ℕ) (h : S768x256.Slices ![o0, o1] S384x128) (b : FVec Ideal S1x384x128 .f32)
    (x0 : Fin 1) (x1 : Fin 384) (x2 : Fin 128) (h0 : o0 + x1.val < 768) (h1 : o1 + x2.val < 256) :
    scTile M ![o0, o1] h b (ix3 x0 x1 x2) = M (ix2 (⟨o0 + x1.val, h0⟩ : Fin 768) (⟨o1 + x2.val, h1⟩ : Fin 256)) + b (ix3 (0 : Fin 1) x1 x2) := by
  pointwise [scTile]

/-- Where a box of a rank-3 buffer puts a local index. -/
theorem emb3 {n0 n1 n2 m0 m1 m2 o0 o1 o2 : ℕ}
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (ha : o0 + a.val < n0) (hb : o1 + b.val < n1) (hc : o2 + c.val < n2) :
    (Rect.unit (s := ⟨3, ![n0, n1, n2]⟩) ![o0, o1, o2] ![m0, m1, m2] inb).emb (ix3 a b c) = ix3 (⟨o0 + a.val, ha⟩ : Fin n0) (⟨o1 + b.val, hb⟩ : Fin n1) (⟨o2 + c.val, hc⟩ : Fin n2) := by
  funext k
  apply Fin.ext
  rw [ValueKit.rect_emb_unit_val]
  match k with
  | 0 => rfl
  | 1 => rfl
  | 2 => rfl

theorem scList_pieces (M0 M1 : FVec Ideal S768x256 .f32) (B : FVec Ideal S8x384x128 .f32) (b0 b1 b2 b3 b4 b5 b6 b7 : FVec Ideal S1x384x128 .f32)
    (h0 : ∀ r c, b0 (ix3 0 r c) = B (ix3 0 r c)) (h1 : ∀ r c, b1 (ix3 0 r c) = B (ix3 1 r c)) (h2 : ∀ r c, b2 (ix3 0 r c) = B (ix3 2 r c))
    (h3 : ∀ r c, b3 (ix3 0 r c) = B (ix3 3 r c)) (h4 : ∀ r c, b4 (ix3 0 r c) = B (ix3 4 r c)) (h5 : ∀ r c, b5 (ix3 0 r c) = B (ix3 5 r c))
    (h6 : ∀ r c, b6 (ix3 0 r c) = B (ix3 6 r c)) (h7 : ∀ r c, b7 (ix3 0 r c) = B (ix3 7 r c)) :
    View.PiecesOf (scG M0 M1 B) (scList M0 M1 b0 b1 b2 b3 b4 b5 b6 b7) := by
  unfold scList
  refine ⟨?_, ?_, ?_, ?_, ?_, ?_, ?_, ?_, trivial⟩
  all_goals
    intro x
    obtain ⟨x0, x1, x2, rfl⟩ : ∃ (a : Fin 1) (b : Fin 384) (c : Fin 128), x = ix3 a b c := ⟨x 0, x 1, x 2, eq_ix3 x⟩
    obtain rfl : x0 = 0 := Subsingleton.elim _ _
    have e1 := x1.isLt
    have e2 := x2.isLt
    dsimp only
    rw [scTile_apply _ _ _ _ _ _ _ _ (by omega) (by omega), emb3 _ _ _ _ (by norm_num) (by omega) (by omega)]
    simp only [h0, h1, h2, h3, h4, h5, h6, h7, scG, ix3_0, ix3_1, ix3_2]
    norm_num
    refine congrArg (_ + ·) (congrArg B (congr (congr (congrArg ix3 (Fin.ext ?_)) (Fin.ext ?_)) (Fin.ext ?_))) <;> simp only [Fin.val_ofNat] <;> omega

/-- The greatest of a score tile's column and the head's sink, times log₂ e. -/
def smM (t : FVec F S384x128 .f32) (s : F .f32) : FVec F S1x128 .f32 :=
  maximumf (shapeCast S1x128 (multiReduction .maximumf [0] S128 t 0xFF800000#32 reduces_S384x128_S128 (.inl rfl) rfl) shapeCasts_S128_S1x128)
    (broadcast S1x128 (Scalar.mulf s (Named.named κ "log2e" 0x3FB8AA3B#32)))

/-- The unnormalised probabilities of a score tile. -/
def smP (t : FVec F S384x128 .f32) (s : F .f32) : FVec F S1x384x128 .bf16 :=
  shapeCast S1x384x128 (truncf .bf16 (exp2 (subf t (broadcastTo S384x128 (smM t s) broadcasts_S1x128_S384x128))) bitsLt_bf16_f32) shapeCasts_S384x128_S1x384x128

/-- The weight of a head's sink, on the same scale. -/
def smL (t : FVec F S384x128 .f32) (s : F .f32) : FVec F S1x1x128 .f32 :=
  shapeCast S1x1x128 (exp2 (subf (broadcast S1x128 (Scalar.mulf s (Named.named κ "log2e" 0x3FB8AA3B#32))) (smM t s))) shapeCasts_S1x128_S1x1x128

/-- The eight tiles of unnormalised probabilities of one query block, last stored first. -/
def smPList (t000 t001 t010 t011 t100 t101 t110 t111 : FVec F S384x128 .f32) (s0 s1 s2 s3 s4 s5 s6 s7 : F .f32) : List (View.Piece (Elt F) S2x768x256 .bf16) :=
  [⟨Rect.unit ![1, 384, 128] S1x384x128.size inb_S2x768x256_S1x384x128_1_384_128, smP t111 s7⟩,
   ⟨Rect.unit ![1, 384, 0] S1x384x128.size inb_S2x768x256_S1x384x128_1_384_0, smP t110 s6⟩,
   ⟨Rect.unit ![1, 0, 128] S1x384x128.size inb_S2x768x256_S1x384x128_1_0_128, smP t101 s3⟩,
   ⟨Rect.unit ![1, 0, 0] S1x384x128.size inb_S2x768x256_S1x384x128_1_0_0, smP t100 s2⟩,
   ⟨Rect.unit ![0, 384, 128] S1x384x128.size inb_S2x768x256_S1x384x128_0_384_128, smP t011 s5⟩,
   ⟨Rect.unit ![0, 384, 0] S1x384x128.size inb_S2x768x256_S1x384x128_0_384_0, smP t010 s4⟩,
   ⟨Rect.unit ![0, 0, 128] S1x384x128.size inb_S2x768x256_S1x384x128_0_0_128, smP t001 s1⟩,
   ⟨Rect.unit ![0, 0, 0] S1x384x128.size inb_S2x768x256_S1x384x128_0_0_0, smP t000 s0⟩]

/-- The eight rows of sink weights of one query block, last stored first. -/
def smLList (t000 t001 t010 t011 t100 t101 t110 t111 : FVec F S384x128 .f32) (s0 s1 s2 s3 s4 s5 s6 s7 : F .f32) : List (View.Piece (Elt F) S2x8x256 .f32) :=
  [⟨Rect.unit ![1, 1, 128] S1x1x128.size inb_S2x8x256_S1x1x128_1_1_128, smL t111 s7⟩,
   ⟨Rect.unit ![1, 1, 0] S1x1x128.size inb_S2x8x256_S1x1x128_1_1_0, smL t110 s6⟩,
   ⟨Rect.unit ![1, 0, 128] S1x1x128.size inb_S2x8x256_S1x1x128_1_0_128, smL t101 s3⟩,
   ⟨Rect.unit ![1, 0, 0] S1x1x128.size inb_S2x8x256_S1x1x128_1_0_0, smL t100 s2⟩,
   ⟨Rect.unit ![0, 1, 128] S1x1x128.size inb_S2x8x256_S1x1x128_0_1_128, smL t011 s5⟩,
   ⟨Rect.unit ![0, 1, 0] S1x1x128.size inb_S2x8x256_S1x1x128_0_1_0, smL t010 s4⟩,
   ⟨Rect.unit ![0, 0, 128] S1x1x128.size inb_S2x8x256_S1x1x128_0_0_128, smL t001 s1⟩,
   ⟨Rect.unit ![0, 0, 0] S1x1x128.size inb_S2x8x256_S1x1x128_0_0_0, smL t000 s0⟩]

/-- A loaded score tile, its unit axis dropped. -/
def tile (t : FVec F S1x384x128 .f32) : FVec F S384x128 .f32 := shapeCast S384x128 t shapeCasts_S1x384x128_S384x128

/-- The tile with its first 128 keys masked: the first query block has no keys before it. -/
def tileFst (v405 : FVec F S128x128 .f32) (t : FVec F S1x384x128 .f32) : FVec F S384x128 .f32 :=
  concatenate S384x128 0 [⟨S128x128, v405⟩, ⟨S256x128, extractStridedSlice S256x128 ![128, 0] (tile t) slices_S384x128_o128_0_S256x128⟩] concatenates_S128x128_S256x128_S384x128_d0

/-- The tile with its last 128 keys masked: the last query block has no keys after it. -/
def tileLst (v405 : FVec F S128x128 .f32) (t : FVec F S1x384x128 .f32) : FVec F S384x128 .f32 :=
  concatenate S384x128 0 [⟨S256x128, extractStridedSlice S256x128 ![0, 0] (tile t) slices_S384x128_o0_0_S256x128⟩, ⟨S128x128, v405⟩] concatenates_S256x128_S128x128_S384x128_d0

/-- The keys a query block meets, both groups one above the other. -/
def keys (ka kb : FVec F S1x384x128 .bf16) : FVec F S768x128 .bf16 :=
  concatenate S768x128 0 [⟨S384x128, shapeCast S384x128 ka shapeCasts_S1x384x128_S384x128⟩, ⟨S384x128, shapeCast S384x128 kb shapeCasts_S1x384x128_S384x128⟩] concatenates_S384x128_S384x128_S768x128_d0

/-- The product of the keys with the first pair of heads' queries. -/
def prod0 (q : FVec F S1x512x128 .bf16) (ka kb : FVec F S1x384x128 .bf16) : FVec F S768x256 .f32 :=
  matmul dot_S768x128_S128x256_S768x256_1_0_0_1_n_n none (keys ka kb)
    (concatenate S128x256 1 [⟨S128x128, extractStridedSlice S128x128 ![0, 0] (shapeCast S512x128 q shapeCasts_S1x512x128_S512x128) slices_S512x128_o0_0_S128x128⟩,
      ⟨S128x128, extractStridedSlice S128x128 ![128, 0] (shapeCast S512x128 q shapeCasts_S1x512x128_S512x128) slices_S512x128_o128_0_S128x128⟩] concatenates_S128x128_S128x128_S128x256_d1)
    (constant S768x256 .f32 0x00000000#32)

/-- The product of the keys with the second pair of heads' queries. -/
def prod1 (q : FVec F S1x512x128 .bf16) (ka kb : FVec F S1x384x128 .bf16) : FVec F S768x256 .f32 :=
  matmul dot_S768x128_S128x256_S768x256_1_0_0_1_n_n none (keys ka kb)
    (concatenate S128x256 1 [⟨S128x128, extractStridedSlice S128x128 ![256, 0] (shapeCast S512x128 q shapeCasts_S1x512x128_S512x128) slices_S512x128_o256_0_S128x128⟩,
      ⟨S128x128, extractStridedSlice S128x128 ![384, 0] (shapeCast S512x128 q shapeCasts_S1x512x128_S512x128) slices_S512x128_o384_0_S128x128⟩] concatenates_S128x128_S128x128_S128x256_d1)
    (constant S768x256 .f32 0x00000000#32)

/-- The values a query block meets, transposed, both groups side by side, the rows of ones beneath. -/
def vals (t0 t1 t2 t3 t4 t5 : FVec F S1x1x144x128 .bf16) : FVec F S144x768 .bf16 :=
  concatenate S144x768 1 [⟨S144x128, shapeCast S144x128 t0 shapeCasts_S1x1x144x128_S144x128⟩, ⟨S144x128, shapeCast S144x128 t1 shapeCasts_S1x1x144x128_S144x128⟩,
    ⟨S144x128, shapeCast S144x128 t2 shapeCasts_S1x1x144x128_S144x128⟩, ⟨S144x128, shapeCast S144x128 t3 shapeCasts_S1x1x144x128_S144x128⟩,
    ⟨S144x128, shapeCast S144x128 t4 shapeCasts_S1x1x144x128_S144x128⟩, ⟨S144x128, shapeCast S144x128 t5 shapeCasts_S1x1x144x128_S144x128⟩]
    concatenates_S144x128_S144x128_S144x128_S144x128_S144x128_S144x128_S144x768_d1

/-- The values weighted by the probabilities, the last rows of the product being the sums of the probabilities. -/
def pvM (V : FVec F S144x768 .bf16) (p : FVec F S1x768x256 .bf16) : FVec F S144x256 .f32 :=
  matmul dot_S144x768_S768x256_S144x256_1_0_0_1_n_n none V (shapeCast S768x256 p shapeCasts_S1x768x256_S768x256) (constant S144x256 .f32 0x00000000#32)

/-- One over the sum of a column's probabilities and its sink weight, a row per group. -/
def pvI (V : FVec F S144x768 .bf16) (p : FVec F S1x768x256 .bf16) (l : FVec F S1x2x256 .f32) : FVec F S2x256 .f32 :=
  divf (broadcast S2x256 (Scalar.ofBits .f32 0x3F800000#32 : F .f32))
    (addf (extractStridedSlice S2x256 ![128, 0] (pvM V p) slices_S144x256_o128_0_S2x256) (shapeCast S2x256 l shapeCasts_S1x2x256_S2x256))

/-- The normalised outputs of one pair of heads, a column per query. -/
def pvO (v404 : IVec S128x256 32) (V : FVec F S144x768 .bf16) (p : FVec F S1x768x256 .bf16) (l : FVec F S1x2x256 .f32) : FVec F S128x256 .f32 :=
  mulf (extractStridedSlice S128x256 ![0, 0] (pvM V p) slices_S144x256_o0_0_S128x256)
    (select (cmpi .slt v404 (broadcast S128x256 64#32))
      (broadcastTo S128x256 (shapeCast S1x256 (extractStridedSlice S1x256 ![0, 0] (pvI V p l) slices_S2x256_o0_0_S1x256) shapeCasts_S1x256_S1x256) broadcasts_S1x256_S128x256)
      (broadcastTo S128x256 (shapeCast S1x256 (extractStridedSlice S1x256 ![1, 0] (pvI V p l) slices_S2x256_o1_0_S1x256) shapeCasts_S1x256_S1x256) broadcasts_S1x256_S128x256))

/-- The output tile of the pair's first head, a row per query. -/
def pvT0 (v404 : IVec S128x256 32) (V : FVec F S144x768 .bf16) (p : FVec F S1x768x256 .bf16) (l : FVec F S1x2x256 .f32) : FVec F S128x128 .bf16 :=
  truncf .bf16 (transpose S128x128 [1, 0] (extractStridedSlice S128x128 ![0, 0] (pvO v404 V p l) slices_S128x256_o0_0_S128x128) transposes_S128x128_p1_0_S128x128) bitsLt_bf16_f32

/-- The output tile of the pair's second head, a row per query. -/
def pvT1 (v404 : IVec S128x256 32) (V : FVec F S144x768 .bf16) (p : FVec F S1x768x256 .bf16) (l : FVec F S1x2x256 .f32) : FVec F S128x128 .bf16 :=
  truncf .bf16 (transpose S128x128 [1, 0] (extractStridedSlice S128x128 ![0, 128] (pvO v404 V p l) slices_S128x256_o0_128_S128x128) transposes_S128x128_p1_0_S128x128) bitsLt_bf16_f32

/-- The four output tiles of one query block over the pieces already stored, last stored first. -/
def pvList (o0 o1 o2 o3 : Fin 2 → ℕ) (h0 : ∀ a, o0 a + S128x128.size a ≤ S2048x512.size a) (h1 : ∀ a, o1 a + S128x128.size a ≤ S2048x512.size a)
    (h2 : ∀ a, o2 a + S128x128.size a ≤ S2048x512.size a) (h3 : ∀ a, o3 a + S128x128.size a ≤ S2048x512.size a)
    (v404 : IVec S128x256 32) (V : FVec F S144x768 .bf16) (p0 p1 : FVec F S1x768x256 .bf16) (l0 l1 : FVec F S1x2x256 .f32)
    (L : List (View.Piece (Elt F) S2048x512 .bf16)) : List (View.Piece (Elt F) S2048x512 .bf16) :=
  ⟨Rect.unit o3 S128x128.size h3, pvT1 v404 V p1 l1⟩ :: ⟨Rect.unit o2 S128x128.size h2, pvT0 v404 V p1 l1⟩ ::
  ⟨Rect.unit o1 S128x128.size h1, pvT1 v404 V p0 l0⟩ :: ⟨Rect.unit o0 S128x128.size h0, pvT0 v404 V p0 l0⟩ :: L

end Cert.KernelIdeal.Attn
-- ==== Proof.AttnSem.lean ====
module

public import proofs.«01_k».proof.Proof.AttnTiles

@[expose] public section

set_option maxRecDepth 16384

noncomputable section

namespace Cert.KernelIdeal.Attn

open Cert.KernelIdeal Cert.KernelIdeal.Gen
open Idealize.ShloMosaic Idealize.ShloMosaic.Tactic

/-- An entry of a vector, by a natural number. -/
def at1 {φ : FTy} {a : ℕ} [NeZero a] (X : FVec Ideal ⟨1, ![a]⟩ φ) (i : ℕ) : EReal := X (ix1 (Fin.ofNat a i))
/-- An entry of a matrix, by natural numbers. -/
def at2 {φ : FTy} {a b : ℕ} [NeZero a] [NeZero b] (X : FVec Ideal ⟨2, ![a, b]⟩ φ) (i j : ℕ) : EReal := X (ix2 (Fin.ofNat a i) (Fin.ofNat b j))
/-- An entry of a rank-3 array, by natural numbers. -/
def at3 {φ : FTy} {a b c : ℕ} [NeZero a] [NeZero b] [NeZero c] (X : FVec Ideal ⟨3, ![a, b, c]⟩ φ) (i j k : ℕ) : EReal :=
  X (ix3 (Fin.ofNat a i) (Fin.ofNat b j) (Fin.ofNat c k))

theorem ofNat_val {n : ℕ} [NeZero n] (i : Fin n) : Fin.ofNat n i.val = i := Fin.ext (Nat.mod_eq_of_lt i.isLt)

theorem eq_at1 {φ : FTy} {a : ℕ} [NeZero a] (X : FVec Ideal ⟨1, ![a]⟩ φ) (i : Fin a) : X (ix1 i) = at1 X i.val := by
  rw [at1, ofNat_val]
theorem eq_at2 {φ : FTy} {a b : ℕ} [NeZero a] [NeZero b] (X : FVec Ideal ⟨2, ![a, b]⟩ φ) (i : Fin a) (j : Fin b) : X (ix2 i j) = at2 X i.val j.val := by
  rw [at2, ofNat_val, ofNat_val]
theorem eq_at3 {φ : FTy} {a b c : ℕ} [NeZero a] [NeZero b] [NeZero c] (X : FVec Ideal ⟨3, ![a, b, c]⟩ φ) (i : Fin a) (j : Fin b) (k : Fin c) :
    X (ix3 i j k) = at3 X i.val j.val k.val := by
  rw [at3, ofNat_val, ofNat_val, ofNat_val]

variable (x0 : FVec Ideal S8 .f32) (x1 : FVec Ideal S16x512x128 .bf16) (x2 x3 : FVec Ideal S2048x128 .bf16) (x4 : FVec Ideal S8x384x128 .f32)

/-- The padded sequence's row `r` of keys or values (128 rows of zeros before and after it), the lanes of the other
    group set to zero. -/
def pad (x : FVec Ideal S2048x128 .bf16) (kv r l : ℕ) : EReal :=
  if 128 ≤ r ∧ r < 2176 ∧ l / 64 = kv then at2 x (r - 128) l else 0

/-- The values with the rows of ones beneath: row `128 + kv` is ones for group `kv`. -/
def va (kv r e : ℕ) : EReal := if e < 128 then pad x3 kv r e else if e - 128 = kv then 1 else 0

/-- The score, in base 2, of query `q` of block `j` against key `x` of its band, for head `kv` of group slot `g`. -/
def sc (j g kv q x : ℕ) : EReal := (∑ l : Fin 128, pad x2 kv (128 * j + x) l.val * at3 x1 j (128 * g + l.val) q) + at3 x4 (g + 4 * kv) x q

/-- The score with the keys before and after the sequence masked. -/
def scm (j g kv q x : ℕ) : EReal := if 128 ≤ 128 * j + x ∧ 128 * j + x < 2176 then sc x1 x2 x4 j g kv q x else ⊥

/-- A head's sink, in base 2. -/
def snk (g kv : ℕ) : EReal := at1 x0 (g + 4 * kv) * (Named.named κ "log2e" 0x3FB8AA3B#32 : Ideal .f32)

/-- The greatest of a query's scores and its head's sink. -/
def mx (j g kv q : ℕ) : EReal :=
  max (Finset.fold max (Ideal.ofBits FTy.f32 0xFF800000#32) (fun x : Fin 384 => scm x1 x2 x4 j g kv q x.val) Finset.univ) (snk x0 g kv)

/-- The unnormalised probability of a key. -/
def pr (j g kv q x : ℕ) : EReal := Ideal.exp2 (scm x1 x2 x4 j g kv q x - mx x0 x1 x2 x4 j g kv q)

/-- The unnormalised weight of the sink. -/
def lk (j g kv q : ℕ) : EReal := Ideal.exp2 (snk x0 g kv - mx x0 x1 x2 x4 j g kv q)

/-- One output: the values weighted by the probabilities, over the sum of the probabilities and the sink's weight. -/
def outv (j g e q : ℕ) : EReal :=
  (∑ k : Fin 768, va x3 (k.val / 384) (128 * j + k.val % 384) e * pr x0 x1 x2 x4 j g (k.val / 384) q (k.val % 384))
    * Ideal.div 1 ((∑ k : Fin 768, va x3 (k.val / 384) (128 * j + k.val % 384) (128 + e / 64) * pr x0 x1 x2 x4 j g (k.val / 384) q (k.val % 384))
        + lk x0 x1 x2 x4 j g (e / 64) q)

/-- The score buffer of block `j`. -/
def ScA (j : ℕ) : FVec Ideal S2x768x256 .f32 := fun y => sc x1 x2 x4 j (2 * (y 0).val + (y 2).val / 128) ((y 1).val / 384) ((y 2).val % 128) ((y 1).val % 384)
/-- The probability buffer of block `j`. -/
def PrA (j : ℕ) : FVec Ideal S2x768x256 .bf16 := fun y => pr x0 x1 x2 x4 j (2 * (y 0).val + (y 2).val / 128) ((y 1).val / 384) ((y 2).val % 128) ((y 1).val % 384)
/-- The sink-weight buffer of block `j`. -/
def LkA (j : ℕ) : FVec Ideal S2x8x256 .f32 := fun y => lk x0 x1 x2 x4 j (2 * (y 0).val + (y 2).val / 128) (y 1).val ((y 2).val % 128)
/-- The output block. -/
def OutA : FVec Ideal S2048x512 .bf16 := fun y => outv x0 x1 x2 x3 x4 ((y 0).val / 128) ((y 1).val / 128) ((y 1).val % 128) ((y 0).val % 128)

theorem keys_apply (j : ℕ) (ka kb : FVec Ideal S1x384x128 .bf16)
    (hka : ∀ (x : Fin 384) (l : Fin 128), ka (ix3 0 x l) = pad x2 0 (128 * j + x.val) l.val)
    (hkb : ∀ (x : Fin 384) (l : Fin 128), kb (ix3 0 x l) = pad x2 1 (128 * j + x.val) l.val) (a : Fin 768) (l : Fin 128) :
    keys ka kb (ix2 a l) = pad x2 (a.val / 384) (128 * j + a.val % 384) l.val := by
  pointwise [keys]
  have := a.isLt
  split
  · rw [hka, Nat.div_eq_of_lt ‹_›, Nat.mod_eq_of_lt ‹_›]
  · rw [hkb, show a.val / 384 = 1 by omega, show a.val % 384 = a.val - 384 by omega]

theorem prod0_apply (j : ℕ) (q : FVec Ideal S1x512x128 .bf16) (ka kb : FVec Ideal S1x384x128 .bf16)
    (hq : ∀ (r : Fin 512) (c : Fin 128), q (ix3 0 r c) = at3 x1 j r.val c.val)
    (hka : ∀ (x : Fin 384) (l : Fin 128), ka (ix3 0 x l) = pad x2 0 (128 * j + x.val) l.val)
    (hkb : ∀ (x : Fin 384) (l : Fin 128), kb (ix3 0 x l) = pad x2 1 (128 * j + x.val) l.val) (a : Fin 768) (b : Fin 256) :
    prod0 q ka kb (ix2 a b) = ∑ l : Fin 128, pad x2 (a.val / 384) (128 * j + a.val % 384) l.val * at3 x1 j (128 * (b.val / 128) + l.val) (b.val % 128) := by
  pointwise [prod0]
  refine Finset.sum_congr rfl fun l _ => ?_
  rw [keys_apply x2 j ka kb hka hkb]
  have := b.isLt
  congr 1
  split
  · rw [hq]; simp only []; congr 1 <;> omega
  · rw [hq]; simp only []; congr 1 <;> omega

theorem prod1_apply (j : ℕ) (q : FVec Ideal S1x512x128 .bf16) (ka kb : FVec Ideal S1x384x128 .bf16)
    (hq : ∀ (r : Fin 512) (c : Fin 128), q (ix3 0 r c) = at3 x1 j r.val c.val)
    (hka : ∀ (x : Fin 384) (l : Fin 128), ka (ix3 0 x l) = pad x2 0 (128 * j + x.val) l.val)
    (hkb : ∀ (x : Fin 384) (l : Fin 128), kb (ix3 0 x l) = pad x2 1 (128 * j + x.val) l.val) (a : Fin 768) (b : Fin 256) :
    prod1 q ka kb (ix2 a b) = ∑ l : Fin 128, pad x2 (a.val / 384) (128 * j + a.val % 384) l.val * at3 x1 j (128 * (2 + b.val / 128) + l.val) (b.val % 128) := by
  pointwise [prod1]
  refine Finset.sum_congr rfl fun l _ => ?_
  rw [keys_apply x2 j ka kb hka hkb]
  have := b.isLt
  congr 1
  split
  · rw [hq]; simp only []; congr 1 <;> omega
  · rw [hq]; simp only []; congr 1 <;> omega

/-- The score tiles of block `j` are those of its score buffer. -/
theorem sc_pieces (j : ℕ) (q : FVec Ideal S1x512x128 .bf16) (ka kb : FVec Ideal S1x384x128 .bf16) (b0 b1 b2 b3 b4 b5 b6 b7 : FVec Ideal S1x384x128 .f32)
    (hq : ∀ (r : Fin 512) (c : Fin 128), q (ix3 0 r c) = at3 x1 j r.val c.val)
    (hka : ∀ (x : Fin 384) (l : Fin 128), ka (ix3 0 x l) = pad x2 0 (128 * j + x.val) l.val)
    (hkb : ∀ (x : Fin 384) (l : Fin 128), kb (ix3 0 x l) = pad x2 1 (128 * j + x.val) l.val)
    (h0 : ∀ r c, b0 (ix3 0 r c) = x4 (ix3 0 r c)) (h1 : ∀ r c, b1 (ix3 0 r c) = x4 (ix3 1 r c)) (h2 : ∀ r c, b2 (ix3 0 r c) = x4 (ix3 2 r c))
    (h3 : ∀ r c, b3 (ix3 0 r c) = x4 (ix3 3 r c)) (h4 : ∀ r c, b4 (ix3 0 r c) = x4 (ix3 4 r c)) (h5 : ∀ r c, b5 (ix3 0 r c) = x4 (ix3 5 r c))
    (h6 : ∀ r c, b6 (ix3 0 r c) = x4 (ix3 6 r c)) (h7 : ∀ r c, b7 (ix3 0 r c) = x4 (ix3 7 r c)) :
    View.PiecesOf (ScA x1 x2 x4 j) (scList (prod0 q ka kb) (prod1 q ka kb) b0 b1 b2 b3 b4 b5 b6 b7) := by
  have e : ScA x1 x2 x4 j = scG (prod0 q ka kb) (prod1 q ka kb) x4 := by
    funext y
    obtain ⟨p, a, b, rfl⟩ : ∃ (p : Fin 2) (a : Fin 768) (b : Fin 256), y = ix3 p a b := ⟨y 0, y 1, y 2, eq_ix3 y⟩
    have hp := p.isLt
    have hb := b.isLt
    simp only [scG, ScA, ix3_0, ix3_1, ix3_2, eq_at3 x4, sc]
    rw [prod0_apply x1 x2 j q ka kb hq hka hkb, prod1_apply x1 x2 j q ka kb hq hka hkb]
    congr 1
    by_cases h : p.val < 1
    · refine Eq.trans ?_ (if_pos h).symm
      refine Finset.sum_congr rfl fun l _ => ?_
      congr 2; omega
    · refine Eq.trans ?_ (if_neg h).symm
      refine Finset.sum_congr rfl fun l _ => ?_
      congr 2; omega
  rw [e]
  exact scList_pieces _ _ _ _ _ _ _ _ _ _ _ h0 h1 h2 h3 h4 h5 h6 h7

theorem smP_apply (t : FVec Ideal S384x128 .f32) (s : EReal) (j g kv : ℕ)
    (ht : ∀ (r : Fin 384) (c : Fin 128), t (ix2 r c) = scm x1 x2 x4 j g kv c.val r.val) (hs : s = at1 x0 (g + 4 * kv))
    (z : Fin 1) (a : Fin 384) (b : Fin 128) : smP t s (ix3 z a b) = pr x0 x1 x2 x4 j g kv b.val a.val := by
  pointwise [smP, smM]
  subst hs
  simp only [ht]
  rfl

theorem smL_apply (t : FVec Ideal S384x128 .f32) (s : EReal) (j g kv : ℕ)
    (ht : ∀ (r : Fin 384) (c : Fin 128), t (ix2 r c) = scm x1 x2 x4 j g kv c.val r.val) (hs : s = at1 x0 (g + 4 * kv))
    (z w : Fin 1) (b : Fin 128) : smL t s (ix3 z w b) = lk x0 x1 x2 x4 j g kv b.val := by
  pointwise [smL, smM]
  subst hs
  simp only [ht]
  rfl

/-- The probability tiles of block `j`, from its masked score tiles, are those of its probability buffer. -/
theorem pr_pieces (j : ℕ) (t000 t001 t010 t011 t100 t101 t110 t111 : FVec Ideal S384x128 .f32) (s0 s1 s2 s3 s4 s5 s6 s7 : EReal)
    (h000 : ∀ (r : Fin 384) (c : Fin 128), t000 (ix2 r c) = scm x1 x2 x4 j 0 0 c.val r.val)
    (h001 : ∀ (r : Fin 384) (c : Fin 128), t001 (ix2 r c) = scm x1 x2 x4 j 1 0 c.val r.val)
    (h010 : ∀ (r : Fin 384) (c : Fin 128), t010 (ix2 r c) = scm x1 x2 x4 j 0 1 c.val r.val)
    (h011 : ∀ (r : Fin 384) (c : Fin 128), t011 (ix2 r c) = scm x1 x2 x4 j 1 1 c.val r.val)
    (h100 : ∀ (r : Fin 384) (c : Fin 128), t100 (ix2 r c) = scm x1 x2 x4 j 2 0 c.val r.val)
    (h101 : ∀ (r : Fin 384) (c : Fin 128), t101 (ix2 r c) = scm x1 x2 x4 j 3 0 c.val r.val)
    (h110 : ∀ (r : Fin 384) (c : Fin 128), t110 (ix2 r c) = scm x1 x2 x4 j 2 1 c.val r.val)
    (h111 : ∀ (r : Fin 384) (c : Fin 128), t111 (ix2 r c) = scm x1 x2 x4 j 3 1 c.val r.val)
    (k0 : s0 = at1 x0 0) (k1 : s1 = at1 x0 1) (k2 : s2 = at1 x0 2) (k3 : s3 = at1 x0 3) (k4 : s4 = at1 x0 4) (k5 : s5 = at1 x0 5) (k6 : s6 = at1 x0 6) (k7 : s7 = at1 x0 7) :
    View.PiecesOf (PrA x0 x1 x2 x4 j) (smPList (F := Ideal) t000 t001 t010 t011 t100 t101 t110 t111 s0 s1 s2 s3 s4 s5 s6 s7) := by
  have w : ∀ (p kv t : ℕ) (tl : FVec Ideal S384x128 .f32) (s : EReal) (hp : p < 2) (hk : kv < 2) (ht : t < 2)
      (inb : ∀ a, (![p, 384 * kv, 128 * t] : Fin 3 → ℕ) a + S1x384x128.size a ≤ S2x768x256.size a)
      (h : ∀ (r : Fin 384) (c : Fin 128), tl (ix2 r c) = scm x1 x2 x4 j (2 * p + t) kv c.val r.val) (hs : s = at1 x0 (2 * p + t + 4 * kv)),
      ∀ x, smP tl s x = PrA x0 x1 x2 x4 j ((Rect.unit (s := S2x768x256) ![p, 384 * kv, 128 * t] S1x384x128.size inb).emb x) := by
    intro p kv t tl s hp hk ht inb h hs x
    obtain ⟨a, b, c, rfl⟩ : ∃ (a : Fin 1) (b : Fin 384) (c : Fin 128), x = ix3 a b c := ⟨x 0, x 1, x 2, eq_ix3 x⟩
    have ea := a.isLt; have eb := b.isLt; have ec := c.isLt
    rw [smP_apply x0 x1 x2 x4 tl s j (2 * p + t) kv h hs, emb3 _ _ _ _ (by omega) (by omega) (by omega)]
    simp only [PrA, ix3_0, ix3_1, ix3_2]
    congr 1 <;> omega
  unfold smPList
  exact ⟨w 1 1 1 t111 s7 (by norm_num) (by norm_num) (by norm_num) (by decide) h111 k7, w 1 1 0 t110 s6 (by norm_num) (by norm_num) (by norm_num) (by decide) h110 k6,
    w 1 0 1 t101 s3 (by norm_num) (by norm_num) (by norm_num) (by decide) h101 k3, w 1 0 0 t100 s2 (by norm_num) (by norm_num) (by norm_num) (by decide) h100 k2,
    w 0 1 1 t011 s5 (by norm_num) (by norm_num) (by norm_num) (by decide) h011 k5, w 0 1 0 t010 s4 (by norm_num) (by norm_num) (by norm_num) (by decide) h010 k4,
    w 0 0 1 t001 s1 (by norm_num) (by norm_num) (by norm_num) (by decide) h001 k1, w 0 0 0 t000 s0 (by norm_num) (by norm_num) (by norm_num) (by decide) h000 k0, trivial⟩

/-- The sink-weight rows of block `j` are those of its sink-weight buffer. -/
theorem lk_pieces (j : ℕ) (t000 t001 t010 t011 t100 t101 t110 t111 : FVec Ideal S384x128 .f32) (s0 s1 s2 s3 s4 s5 s6 s7 : EReal)
    (h000 : ∀ (r : Fin 384) (c : Fin 128), t000 (ix2 r c) = scm x1 x2 x4 j 0 0 c.val r.val)
    (h001 : ∀ (r : Fin 384) (c : Fin 128), t001 (ix2 r c) = scm x1 x2 x4 j 1 0 c.val r.val)
    (h010 : ∀ (r : Fin 384) (c : Fin 128), t010 (ix2 r c) = scm x1 x2 x4 j 0 1 c.val r.val)
    (h011 : ∀ (r : Fin 384) (c : Fin 128), t011 (ix2 r c) = scm x1 x2 x4 j 1 1 c.val r.val)
    (h100 : ∀ (r : Fin 384) (c : Fin 128), t100 (ix2 r c) = scm x1 x2 x4 j 2 0 c.val r.val)
    (h101 : ∀ (r : Fin 384) (c : Fin 128), t101 (ix2 r c) = scm x1 x2 x4 j 3 0 c.val r.val)
    (h110 : ∀ (r : Fin 384) (c : Fin 128), t110 (ix2 r c) = scm x1 x2 x4 j 2 1 c.val r.val)
    (h111 : ∀ (r : Fin 384) (c : Fin 128), t111 (ix2 r c) = scm x1 x2 x4 j 3 1 c.val r.val)
    (k0 : s0 = at1 x0 0) (k1 : s1 = at1 x0 1) (k2 : s2 = at1 x0 2) (k3 : s3 = at1 x0 3) (k4 : s4 = at1 x0 4) (k5 : s5 = at1 x0 5) (k6 : s6 = at1 x0 6) (k7 : s7 = at1 x0 7) :
    View.PiecesOf (LkA x0 x1 x2 x4 j) (smLList (F := Ideal) t000 t001 t010 t011 t100 t101 t110 t111 s0 s1 s2 s3 s4 s5 s6 s7) := by
  have w : ∀ (p kv t : ℕ) (tl : FVec Ideal S384x128 .f32) (s : EReal) (hp : p < 2) (hk : kv < 2) (ht : t < 2)
      (inb : ∀ a, (![p, kv, 128 * t] : Fin 3 → ℕ) a + S1x1x128.size a ≤ S2x8x256.size a)
      (h : ∀ (r : Fin 384) (c : Fin 128), tl (ix2 r c) = scm x1 x2 x4 j (2 * p + t) kv c.val r.val) (hs : s = at1 x0 (2 * p + t + 4 * kv)),
      ∀ x, smL tl s x = LkA x0 x1 x2 x4 j ((Rect.unit (s := S2x8x256) ![p, kv, 128 * t] S1x1x128.size inb).emb x) := by
    intro p kv t tl s hp hk ht inb h hs x
    obtain ⟨a, b, c, rfl⟩ : ∃ (a : Fin 1) (b : Fin 1) (c : Fin 128), x = ix3 a b c := ⟨x 0, x 1, x 2, eq_ix3 x⟩
    have ea := a.isLt; have eb := b.isLt; have ec := c.isLt
    rw [smL_apply x0 x1 x2 x4 tl s j (2 * p + t) kv h hs, emb3 _ _ _ _ (by omega) (by omega) (by omega)]
    simp only [LkA, ix3_0, ix3_1, ix3_2]
    congr 1 <;> omega
  unfold smLList
  exact ⟨w 1 1 1 t111 s7 (by norm_num) (by norm_num) (by norm_num) (by decide) h111 k7, w 1 1 0 t110 s6 (by norm_num) (by norm_num) (by norm_num) (by decide) h110 k6,
    w 1 0 1 t101 s3 (by norm_num) (by norm_num) (by norm_num) (by decide) h101 k3, w 1 0 0 t100 s2 (by norm_num) (by norm_num) (by norm_num) (by decide) h100 k2,
    w 0 1 1 t011 s5 (by norm_num) (by norm_num) (by norm_num) (by decide) h011 k5, w 0 1 0 t010 s4 (by norm_num) (by norm_num) (by norm_num) (by decide) h010 k4,
    w 0 0 1 t001 s1 (by norm_num) (by norm_num) (by norm_num) (by decide) h001 k1, w 0 0 0 t000 s0 (by norm_num) (by norm_num) (by norm_num) (by decide) h000 k0, trivial⟩

theorem vals_apply (j : ℕ) (t0 t1 t2 t3 t4 t5 : FVec Ideal S1x1x144x128 .bf16)
    (h0 : ∀ (e : Fin 144) (c : Fin 128), t0 (ix4 0 0 e c) = va x3 0 (128 * j + c.val) e.val)
    (h1 : ∀ (e : Fin 144) (c : Fin 128), t1 (ix4 0 0 e c) = va x3 0 (128 * (j + 1) + c.val) e.val)
    (h2 : ∀ (e : Fin 144) (c : Fin 128), t2 (ix4 0 0 e c) = va x3 0 (128 * (j + 2) + c.val) e.val)
    (h3 : ∀ (e : Fin 144) (c : Fin 128), t3 (ix4 0 0 e c) = va x3 1 (128 * j + c.val) e.val)
    (h4 : ∀ (e : Fin 144) (c : Fin 128), t4 (ix4 0 0 e c) = va x3 1 (128 * (j + 1) + c.val) e.val)
    (h5 : ∀ (e : Fin 144) (c : Fin 128), t5 (ix4 0 0 e c) = va x3 1 (128 * (j + 2) + c.val) e.val) (e : Fin 144) (k : Fin 768) :
    vals t0 t1 t2 t3 t4 t5 (ix2 e k) = va x3 (k.val / 384) (128 * j + k.val % 384) e.val := by
  pointwise [vals]
  have := k.isLt
  split
  · rw [h0]; simp only []; congr 1 <;> omega
  split
  · rw [h1]; simp only []; congr 1 <;> omega
  split
  · rw [h2]; simp only []; congr 1 <;> omega
  split
  · rw [h3]; simp only []; congr 1 <;> omega
  split
  · rw [h4]; simp only []; congr 1 <;> omega
  · rw [h5]; simp only []; congr 1 <;> omega

theorem slt64 : ∀ b : Fin 128, IntOp.cmpi CmpIPredicate.slt (BitVec.ofNat 32 b.val) 64#32 = if b.val < 64 then 1#1 else 0#1 := by decide

theorem pvT0_apply (j g : ℕ) (V : FVec Ideal S144x768 .bf16) (p : FVec Ideal S1x768x256 .bf16) (l : FVec Ideal S1x2x256 .f32)
    (hV : ∀ (e : Fin 144) (k : Fin 768), V (ix2 e k) = va x3 (k.val / 384) (128 * j + k.val % 384) e.val)
    (hp : ∀ (k : Fin 768) (c : Fin 256), p (ix3 0 k c) = pr x0 x1 x2 x4 j (g + c.val / 128) (k.val / 384) (c.val % 128) (k.val % 384))
    (hl : ∀ (s : Fin 2) (c : Fin 256), l (ix3 0 s c) = lk x0 x1 x2 x4 j (g + c.val / 128) s.val (c.val % 128)) (a b : Fin 128) :
    pvT0 (iota .tc S128x256 32 [0] (by decide)) V p l (ix2 a b) = outv x0 x1 x2 x3 x4 j g b.val a.val := by
  pointwise [pvT0, pvO, pvI, pvM]
  have ha := a.isLt; have hb := b.isLt
  rw [slt64]
  simp only [hV, hp, hl, outv, Nat.div_eq_of_lt ha, Nat.mod_eq_of_lt ha, Nat.add_zero]
  congr 1
  split
  · rw [Scalar.select, show b.val / 64 = 0 by omega]; rfl
  · rw [Scalar.select, show b.val / 64 = 1 by omega]; rfl

theorem pvT1_apply (j g : ℕ) (V : FVec Ideal S144x768 .bf16) (p : FVec Ideal S1x768x256 .bf16) (l : FVec Ideal S1x2x256 .f32)
    (hV : ∀ (e : Fin 144) (k : Fin 768), V (ix2 e k) = va x3 (k.val / 384) (128 * j + k.val % 384) e.val)
    (hp : ∀ (k : Fin 768) (c : Fin 256), p (ix3 0 k c) = pr x0 x1 x2 x4 j (g + c.val / 128) (k.val / 384) (c.val % 128) (k.val % 384))
    (hl : ∀ (s : Fin 2) (c : Fin 256), l (ix3 0 s c) = lk x0 x1 x2 x4 j (g + c.val / 128) s.val (c.val % 128)) (a b : Fin 128) :
    pvT1 (iota .tc S128x256 32 [0] (by decide)) V p l (ix2 a b) = outv x0 x1 x2 x3 x4 j (g + 1) b.val a.val := by
  pointwise [pvT1, pvO, pvI, pvM]
  have ha := a.isLt; have hb := b.isLt
  have d1 : (128 + a.val) / 128 = 1 := by omega
  have d2 : (128 + a.val) % 128 = a.val := by omega
  rw [slt64]
  simp only [hV, hp, hl, outv, d1, d2]
  congr 1
  split
  · rw [Scalar.select, show b.val / 64 = 0 by omega]; rfl
  · rw [Scalar.select, show b.val / 64 = 1 by omega]; rfl

/-- Where a box of a matrix puts a local index. -/
theorem emb2 {n0 n1 m0 m1 o0 o1 : ℕ}
    (inb : ∀ a, (![o0, o1] : Fin 2 → ℕ) a + (![m0, m1] : Fin 2 → ℕ) a ≤ (⟨2, ![n0, n1]⟩ : Shape).size a)
    (a : Fin m0) (b : Fin m1) (ha : o0 + a.val < n0) (hb : o1 + b.val < n1) :
    (Rect.unit (s := ⟨2, ![n0, n1]⟩) ![o0, o1] ![m0, m1] inb).emb (ix2 a b) = ix2 (⟨o0 + a.val, ha⟩ : Fin n0) (⟨o1 + b.val, hb⟩ : Fin n1) := by
  funext k
  apply Fin.ext
  rw [ValueKit.rect_emb_unit_val]
  match k with
  | 0 => rfl
  | 1 => rfl

/-- The output tiles of block `j` are those of the output, over pieces that are. -/
theorem pv_pieces (j : ℕ) (hj : j < 16) (o0 o1 o2 o3 : Fin 2 → ℕ) (h0 : ∀ a, o0 a + S128x128.size a ≤ S2048x512.size a) (h1 : ∀ a, o1 a + S128x128.size a ≤ S2048x512.size a)
    (h2 : ∀ a, o2 a + S128x128.size a ≤ S2048x512.size a) (h3 : ∀ a, o3 a + S128x128.size a ≤ S2048x512.size a)
    (e0 : o0 = ![128 * j, 0]) (e1 : o1 = ![128 * j, 128]) (e2 : o2 = ![128 * j, 256]) (e3 : o3 = ![128 * j, 384])
    (V : FVec Ideal S144x768 .bf16) (p0 p1 : FVec Ideal S1x768x256 .bf16) (l0 l1 : FVec Ideal S1x2x256 .f32) (L : List (View.Piece (Elt Ideal) S2048x512 .bf16))
    (hV : ∀ (e : Fin 144) (k : Fin 768), V (ix2 e k) = va x3 (k.val / 384) (128 * j + k.val % 384) e.val)
    (hp0 : ∀ (k : Fin 768) (c : Fin 256), p0 (ix3 0 k c) = pr x0 x1 x2 x4 j (0 + c.val / 128) (k.val / 384) (c.val % 128) (k.val % 384))
    (hl0 : ∀ (s : Fin 2) (c : Fin 256), l0 (ix3 0 s c) = lk x0 x1 x2 x4 j (0 + c.val / 128) s.val (c.val % 128))
    (hp1 : ∀ (k : Fin 768) (c : Fin 256), p1 (ix3 0 k c) = pr x0 x1 x2 x4 j (2 + c.val / 128) (k.val / 384) (c.val % 128) (k.val % 384))
    (hl1 : ∀ (s : Fin 2) (c : Fin 256), l1 (ix3 0 s c) = lk x0 x1 x2 x4 j (2 + c.val / 128) s.val (c.val % 128))
    (hL : View.PiecesOf (OutA x0 x1 x2 x3 x4) L) :
    View.PiecesOf (OutA x0 x1 x2 x3 x4) (pvList o0 o1 o2 o3 h0 h1 h2 h3 (iota .tc S128x256 32 [0] (by decide)) V p0 p1 l0 l1 L) := by
  subst e0 e1 e2 e3
  have w : ∀ (g : ℕ) (hg : g < 4) (T : FVec Ideal S128x128 .bf16) (o : ℕ) (ho : o = 128 * g)
      (inb : ∀ a, (![128 * j, o] : Fin 2 → ℕ) a + S128x128.size a ≤ S2048x512.size a)
      (h : ∀ a b : Fin 128, T (ix2 a b) = outv x0 x1 x2 x3 x4 j g b.val a.val),
      ∀ x, T x = OutA x0 x1 x2 x3 x4 ((Rect.unit (s := S2048x512) ![128 * j, o] S128x128.size inb).emb x) := by
    intro g hg T o ho inb h x
    subst ho
    obtain ⟨a, b, rfl⟩ : ∃ (a : Fin 128) (b : Fin 128), x = ix2 a b := ⟨x 0, x 1, eq_ix2 x⟩
    have ea := a.isLt; have eb := b.isLt
    rw [h, emb2 _ _ _ (by omega) (by omega)]
    simp only [OutA, ix2_0, ix2_1]
    congr 1 <;> omega
  unfold pvList
  exact ⟨w 3 (by norm_num) _ _ rfl h3 fun a b => pvT1_apply x0 x1 x2 x3 x4 j 2 V p1 l1 hV hp1 hl1 a b,
    w 2 (by norm_num) _ _ rfl h2 fun a b => pvT0_apply x0 x1 x2 x3 x4 j 2 V p1 l1 hV hp1 hl1 a b,
    w 1 (by norm_num) _ _ rfl h1 fun a b => pvT1_apply x0 x1 x2 x3 x4 j 0 V p0 l0 hV hp0 hl0 a b,
    w 0 (by norm_num) _ _ rfl h0 fun a b => pvT0_apply x0 x1 x2 x3 x4 j 0 V p0 l0 hV hp0 hl0 a b, hL⟩

end Cert.KernelIdeal.Attn
-- ==== Proof.AttnLoopIdeal.lean ====
module

public import proofs.«01_k».proof.Proof.Gen.KernelIdeal.Loops
public import proofs.«01_k».proof.Proof.Gen.KernelIdeal.Frame

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a trip of the loop over pairs of query blocks touches: the sinks, the queries, the bias table and the
    zero-padded keys and values, which it only reads, at `X·`; the output block and the six score, probability and
    sink-weight buffers, which it writes, at `f·`. -/
abbrev Trip (c : Dev nD) (arg1 : Memref sig .tc .smem S8 .f32) (arg2 : Memref sig .tc .vmem S16x512x128 .bf16) (arg5 : Memref sig .tc .vmem S8x384x128 .f32) (arg11 : Memref sig .tc .vmem S2x2304x128 .bf16) (arg12 : Memref sig .tc .vmem S2x18x144x128 .bf16) (arg8 : Memref sig .tc .vmem S2048x512 .bf16) (arg13 : Memref sig .tc .vmem S2x768x256 .f32) (arg14 : Memref sig .tc .vmem S2x768x256 .f32) (arg15 : Memref sig .tc .vmem S2x768x256 .bf16) (arg16 : Memref sig .tc .vmem S2x768x256 .bf16) (arg17 : Memref sig .tc .vmem S2x8x256 .f32) (arg18 : Memref sig .tc .vmem S2x8x256 .f32) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) : sProp 𝕄 :=
  iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (arg8.view.loc (c : Thread nD τ) ↦[arg8.view.set]{fullShare} f8) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

/-- One trip of the loop, run at a symbolic trip number: the pieces it stores into each buffer it writes, as functions
    of what it finds in these buffers. -/
@[irreducible] def trip (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips) :
    Σ' (L8 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2048x512 .bf16)), Σ' (L13 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2x768x256 .f32)), Σ' (L14 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2x768x256 .f32)), Σ' (L15 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2x768x256 .bf16)), Σ' (L16 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2x768x256 .bf16)), Σ' (L17 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2x8x256 .f32)), { L18 : BufTy.Contents (Elt F) arg8.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S2x8x256 .f32) //
      ∀ (E : Set ℕ) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
      Trip (F := F) c arg1 arg2 arg5 arg11 arg12 arg8 arg13 arg14 arg15 arg16 arg17 arg18 X1 X2 X5 X11 X12 f8 f13 f14 f15 f16 f17 f18
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 k PUnit.unit)
          (fun _ => Trip (F := F) c arg1 arg2 arg5 arg11 arg12 arg8 arg13 arg14 arg15 arg16 arg17 arg18 X1 X2 X5 X11 X12 (arg8.view.writes (Elt F) f8 (L8 f8 f13 f14 f15 f16 f17 f18)) (arg13.view.writes (Elt F) f13 (L13 f8 f13 f14 f15 f16 f17 f18)) (arg14.view.writes (Elt F) f14 (L14 f8 f13 f14 f15 f16 f17 f18)) (arg15.view.writes (Elt F) f15 (L15 f8 f13 f14 f15 f16 f17 f18)) (arg16.view.writes (Elt F) f16 (L16 f8 f13 f14 f15 f16 f17 f18)) (arg17.view.writes (Elt F) f17 (L17 f8 f13 f14 f15 f16 f17 f18)) (arg18.view.writes (Elt F) f18 (L18 f8 f13 f14 f15 f16 f17 f18))) } := by
  have hk : k.val < 7 := Nat.lt_of_lt_of_le k.isLt k0_t1_abs.2.1
  refine ⟨?_, ?_, ?_, ?_, ?_, ?_, ?_, fun E f8 f13 f14 f15 f16 f17 f18 => ?run⟩
  case run =>
    unfold Gen.k0_t1_body
    iintro ⟨HRarg1, HRarg2, HRarg5, HRarg11, HRarg12, HWarg8, HWarg13, HWarg14, HWarg15, HWarg16, HWarg17, HWarg18⟩
    sl_exec
    sl_step
    sl_close

/-- What the seven buffers a trip writes hold. -/
abbrev St (arg8 : Memref sig .tc .vmem S2048x512 .bf16) (arg13 : Memref sig .tc .vmem S2x768x256 .f32) (arg14 : Memref sig .tc .vmem S2x768x256 .f32) (arg15 : Memref sig .tc .vmem S2x768x256 .bf16) (arg16 : Memref sig .tc .vmem S2x768x256 .bf16) (arg17 : Memref sig .tc .vmem S2x8x256 .f32) (arg18 : Memref sig .tc .vmem S2x8x256 .f32) : Type :=
  (BufTy.Contents (Elt F) arg8.view.ty) × (BufTy.Contents (Elt F) arg13.view.ty) × (BufTy.Contents (Elt F) arg14.view.ty) × (BufTy.Contents (Elt F) arg15.view.ty) × (BufTy.Contents (Elt F) arg16.view.ty) × (BufTy.Contents (Elt F) arg17.view.ty) × (BufTy.Contents (Elt F) arg18.view.ty)

/-- The state a trip leaves: its pieces over the state it finds. -/
@[irreducible] def next (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) : St (F := F) arg8 arg13 arg14 arg15 arg16 arg17 arg18 :=
  let t := trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k
  (arg8.view.writes (Elt F) s.1 (t.1 s.1 s.2.1 s.2.2.1 s.2.2.2.1 s.2.2.2.2.1 s.2.2.2.2.2.1 s.2.2.2.2.2.2), arg13.view.writes (Elt F) s.2.1 (t.2.1 s.1 s.2.1 s.2.2.1 s.2.2.2.1 s.2.2.2.2.1 s.2.2.2.2.2.1 s.2.2.2.2.2.2), arg14.view.writes (Elt F) s.2.2.1 (t.2.2.1 s.1 s.2.1 s.2.2.1 s.2.2.2.1 s.2.2.2.2.1 s.2.2.2.2.2.1 s.2.2.2.2.2.2), arg15.view.writes (Elt F) s.2.2.2.1 (t.2.2.2.1 s.1 s.2.1 s.2.2.1 s.2.2.2.1 s.2.2.2.2.1 s.2.2.2.2.2.1 s.2.2.2.2.2.2), arg16.view.writes (Elt F) s.2.2.2.2.1 (t.2.2.2.2.1 s.1 s.2.1 s.2.2.1 s.2.2.2.1 s.2.2.2.2.1 s.2.2.2.2.2.1 s.2.2.2.2.2.2), arg17.view.writes (Elt F) s.2.2.2.2.2.1 (t.2.2.2.2.2.1 s.1 s.2.1 s.2.2.1 s.2.2.2.1 s.2.2.2.2.1 s.2.2.2.2.2.1 s.2.2.2.2.2.2), arg18.view.writes (Elt F) s.2.2.2.2.2.2 (t.2.2.2.2.2.2.1 s.1 s.2.1 s.2.2.1 s.2.2.2.1 s.2.2.2.2.1 s.2.2.2.2.2.1 s.2.2.2.2.2.2))

/-- The state trip `k` leaves (`next`, told past the last trip too). -/
@[irreducible] def stepAt (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : ℕ)
    (s : St (F := F) arg8 arg13 arg14 arg15 arg16 arg17 arg18) : St (F := F) arg8 arg13 arg14 arg15 arg16 arg17 arg18 :=
  if h : k < k0_t1_loop.trips then next 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 ⟨k, h⟩ s else s

theorem stepAt_eq (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s = next 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k s := by
  unfold stepAt; exact dif_pos k.isLt

/-- The state before trip `k`, from the state at loop entry. -/
def st (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (s₀ : St (F := F) arg8 arg13 arg14 arg15 arg16 arg17 arg18) (k : ℕ) :
    St (F := F) arg8 arg13 arg14 arg15 arg16 arg17 arg18 :=
  Nat.rec (motive := fun _ => St (F := F) arg8 arg13 arg14 arg15 arg16 arg17 arg18) s₀ (fun k s => stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k s) k

theorem stepAt_8 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg8.view.writes (Elt F) s.1 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).1 := by
  rw [stepAt_eq]; unfold next; rfl

theorem stepAt_13 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg13.view.writes (Elt F) s.2.1 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).2.1 := by
  rw [stepAt_eq]; unfold next; rfl

theorem stepAt_14 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg14.view.writes (Elt F) s.2.2.1 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).2.2.1 := by
  rw [stepAt_eq]; unfold next; rfl

theorem stepAt_15 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg15.view.writes (Elt F) s.2.2.2.1 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).2.2.2.1 := by
  rw [stepAt_eq]; unfold next; rfl

theorem stepAt_16 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg16.view.writes (Elt F) s.2.2.2.2.1 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).2.2.2.2.1 := by
  rw [stepAt_eq]; unfold next; rfl

theorem stepAt_17 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg17.view.writes (Elt F) s.2.2.2.2.2.1 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.2.1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).2.2.2.2.2.1 := by
  rw [stepAt_eq]; unfold next; rfl

theorem stepAt_18 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (k : Fin k0_t1_loop.trips)
    (s : St (F := F) arg8 arg13 arg14 arg15 arg16 arg17 arg18) :
    arg18.view.writes (Elt F) s.2.2.2.2.2.2 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.2.2.1 s.1 s.2.1 s.2.2.1 s.2.2.2.1 s.2.2.2.2.1 s.2.2.2.2.2.1 s.2.2.2.2.2.2) = (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s).2.2.2.2.2.2 := by
  rw [stepAt_eq]; unfold next; rfl

theorem at_8 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg8.view.ty) G8 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).1) k : BufTy.Contents (Elt F) arg8.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).1 := by
  cases k <;> rfl

theorem at_13 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg13.view.ty) G13 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.1) k : BufTy.Contents (Elt F) arg13.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).2.1 := by
  cases k <;> rfl

theorem at_14 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg14.view.ty) G14 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.1) k : BufTy.Contents (Elt F) arg14.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).2.2.1 := by
  cases k <;> rfl

theorem at_15 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg15.view.ty) G15 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.1) k : BufTy.Contents (Elt F) arg15.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).2.2.2.1 := by
  cases k <;> rfl

theorem at_16 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg16.view.ty) G16 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.2.1) k : BufTy.Contents (Elt F) arg16.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).2.2.2.2.1 := by
  cases k <;> rfl

theorem at_17 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg17.view.ty) G17 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.2.2.1) k : BufTy.Contents (Elt F) arg17.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).2.2.2.2.2.1 := by
  cases k <;> rfl

theorem at_18 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) :
    (Nat.rec (motive := fun _ => BufTy.Contents (Elt F) arg18.view.ty) G18 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.2.2.2) k : BufTy.Contents (Elt F) arg18.view.ty)
      = (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k).2.2.2.2.2.2 := by
  cases k <;> rfl

/-- The loop by its invariant: before trip `k` the written buffers hold `st k`. -/
@[sl_loop] def loopInv (𝒱 : Variants) (c : Dev nD) (bd : Option 𝒱.V) (E : Set ℕ) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (G8 : BufTy.Contents (Elt F) arg8.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 where
  inv k _ := iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5) ∗ (arg11.view.loc (c : Thread nD τ) ↦[arg11.view.set]{fullShare} X11) ∗ (arg12.view.loc (c : Thread nD τ) ↦[arg12.view.set]{fullShare} X12) ∗ (∃ f, (arg8.view.loc (c : Thread nD τ) ↦[arg8.view.set]{fullShare} f) ∗ ⌜f = Nat.rec (motive := fun _ => BufTy.Contents (Elt F) arg8.view.ty) G8 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).1) k⌝) ∗ (∃ f, (arg13.view.loc (c : Thread nD τ) ↦[arg13.view.set]{fullShare} f) ∗ ⌜f = Nat.rec (motive := fun _ => BufTy.Contents (Elt F) arg13.view.ty) G13 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.1) k⌝) ∗ (∃ f, (arg14.view.loc (c : Thread nD τ) ↦[arg14.view.set]{fullShare} f) ∗ ⌜f = Nat.rec (motive := fun _ => BufTy.Contents (Elt F) arg14.view.ty) G14 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.1) k⌝) ∗ (∃ f, (arg15.view.loc (c : Thread nD τ) ↦[arg15.view.set]{fullShare} f) ∗ ⌜f = Nat.rec (motive := fun _ => BufTy.Contents (Elt F) arg15.view.ty) G15 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.1) k⌝) ∗ (∃ f, (arg16.view.loc (c : Thread nD τ) ↦[arg16.view.set]{fullShare} f) ∗ ⌜f = Nat.rec (motive := fun _ => BufTy.Contents (Elt F) arg16.view.ty) G16 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.2.1) k⌝) ∗ (∃ f, (arg17.view.loc (c : Thread nD τ) ↦[arg17.view.set]{fullShare} f) ∗ ⌜f = Nat.rec (motive := fun _ => BufTy.Contents (Elt F) arg17.view.ty) G17 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.2.2.1) k⌝) ∗ (∃ f, (arg18.view.loc (c : Thread nD τ) ↦[arg18.view.set]{fullShare} f) ∗ ⌜f = Nat.rec (motive := fun _ => BufTy.Contents (Elt F) arg18.view.ty) G18 (fun j _ => (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) (j + 1)).2.2.2.2.2.2) k⌝))
  step k acc := by
    iintro ⟨HRarg1, HRarg2, HRarg5, HRarg11, HRarg12, ⟨%f8, HWarg8, %h8⟩, ⟨%f13, HWarg13, %h13⟩, ⟨%f14, HWarg14, %h14⟩, ⟨%f15, HWarg15, %h15⟩, ⟨%f16, HWarg16, %h16⟩, ⟨%f17, HWarg17, %h17⟩, ⟨%f18, HWarg18, %h18⟩⟩
    iapply (wp_wand_r Idealize.ShloMosaic.frame (wpE (defs₀ (F := F)) 𝒱 (c : Thread nD τ) bd) E)
    isplitl [HRarg1 HRarg2 HRarg5 HRarg11 HRarg12 HWarg8 HWarg13 HWarg14 HWarg15 HWarg16 HWarg17 HWarg18]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.2.2.2 E f8 f13 f14 f15 f16 f17 f18)
      isplitl [HRarg1]; · iexact HRarg1
      isplitl [HRarg2]; · iexact HRarg2
      isplitl [HRarg5]; · iexact HRarg5
      isplitl [HRarg11]; · iexact HRarg11
      isplitl [HRarg12]; · iexact HRarg12
      isplitl [HWarg8]; · iexact HWarg8
      isplitl [HWarg13]; · iexact HWarg13
      isplitl [HWarg14]; · iexact HWarg14
      isplitl [HWarg15]; · iexact HWarg15
      isplitl [HWarg16]; · iexact HWarg16
      isplitl [HWarg17]; · iexact HWarg17
      iexact HWarg18
    · iintro %_ ⟨HRarg1, HRarg2, HRarg5, HRarg11, HRarg12, HWarg8, HWarg13, HWarg14, HWarg15, HWarg16, HWarg17, HWarg18⟩
      isplitl [HRarg1]; · iexact HRarg1
      isplitl [HRarg2]; · iexact HRarg2
      isplitl [HRarg5]; · iexact HRarg5
      isplitl [HRarg11]; · iexact HRarg11
      isplitl [HRarg12]; · iexact HRarg12
      replace h8 := h8.trans (at_8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      replace h13 := h13.trans (at_13 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      replace h14 := h14.trans (at_14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      replace h15 := h15.trans (at_15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      replace h16 := h16.trans (at_16 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      replace h17 := h17.trans (at_17 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      replace h18 := h18.trans (at_18 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 G8 G13 G14 G15 G16 G17 G18 k.val)
      isplitl [HWarg8]
      · iexists _; isplitl [HWarg8]; · iexact HWarg8
        ipureintro; subst h8 h13 h14 h15 h16 h17 h18; exact stepAt_8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)
      isplitl [HWarg13]
      · iexists _; isplitl [HWarg13]; · iexact HWarg13
        ipureintro; subst h8 h13 h14 h15 h16 h17 h18; exact stepAt_13 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)
      isplitl [HWarg14]
      · iexists _; isplitl [HWarg14]; · iexact HWarg14
        ipureintro; subst h8 h13 h14 h15 h16 h17 h18; exact stepAt_14 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)
      isplitl [HWarg15]
      · iexists _; isplitl [HWarg15]; · iexact HWarg15
        ipureintro; subst h8 h13 h14 h15 h16 h17 h18; exact stepAt_15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)
      isplitl [HWarg16]
      · iexists _; isplitl [HWarg16]; · iexact HWarg16
        ipureintro; subst h8 h13 h14 h15 h16 h17 h18; exact stepAt_16 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)
      isplitl [HWarg17]
      · iexists _; isplitl [HWarg17]; · iexact HWarg17
        ipureintro; subst h8 h13 h14 h15 h16 h17 h18; exact stepAt_17 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)
      iexists _; isplitl [HWarg18]; · iexact HWarg18
      ipureintro; subst h8 h13 h14 h15 h16 h17 h18; exact stepAt_18 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 (G8, G13, G14, G15, G16, G17, G18) k.val)

end Cert.KernelIdeal.Attn

end
-- ==== Proof.AttnRunIdeal.lean ====
module

public import proofs.«01_k».proof.Proof.AttnLoopIdeal
public import proofs.«01_k».proof.Proof.Gen.KernelIdeal.Launch
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The kernel's body at one grid point: on the inputs' blocks at `x·` and the other buffers at anything it runs to the
    end, leaves the inputs as they were, the attention's output block at the contents `G8` the run finds, and the two
    weight blocks with the pieces `L9`, `L10` the run finds. -/
def run (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec F S8 .f32) (x1 : Vec F S16x512x128 .bf16) (x2 : Vec F S2048x128 .bf16) (x3 : Vec F S2048x128 .bf16) (x4 : Vec F S8x384x128 .f32) (x5 : Vec F S64x4096 .f32) (x6 : Vec F S256x1024 .f32) :
    Σ' (G8 : BufTy.Contents (Elt F) arg8.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg8.view.ty) (L9 : List (View.Piece (Elt F) S64x4096 .bf16)),
      { L10 : List (View.Piece (Elt F) S256x1024 .bf16) //
    ∀ (E : Set ℕ) (K : PUnit → sProp 𝕄) (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} f8) ∗ (∃ d, owns (c : Thread nD τ) arg9 fullShare d) ∗ (∃ d, owns (c : Thread nD τ) arg10 fullShare d) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} (G8 f8 f11 f12 f13 f14 f15 f16 f17 f18)) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
        ⊢ wp frame (wpE (defs₀ (F := F)) Variants.none c none) E (cc0_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K f8 f11 f12 f13 f14 f15 f16 f17 f18 => ?run⟩
  case run =>
    simp only [cc0_attention_eq_skeleton]; unfold cc0_attention_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, ⟨%d8, %f8, -, H8⟩, ⟨%d9, %f9, -, H9⟩, H10, H11, H12, H13, H14, H15, H16, H17, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · sl_close
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.KernelIdeal.Attn

end
-- ==== Proof.AttnBridgeRun.lean ====
module

public import proofs.«01_k».proof.Proof.AttnTiles
public import proofs.«01_k».proof.Proof.AttnRunIdeal

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A block of zeros. -/
def zBlk : FVec F S128x128 .bf16 := broadcast S128x128 (FloatOps.ofBits .bf16 0x0000#16 : F .bf16)

/-- Sixteen rows, the `kv`-th all ones and the others zero. -/
def oneRows (kv : BitVec 32) : FVec F S16x128 .bf16 :=
  truncf .bf16 (select (cmpi .eq (iota .tc S16x128 32 [0] (by decide)) (broadcast S16x128 kv))
    (broadcast S16x128 (FloatOps.ofBits .f32 0x3F800000#32 : F .f32)) (broadcast S16x128 (FloatOps.ofBits .f32 0x00000000#32 : F .f32))) bitsLt_bf16_f32

/-- The keys of the first group, the other lanes zero. -/
def kz0 (x : FVec F S2048x128 .bf16) : FVec F S1x2048x128 .bf16 :=
  shapeCast S1x2048x128 (truncf .bf16 (select (cmpi .slt (iota .tc S2048x128 32 [1] (by decide)) (broadcast S2048x128 64#32))
    (extf .f32 x bitsLt_bf16_f32) (broadcast S2048x128 (FloatOps.ofBits .f32 0x00000000#32 : F .f32))) bitsLt_bf16_f32) shapeCasts_S2048x128_S1x2048x128

/-- The keys of the second group, the other lanes zero. -/
def kz1 (x : FVec F S2048x128 .bf16) : FVec F S1x2048x128 .bf16 :=
  shapeCast S1x2048x128 (truncf .bf16 (select (cmpi .slt (iota .tc S2048x128 32 [1] (by decide)) (broadcast S2048x128 64#32))
    (broadcast S2048x128 (FloatOps.ofBits .f32 0x00000000#32 : F .f32)) (extf .f32 x bitsLt_bf16_f32)) bitsLt_bf16_f32) shapeCasts_S2048x128_S1x2048x128

/-- The padded keys' pieces, last stored first. -/
def kzList (x : FVec F S2048x128 .bf16) : List (View.Piece (Elt F) S2x2304x128 .bf16) :=
  [⟨Rect.unit ![1, 128, 0] S1x2048x128.size (by decide), kz1 x⟩,
   ⟨Rect.unit ![0, 128, 0] S1x2048x128.size (by decide), kz0 x⟩,
   ⟨Rect.unit ![1, 2176, 0] S1x128x128.size (by decide), shapeCast S1x128x128 zBlk shapeCasts_S128x128_S1x128x128⟩,
   ⟨Rect.unit ![1, 0, 0] S1x128x128.size (by decide), shapeCast S1x128x128 zBlk shapeCasts_S128x128_S1x128x128⟩,
   ⟨Rect.unit ![0, 2176, 0] S1x128x128.size (by decide), shapeCast S1x128x128 zBlk shapeCasts_S128x128_S1x128x128⟩,
   ⟨Rect.unit ![0, 0, 0] S1x128x128.size (by decide), shapeCast S1x128x128 zBlk shapeCasts_S128x128_S1x128x128⟩]

/-- A block of values over its rows of ones. -/
def vtCat (b : FVec F S128x128 .bf16) (kv : BitVec 32) : FVec F S1x1x144x128 .bf16 :=
  shapeCast S1x1x144x128 (concatenate S144x128 0 [⟨S128x128, b⟩, ⟨S16x128, oneRows kv⟩] concatenates_S128x128_S16x128_S144x128_d0) shapeCasts_S144x128_S1x1x144x128

/-- One block of the first group's values, transposed, the other rows zero. -/
def vt0 (x : FVec F S128x128 .bf16) : FVec F S1x1x144x128 .bf16 :=
  vtCat (truncf .bf16 (select (cmpi .slt (iota .tc S128x128 32 [0] (by decide)) (broadcast S128x128 64#32))
    (transpose S128x128 [1, 0] (extf .f32 x bitsLt_bf16_f32) transposes_S128x128_p1_0_S128x128) (broadcast S128x128 (FloatOps.ofBits .f32 0x00000000#32 : F .f32))) bitsLt_bf16_f32) 0#32

/-- One block of the second group's values, transposed, the other rows zero. -/
def vt1 (x : FVec F S128x128 .bf16) : FVec F S1x1x144x128 .bf16 :=
  vtCat (truncf .bf16 (select (cmpi .slt (iota .tc S128x128 32 [0] (by decide)) (broadcast S128x128 64#32))
    (broadcast S128x128 (FloatOps.ofBits .f32 0x00000000#32 : F .f32)) (transpose S128x128 [1, 0] (extf .f32 x bitsLt_bf16_f32) transposes_S128x128_p1_0_S128x128)) bitsLt_bf16_f32) 1#32

/-- The transposed values' pieces, last stored first; `x b` is the `b`-th block of rows. -/
def vtList (x : Fin 16 → FVec F S128x128 .bf16) : List (View.Piece (Elt F) S2x18x144x128 .bf16) :=
  [⟨Rect.unit (s := S2x18x144x128) ![1, 16, 0, 0] S1x1x144x128.size (by decide), vt1 (x 15)⟩,
   ⟨Rect.unit (s := S2x18x144x128) ![0, 16, 0, 0] S1x1x144x128.size (by decide), vt0 (x 15)⟩,
   ⟨Rect.unit (s := S2x18x144x128) ![1, 15, 0, 0] S1x1x144x128.size (by decide), vt1 (x 14)⟩,
   ⟨Rect.unit (s := S2x18x144x128) ![0, 15, 0, 0] S1x1x144x128.size (by decide), vt0 (x 14)⟩,
   ⟨Rect.unit (s := S2x18x144x128) ![1, 14, 0, 0] S1x1x144x128.size (by decide), vt1 (x 13)⟩,
   ⟨Rect.unit (s := S2x18x144x128) ![0, 14, 0, 0] S1x1x144x128.size (by decide), vt0 (x 13)⟩,
   ⟨Rect.unit (s := S2x18x144x128) ![1, 13, 0, 0] S1x1x144x128.size (by decide), vt1 (x 12)⟩,
   ⟨Rect.unit (s := S2x18x144x128) ![0, 13, 0, 0] S1x1x144x128.size (by decide), vt0 (x 12)⟩,
   ⟨Rect.unit (s := S2x18x144x128) ![1, 12, 0, 0] S1x1x144x128.size (by decide), vt1 (x 11)⟩,
   ⟨Rect.unit (s := S2x18x144x128) ![0, 12, 0, 0] S1x1x144x128.size (by decide), vt0 (x 11)⟩,
   ⟨Rect.unit (s := S2x18x144x128) ![1, 11, 0, 0] S1x1x144x128.size (by decide), vt1 (x 10)⟩,
   ⟨Rect.unit (s := S2x18x144x128) ![0, 11, 0, 0] S1x1x144x128.size (by decide), vt0 (x 10)⟩,
   ⟨Rect.unit (s := S2x18x144x128) ![1, 10, 0, 0] S1x1x144x128.size (by decide), vt1 (x 9)⟩,
   ⟨Rect.unit (s := S2x18x144x128) ![0, 10, 0, 0] S1x1x144x128.size (by decide), vt0 (x 9)⟩,
   ⟨Rect.unit (s := S2x18x144x128) ![1, 9, 0, 0] S1x1x144x128.size (by decide), vt1 (x 8)⟩,
   ⟨Rect.unit (s := S2x18x144x128) ![0, 9, 0, 0] S1x1x144x128.size (by decide), vt0 (x 8)⟩,
   ⟨Rect.unit (s := S2x18x144x128) ![1, 8, 0, 0] S1x1x144x128.size (by decide), vt1 (x 7)⟩,
   ⟨Rect.unit (s := S2x18x144x128) ![0, 8, 0, 0] S1x1x144x128.size (by decide), vt0 (x 7)⟩,
   ⟨Rect.unit (s := S2x18x144x128) ![1, 7, 0, 0] S1x1x144x128.size (by decide), vt1 (x 6)⟩,
   ⟨Rect.unit (s := S2x18x144x128) ![0, 7, 0, 0] S1x1x144x128.size (by decide), vt0 (x 6)⟩,
   ⟨Rect.unit (s := S2x18x144x128) ![1, 6, 0, 0] S1x1x144x128.size (by decide), vt1 (x 5)⟩,
   ⟨Rect.unit (s := S2x18x144x128) ![0, 6, 0, 0] S1x1x144x128.size (by decide), vt0 (x 5)⟩,
   ⟨Rect.unit (s := S2x18x144x128) ![1, 5, 0, 0] S1x1x144x128.size (by decide), vt1 (x 4)⟩,
   ⟨Rect.unit (s := S2x18x144x128) ![0, 5, 0, 0] S1x1x144x128.size (by decide), vt0 (x 4)⟩,
   ⟨Rect.unit (s := S2x18x144x128) ![1, 4, 0, 0] S1x1x144x128.size (by decide), vt1 (x 3)⟩,
   ⟨Rect.unit (s := S2x18x144x128) ![0, 4, 0, 0] S1x1x144x128.size (by decide), vt0 (x 3)⟩,
   ⟨Rect.unit (s := S2x18x144x128) ![1, 3, 0, 0] S1x1x144x128.size (by decide), vt1 (x 2)⟩,
   ⟨Rect.unit (s := S2x18x144x128) ![0, 3, 0, 0] S1x1x144x128.size (by decide), vt0 (x 2)⟩,
   ⟨Rect.unit (s := S2x18x144x128) ![1, 2, 0, 0] S1x1x144x128.size (by decide), vt1 (x 1)⟩,
   ⟨Rect.unit (s := S2x18x144x128) ![0, 2, 0, 0] S1x1x144x128.size (by decide), vt0 (x 1)⟩,
   ⟨Rect.unit (s := S2x18x144x128) ![1, 1, 0, 0] S1x1x144x128.size (by decide), vt1 (x 0)⟩,
   ⟨Rect.unit (s := S2x18x144x128) ![0, 1, 0, 0] S1x1x144x128.size (by decide), vt0 (x 0)⟩,
   ⟨Rect.unit (s := S2x18x144x128) ![1, 17, 0, 0] S1x1x144x128.size (by decide), vtCat zBlk 1#32⟩,
   ⟨Rect.unit (s := S2x18x144x128) ![1, 0, 0, 0] S1x1x144x128.size (by decide), vtCat zBlk 1#32⟩,
   ⟨Rect.unit (s := S2x18x144x128) ![0, 17, 0, 0] S1x1x144x128.size (by decide), vtCat zBlk 0#32⟩,
   ⟨Rect.unit (s := S2x18x144x128) ![0, 0, 0, 0] S1x1x144x128.size (by decide), vtCat zBlk 0#32⟩]

/-- The padded keys the prologue stores. -/
def iniK (arg3 : Memref sig .tc .vmem S2048x128 .bf16) (X3 : BufTy.Contents (Elt F) arg3.view.ty) : List (View.Piece (Elt F) S2x2304x128 .bf16) :=
  kzList (View.readAt (Elt F) arg3.view (Rect.unit (s := S2048x128) ![0, 0] S2048x128.size (by decide)).toLoadRect X3)

/-- The transposed values the prologue stores. -/
def iniV (arg4 : Memref sig .tc .vmem S2048x128 .bf16) (X4 : BufTy.Contents (Elt F) arg4.view.ty) : List (View.Piece (Elt F) S2x18x144x128 .bf16) :=
  vtList ![(View.readAt (Elt F) arg4.view (Rect.unit (s := S2048x128) ![0, 0] S128x128.size (by decide)).toLoadRect X4), (View.readAt (Elt F) arg4.view (Rect.unit (s := S2048x128) ![128, 0] S128x128.size (by decide)).toLoadRect X4), (View.readAt (Elt F) arg4.view (Rect.unit (s := S2048x128) ![256, 0] S128x128.size (by decide)).toLoadRect X4), (View.readAt (Elt F) arg4.view (Rect.unit (s := S2048x128) ![384, 0] S128x128.size (by decide)).toLoadRect X4), (View.readAt (Elt F) arg4.view (Rect.unit (s := S2048x128) ![512, 0] S128x128.size (by decide)).toLoadRect X4), (View.readAt (Elt F) arg4.view (Rect.unit (s := S2048x128) ![640, 0] S128x128.size (by decide)).toLoadRect X4), (View.readAt (Elt F) arg4.view (Rect.unit (s := S2048x128) ![768, 0] S128x128.size (by decide)).toLoadRect X4), (View.readAt (Elt F) arg4.view (Rect.unit (s := S2048x128) ![896, 0] S128x128.size (by decide)).toLoadRect X4), (View.readAt (Elt F) arg4.view (Rect.unit (s := S2048x128) ![1024, 0] S128x128.size (by decide)).toLoadRect X4), (View.readAt (Elt F) arg4.view (Rect.unit (s := S2048x128) ![1152, 0] S128x128.size (by decide)).toLoadRect X4), (View.readAt (Elt F) arg4.view (Rect.unit (s := S2048x128) ![1280, 0] S128x128.size (by decide)).toLoadRect X4), (View.readAt (Elt F) arg4.view (Rect.unit (s := S2048x128) ![1408, 0] S128x128.size (by decide)).toLoadRect X4), (View.readAt (Elt F) arg4.view (Rect.unit (s := S2048x128) ![1536, 0] S128x128.size (by decide)).toLoadRect X4), (View.readAt (Elt F) arg4.view (Rect.unit (s := S2048x128) ![1664, 0] S128x128.size (by decide)).toLoadRect X4), (View.readAt (Elt F) arg4.view (Rect.unit (s := S2048x128) ![1792, 0] S128x128.size (by decide)).toLoadRect X4), (View.readAt (Elt F) arg4.view (Rect.unit (s := S2048x128) ![1920, 0] S128x128.size (by decide)).toLoadRect X4)]

/-- The scores of the first query block. -/
def ini13 (arg2 : Memref sig .tc .vmem S16x512x128 .bf16) (arg3 : Memref sig .tc .vmem S2048x128 .bf16) (arg5 : Memref sig .tc .vmem S8x384x128 .f32) (arg11 : Memref sig .tc .vmem S2x2304x128 .bf16) (X2 : BufTy.Contents (Elt F) arg2.view.ty) (X3 : BufTy.Contents (Elt F) arg3.view.ty) (X5 : BufTy.Contents (Elt F) arg5.view.ty) : List (View.Piece (Elt F) S2x768x256 .f32) :=
  scList (prod0 (View.readAt (Elt F) arg2.view (Rect.unit (s := S16x512x128) ![0, 0, 0] S1x512x128.size (by decide)).toLoadRect X2) (arg11.view.readCov (iniK arg3 X3) (Rect.unit (s := S2x2304x128) ![0, 0, 0] S1x384x128.size (by decide)).toLoadRect) (arg11.view.readCov (iniK arg3 X3) (Rect.unit (s := S2x2304x128) ![1, 0, 0] S1x384x128.size (by decide)).toLoadRect)) (prod1 (View.readAt (Elt F) arg2.view (Rect.unit (s := S16x512x128) ![0, 0, 0] S1x512x128.size (by decide)).toLoadRect X2) (arg11.view.readCov (iniK arg3 X3) (Rect.unit (s := S2x2304x128) ![0, 0, 0] S1x384x128.size (by decide)).toLoadRect) (arg11.view.readCov (iniK arg3 X3) (Rect.unit (s := S2x2304x128) ![1, 0, 0] S1x384x128.size (by decide)).toLoadRect)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)

/-- The scores of the second query block. -/
def ini14 (arg2 : Memref sig .tc .vmem S16x512x128 .bf16) (arg3 : Memref sig .tc .vmem S2048x128 .bf16) (arg5 : Memref sig .tc .vmem S8x384x128 .f32) (arg11 : Memref sig .tc .vmem S2x2304x128 .bf16) (X2 : BufTy.Contents (Elt F) arg2.view.ty) (X3 : BufTy.Contents (Elt F) arg3.view.ty) (X5 : BufTy.Contents (Elt F) arg5.view.ty) : List (View.Piece (Elt F) S2x768x256 .f32) :=
  scList (prod0 (View.readAt (Elt F) arg2.view (Rect.unit (s := S16x512x128) ![1, 0, 0] S1x512x128.size (by decide)).toLoadRect X2) (arg11.view.readCov (iniK arg3 X3) (Rect.unit (s := S2x2304x128) ![0, 128, 0] S1x384x128.size (by decide)).toLoadRect) (arg11.view.readCov (iniK arg3 X3) (Rect.unit (s := S2x2304x128) ![1, 128, 0] S1x384x128.size (by decide)).toLoadRect)) (prod1 (View.readAt (Elt F) arg2.view (Rect.unit (s := S16x512x128) ![1, 0, 0] S1x512x128.size (by decide)).toLoadRect X2) (arg11.view.readCov (iniK arg3 X3) (Rect.unit (s := S2x2304x128) ![0, 128, 0] S1x384x128.size (by decide)).toLoadRect) (arg11.view.readCov (iniK arg3 X3) (Rect.unit (s := S2x2304x128) ![1, 128, 0] S1x384x128.size (by decide)).toLoadRect)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)

/-- The probabilities of the first query block. -/
def ini15 (arg1 : Memref sig .tc .smem S8 .f32) (arg2 : Memref sig .tc .vmem S16x512x128 .bf16) (arg3 : Memref sig .tc .vmem S2048x128 .bf16) (arg5 : Memref sig .tc .vmem S8x384x128 .f32) (arg11 : Memref sig .tc .vmem S2x2304x128 .bf16) (arg13 : Memref sig .tc .vmem S2x768x256 .f32) (X1 : BufTy.Contents (Elt F) arg1.view.ty) (X2 : BufTy.Contents (Elt F) arg2.view.ty) (X3 : BufTy.Contents (Elt F) arg3.view.ty) (X5 : BufTy.Contents (Elt F) arg5.view.ty) : List (View.Piece (Elt F) S2x768x256 .bf16) :=
  smPList (tileFst (broadcast S128x128 (FloatOps.ofBits .f32 0xFF800000#32 : F .f32)) (arg13.view.readCov (ini13 arg2 arg3 arg5 arg11 X2 X3 X5) (Rect.unit (s := S2x768x256) ![0, 0, 0] S1x384x128.size inb_S2x768x256_S1x384x128_0_0_0).toLoadRect)) (tileFst (broadcast S128x128 (FloatOps.ofBits .f32 0xFF800000#32 : F .f32)) (arg13.view.readCov (ini13 arg2 arg3 arg5 arg11 X2 X3 X5) (Rect.unit (s := S2x768x256) ![0, 0, 128] S1x384x128.size inb_S2x768x256_S1x384x128_0_0_128).toLoadRect)) (tileFst (broadcast S128x128 (FloatOps.ofBits .f32 0xFF800000#32 : F .f32)) (arg13.view.readCov (ini13 arg2 arg3 arg5 arg11 X2 X3 X5) (Rect.unit (s := S2x768x256) ![0, 384, 0] S1x384x128.size inb_S2x768x256_S1x384x128_0_384_0).toLoadRect)) (tileFst (broadcast S128x128 (FloatOps.ofBits .f32 0xFF800000#32 : F .f32)) (arg13.view.readCov (ini13 arg2 arg3 arg5 arg11 X2 X3 X5) (Rect.unit (s := S2x768x256) ![0, 384, 128] S1x384x128.size inb_S2x768x256_S1x384x128_0_384_128).toLoadRect)) (tileFst (broadcast S128x128 (FloatOps.ofBits .f32 0xFF800000#32 : F .f32)) (arg13.view.readCov (ini13 arg2 arg3 arg5 arg11 X2 X3 X5) (Rect.unit (s := S2x768x256) ![1, 0, 0] S1x384x128.size inb_S2x768x256_S1x384x128_1_0_0).toLoadRect)) (tileFst (broadcast S128x128 (FloatOps.ofBits .f32 0xFF800000#32 : F .f32)) (arg13.view.readCov (ini13 arg2 arg3 arg5 arg11 X2 X3 X5) (Rect.unit (s := S2x768x256) ![1, 0, 128] S1x384x128.size inb_S2x768x256_S1x384x128_1_0_128).toLoadRect)) (tileFst (broadcast S128x128 (FloatOps.ofBits .f32 0xFF800000#32 : F .f32)) (arg13.view.readCov (ini13 arg2 arg3 arg5 arg11 X2 X3 X5) (Rect.unit (s := S2x768x256) ![1, 384, 0] S1x384x128.size inb_S2x768x256_S1x384x128_1_384_0).toLoadRect)) (tileFst (broadcast S128x128 (FloatOps.ofBits .f32 0xFF800000#32 : F .f32)) (arg13.view.readCov (ini13 arg2 arg3 arg5 arg11 X2 X3 X5) (Rect.unit (s := S2x768x256) ![1, 384, 128] S1x384x128.size inb_S2x768x256_S1x384x128_1_384_128).toLoadRect)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))

/-- The sink weights of the first query block. -/
def ini17 (arg1 : Memref sig .tc .smem S8 .f32) (arg2 : Memref sig .tc .vmem S16x512x128 .bf16) (arg3 : Memref sig .tc .vmem S2048x128 .bf16) (arg5 : Memref sig .tc .vmem S8x384x128 .f32) (arg11 : Memref sig .tc .vmem S2x2304x128 .bf16) (arg13 : Memref sig .tc .vmem S2x768x256 .f32) (X1 : BufTy.Contents (Elt F) arg1.view.ty) (X2 : BufTy.Contents (Elt F) arg2.view.ty) (X3 : BufTy.Contents (Elt F) arg3.view.ty) (X5 : BufTy.Contents (Elt F) arg5.view.ty) : List (View.Piece (Elt F) S2x8x256 .f32) :=
  smLList (tileFst (broadcast S128x128 (FloatOps.ofBits .f32 0xFF800000#32 : F .f32)) (arg13.view.readCov (ini13 arg2 arg3 arg5 arg11 X2 X3 X5) (Rect.unit (s := S2x768x256) ![0, 0, 0] S1x384x128.size inb_S2x768x256_S1x384x128_0_0_0).toLoadRect)) (tileFst (broadcast S128x128 (FloatOps.ofBits .f32 0xFF800000#32 : F .f32)) (arg13.view.readCov (ini13 arg2 arg3 arg5 arg11 X2 X3 X5) (Rect.unit (s := S2x768x256) ![0, 0, 128] S1x384x128.size inb_S2x768x256_S1x384x128_0_0_128).toLoadRect)) (tileFst (broadcast S128x128 (FloatOps.ofBits .f32 0xFF800000#32 : F .f32)) (arg13.view.readCov (ini13 arg2 arg3 arg5 arg11 X2 X3 X5) (Rect.unit (s := S2x768x256) ![0, 384, 0] S1x384x128.size inb_S2x768x256_S1x384x128_0_384_0).toLoadRect)) (tileFst (broadcast S128x128 (FloatOps.ofBits .f32 0xFF800000#32 : F .f32)) (arg13.view.readCov (ini13 arg2 arg3 arg5 arg11 X2 X3 X5) (Rect.unit (s := S2x768x256) ![0, 384, 128] S1x384x128.size inb_S2x768x256_S1x384x128_0_384_128).toLoadRect)) (tileFst (broadcast S128x128 (FloatOps.ofBits .f32 0xFF800000#32 : F .f32)) (arg13.view.readCov (ini13 arg2 arg3 arg5 arg11 X2 X3 X5) (Rect.unit (s := S2x768x256) ![1, 0, 0] S1x384x128.size inb_S2x768x256_S1x384x128_1_0_0).toLoadRect)) (tileFst (broadcast S128x128 (FloatOps.ofBits .f32 0xFF800000#32 : F .f32)) (arg13.view.readCov (ini13 arg2 arg3 arg5 arg11 X2 X3 X5) (Rect.unit (s := S2x768x256) ![1, 0, 128] S1x384x128.size inb_S2x768x256_S1x384x128_1_0_128).toLoadRect)) (tileFst (broadcast S128x128 (FloatOps.ofBits .f32 0xFF800000#32 : F .f32)) (arg13.view.readCov (ini13 arg2 arg3 arg5 arg11 X2 X3 X5) (Rect.unit (s := S2x768x256) ![1, 384, 0] S1x384x128.size inb_S2x768x256_S1x384x128_1_384_0).toLoadRect)) (tileFst (broadcast S128x128 (FloatOps.ofBits .f32 0xFF800000#32 : F .f32)) (arg13.view.readCov (ini13 arg2 arg3 arg5 arg11 X2 X3 X5) (Rect.unit (s := S2x768x256) ![1, 384, 128] S1x384x128.size inb_S2x768x256_S1x384x128_1_384_128).toLoadRect)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))

/-- The state the loop starts from. -/
def ini (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec F S8 .f32) (x1 : Vec F S16x512x128 .bf16) (x2 : Vec F S2048x128 .bf16) (x3 : Vec F S2048x128 .bf16) (x4 : Vec F S8x384x128 .f32) (f8 : BufTy.Contents (Elt F) arg8.view.ty) (f16 : BufTy.Contents (Elt F) arg16.view.ty) (f17 : BufTy.Contents (Elt F) arg17.view.ty) (f18 : BufTy.Contents (Elt F) arg18.view.ty) : St (F := F) arg8 arg13 arg14 arg15 arg16 arg17 arg18 :=
  (f8, (arg13.view.writes (Elt F) arg13.view.junk (ini13 arg2 arg3 arg5 arg11 (harg2.unread x1) (harg3.unread x2) (harg5.unread x4))), (arg14.view.writes (Elt F) arg14.view.junk (ini14 arg2 arg3 arg5 arg11 (harg2.unread x1) (harg3.unread x2) (harg5.unread x4))), (arg15.view.writes (Elt F) arg15.view.junk (ini15 arg1 arg2 arg3 arg5 arg11 arg13 (harg1.unread x0) (harg2.unread x1) (harg3.unread x2) (harg5.unread x4))), f16, (arg17.view.writes (Elt F) f17 (ini17 arg1 arg2 arg3 arg5 arg11 arg13 (harg1.unread x0) (harg2.unread x1) (harg3.unread x2) (harg5.unread x4))), f18)

/-- The state before trip `k` of the run's loop. -/
def mid (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec F S8 .f32) (x1 : Vec F S16x512x128 .bf16) (x2 : Vec F S2048x128 .bf16) (x3 : Vec F S2048x128 .bf16) (x4 : Vec F S8x384x128 .f32) (f8 : BufTy.Contents (Elt F) arg8.view.ty) (f16 : BufTy.Contents (Elt F) arg16.view.ty) (f17 : BufTy.Contents (Elt F) arg17.view.ty) (f18 : BufTy.Contents (Elt F) arg18.view.ty) (k : ℕ) : St (F := F) arg8 arg13 arg14 arg15 arg16 arg17 arg18 :=
  st Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) (ini c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18) k

/-- The output block as the epilogue leaves it, from what the loop leaves. -/
def epi (arg1 : Memref sig .tc .smem S8 .f32) (arg4 : Memref sig .tc .vmem S2048x128 .bf16) (arg8 : Memref sig .tc .vmem S2048x512 .bf16) (arg12 : Memref sig .tc .vmem S2x18x144x128 .bf16) (arg14 : Memref sig .tc .vmem S2x768x256 .f32) (arg15 : Memref sig .tc .vmem S2x768x256 .bf16) (arg16 : Memref sig .tc .vmem S2x768x256 .bf16) (arg17 : Memref sig .tc .vmem S2x8x256 .f32) (arg18 : Memref sig .tc .vmem S2x8x256 .f32) (X1 : BufTy.Contents (Elt F) arg1.view.ty) (X4 : BufTy.Contents (Elt F) arg4.view.ty) (g8 : BufTy.Contents (Elt F) arg8.view.ty) (g14 : BufTy.Contents (Elt F) arg14.view.ty) (g15 : BufTy.Contents (Elt F) arg15.view.ty) (g17 : BufTy.Contents (Elt F) arg17.view.ty) : BufTy.Contents (Elt F) arg8.view.ty :=
  arg8.view.writes (Elt F) g8 (pvList ![1920, 0] ![1920, 128] ![1920, 256] ![1920, 384] (by decide) (by decide) (by decide) (by decide) (iota .tc S128x256 32 [0] (by decide)) (vals (arg12.view.readCov (iniV arg4 X4) (Rect.unit (s := S2x18x144x128) ![0, 15, 0, 0] S1x1x144x128.size (by decide)).toLoadRect) (arg12.view.readCov (iniV arg4 X4) (Rect.unit (s := S2x18x144x128) ![0, 16, 0, 0] S1x1x144x128.size (by decide)).toLoadRect) (arg12.view.readCov (iniV arg4 X4) (Rect.unit (s := S2x18x144x128) ![0, 17, 0, 0] S1x1x144x128.size (by decide)).toLoadRect) (arg12.view.readCov (iniV arg4 X4) (Rect.unit (s := S2x18x144x128) ![1, 15, 0, 0] S1x1x144x128.size (by decide)).toLoadRect) (arg12.view.readCov (iniV arg4 X4) (Rect.unit (s := S2x18x144x128) ![1, 16, 0, 0] S1x1x144x128.size (by decide)).toLoadRect) (arg12.view.readCov (iniV arg4 X4) (Rect.unit (s := S2x18x144x128) ![1, 17, 0, 0] S1x1x144x128.size (by decide)).toLoadRect)) (arg16.view.readCov (smPList (tileLst (broadcast S128x128 (FloatOps.ofBits .f32 0xFF800000#32 : F .f32)) (View.readAt (Elt F) arg14.view (Rect.unit (s := S2x768x256) ![0, 0, 0] S1x384x128.size inb_S2x768x256_S1x384x128_0_0_0).toLoadRect g14)) (tileLst (broadcast S128x128 (FloatOps.ofBits .f32 0xFF800000#32 : F .f32)) (View.readAt (Elt F) arg14.view (Rect.unit (s := S2x768x256) ![0, 0, 128] S1x384x128.size inb_S2x768x256_S1x384x128_0_0_128).toLoadRect g14)) (tileLst (broadcast S128x128 (FloatOps.ofBits .f32 0xFF800000#32 : F .f32)) (View.readAt (Elt F) arg14.view (Rect.unit (s := S2x768x256) ![0, 384, 0] S1x384x128.size inb_S2x768x256_S1x384x128_0_384_0).toLoadRect g14)) (tileLst (broadcast S128x128 (FloatOps.ofBits .f32 0xFF800000#32 : F .f32)) (View.readAt (Elt F) arg14.view (Rect.unit (s := S2x768x256) ![0, 384, 128] S1x384x128.size inb_S2x768x256_S1x384x128_0_384_128).toLoadRect g14)) (tileLst (broadcast S128x128 (FloatOps.ofBits .f32 0xFF800000#32 : F .f32)) (View.readAt (Elt F) arg14.view (Rect.unit (s := S2x768x256) ![1, 0, 0] S1x384x128.size inb_S2x768x256_S1x384x128_1_0_0).toLoadRect g14)) (tileLst (broadcast S128x128 (FloatOps.ofBits .f32 0xFF800000#32 : F .f32)) (View.readAt (Elt F) arg14.view (Rect.unit (s := S2x768x256) ![1, 0, 128] S1x384x128.size inb_S2x768x256_S1x384x128_1_0_128).toLoadRect g14)) (tileLst (broadcast S128x128 (FloatOps.ofBits .f32 0xFF800000#32 : F .f32)) (View.readAt (Elt F) arg14.view (Rect.unit (s := S2x768x256) ![1, 384, 0] S1x384x128.size inb_S2x768x256_S1x384x128_1_384_0).toLoadRect g14)) (tileLst (broadcast S128x128 (FloatOps.ofBits .f32 0xFF800000#32 : F .f32)) (View.readAt (Elt F) arg14.view (Rect.unit (s := S2x768x256) ![1, 384, 128] S1x384x128.size inb_S2x768x256_S1x384x128_1_384_128).toLoadRect g14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x768x256) ![0, 0, 0] S1x768x256.size inb_S2x768x256_S1x768x256_0_0_0).toLoadRect) (arg16.view.readCov (smPList (tileLst (broadcast S128x128 (FloatOps.ofBits .f32 0xFF800000#32 : F .f32)) (View.readAt (Elt F) arg14.view (Rect.unit (s := S2x768x256) ![0, 0, 0] S1x384x128.size inb_S2x768x256_S1x384x128_0_0_0).toLoadRect g14)) (tileLst (broadcast S128x128 (FloatOps.ofBits .f32 0xFF800000#32 : F .f32)) (View.readAt (Elt F) arg14.view (Rect.unit (s := S2x768x256) ![0, 0, 128] S1x384x128.size inb_S2x768x256_S1x384x128_0_0_128).toLoadRect g14)) (tileLst (broadcast S128x128 (FloatOps.ofBits .f32 0xFF800000#32 : F .f32)) (View.readAt (Elt F) arg14.view (Rect.unit (s := S2x768x256) ![0, 384, 0] S1x384x128.size inb_S2x768x256_S1x384x128_0_384_0).toLoadRect g14)) (tileLst (broadcast S128x128 (FloatOps.ofBits .f32 0xFF800000#32 : F .f32)) (View.readAt (Elt F) arg14.view (Rect.unit (s := S2x768x256) ![0, 384, 128] S1x384x128.size inb_S2x768x256_S1x384x128_0_384_128).toLoadRect g14)) (tileLst (broadcast S128x128 (FloatOps.ofBits .f32 0xFF800000#32 : F .f32)) (View.readAt (Elt F) arg14.view (Rect.unit (s := S2x768x256) ![1, 0, 0] S1x384x128.size inb_S2x768x256_S1x384x128_1_0_0).toLoadRect g14)) (tileLst (broadcast S128x128 (FloatOps.ofBits .f32 0xFF800000#32 : F .f32)) (View.readAt (Elt F) arg14.view (Rect.unit (s := S2x768x256) ![1, 0, 128] S1x384x128.size inb_S2x768x256_S1x384x128_1_0_128).toLoadRect g14)) (tileLst (broadcast S128x128 (FloatOps.ofBits .f32 0xFF800000#32 : F .f32)) (View.readAt (Elt F) arg14.view (Rect.unit (s := S2x768x256) ![1, 384, 0] S1x384x128.size inb_S2x768x256_S1x384x128_1_384_0).toLoadRect g14)) (tileLst (broadcast S128x128 (FloatOps.ofBits .f32 0xFF800000#32 : F .f32)) (View.readAt (Elt F) arg14.view (Rect.unit (s := S2x768x256) ![1, 384, 128] S1x384x128.size inb_S2x768x256_S1x384x128_1_384_128).toLoadRect g14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x768x256) ![1, 0, 0] S1x768x256.size inb_S2x768x256_S1x768x256_1_0_0).toLoadRect) (arg18.view.readCov (smLList (tileLst (broadcast S128x128 (FloatOps.ofBits .f32 0xFF800000#32 : F .f32)) (View.readAt (Elt F) arg14.view (Rect.unit (s := S2x768x256) ![0, 0, 0] S1x384x128.size inb_S2x768x256_S1x384x128_0_0_0).toLoadRect g14)) (tileLst (broadcast S128x128 (FloatOps.ofBits .f32 0xFF800000#32 : F .f32)) (View.readAt (Elt F) arg14.view (Rect.unit (s := S2x768x256) ![0, 0, 128] S1x384x128.size inb_S2x768x256_S1x384x128_0_0_128).toLoadRect g14)) (tileLst (broadcast S128x128 (FloatOps.ofBits .f32 0xFF800000#32 : F .f32)) (View.readAt (Elt F) arg14.view (Rect.unit (s := S2x768x256) ![0, 384, 0] S1x384x128.size inb_S2x768x256_S1x384x128_0_384_0).toLoadRect g14)) (tileLst (broadcast S128x128 (FloatOps.ofBits .f32 0xFF800000#32 : F .f32)) (View.readAt (Elt F) arg14.view (Rect.unit (s := S2x768x256) ![0, 384, 128] S1x384x128.size inb_S2x768x256_S1x384x128_0_384_128).toLoadRect g14)) (tileLst (broadcast S128x128 (FloatOps.ofBits .f32 0xFF800000#32 : F .f32)) (View.readAt (Elt F) arg14.view (Rect.unit (s := S2x768x256) ![1, 0, 0] S1x384x128.size inb_S2x768x256_S1x384x128_1_0_0).toLoadRect g14)) (tileLst (broadcast S128x128 (FloatOps.ofBits .f32 0xFF800000#32 : F .f32)) (View.readAt (Elt F) arg14.view (Rect.unit (s := S2x768x256) ![1, 0, 128] S1x384x128.size inb_S2x768x256_S1x384x128_1_0_128).toLoadRect g14)) (tileLst (broadcast S128x128 (FloatOps.ofBits .f32 0xFF800000#32 : F .f32)) (View.readAt (Elt F) arg14.view (Rect.unit (s := S2x768x256) ![1, 384, 0] S1x384x128.size inb_S2x768x256_S1x384x128_1_384_0).toLoadRect g14)) (tileLst (broadcast S128x128 (FloatOps.ofBits .f32 0xFF800000#32 : F .f32)) (View.readAt (Elt F) arg14.view (Rect.unit (s := S2x768x256) ![1, 384, 128] S1x384x128.size inb_S2x768x256_S1x384x128_1_384_128).toLoadRect g14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x8x256) ![0, 0, 0] S1x2x256.size inb_S2x8x256_S1x2x256_0_0_0).toLoadRect) (arg18.view.readCov (smLList (tileLst (broadcast S128x128 (FloatOps.ofBits .f32 0xFF800000#32 : F .f32)) (View.readAt (Elt F) arg14.view (Rect.unit (s := S2x768x256) ![0, 0, 0] S1x384x128.size inb_S2x768x256_S1x384x128_0_0_0).toLoadRect g14)) (tileLst (broadcast S128x128 (FloatOps.ofBits .f32 0xFF800000#32 : F .f32)) (View.readAt (Elt F) arg14.view (Rect.unit (s := S2x768x256) ![0, 0, 128] S1x384x128.size inb_S2x768x256_S1x384x128_0_0_128).toLoadRect g14)) (tileLst (broadcast S128x128 (FloatOps.ofBits .f32 0xFF800000#32 : F .f32)) (View.readAt (Elt F) arg14.view (Rect.unit (s := S2x768x256) ![0, 384, 0] S1x384x128.size inb_S2x768x256_S1x384x128_0_384_0).toLoadRect g14)) (tileLst (broadcast S128x128 (FloatOps.ofBits .f32 0xFF800000#32 : F .f32)) (View.readAt (Elt F) arg14.view (Rect.unit (s := S2x768x256) ![0, 384, 128] S1x384x128.size inb_S2x768x256_S1x384x128_0_384_128).toLoadRect g14)) (tileLst (broadcast S128x128 (FloatOps.ofBits .f32 0xFF800000#32 : F .f32)) (View.readAt (Elt F) arg14.view (Rect.unit (s := S2x768x256) ![1, 0, 0] S1x384x128.size inb_S2x768x256_S1x384x128_1_0_0).toLoadRect g14)) (tileLst (broadcast S128x128 (FloatOps.ofBits .f32 0xFF800000#32 : F .f32)) (View.readAt (Elt F) arg14.view (Rect.unit (s := S2x768x256) ![1, 0, 128] S1x384x128.size inb_S2x768x256_S1x384x128_1_0_128).toLoadRect g14)) (tileLst (broadcast S128x128 (FloatOps.ofBits .f32 0xFF800000#32 : F .f32)) (View.readAt (Elt F) arg14.view (Rect.unit (s := S2x768x256) ![1, 384, 0] S1x384x128.size inb_S2x768x256_S1x384x128_1_384_0).toLoadRect g14)) (tileLst (broadcast S128x128 (FloatOps.ofBits .f32 0xFF800000#32 : F .f32)) (View.readAt (Elt F) arg14.view (Rect.unit (s := S2x768x256) ![1, 384, 128] S1x384x128.size inb_S2x768x256_S1x384x128_1_384_128).toLoadRect g14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x8x256) ![1, 0, 0] S1x2x256.size inb_S2x8x256_S1x2x256_1_0_0).toLoadRect) (pvList ![1792, 0] ![1792, 128] ![1792, 256] ![1792, 384] (by decide) (by decide) (by decide) (by decide) (iota .tc S128x256 32 [0] (by decide)) (vals (arg12.view.readCov (iniV arg4 X4) (Rect.unit (s := S2x18x144x128) ![0, 14, 0, 0] S1x1x144x128.size (by decide)).toLoadRect) (arg12.view.readCov (iniV arg4 X4) (Rect.unit (s := S2x18x144x128) ![0, 15, 0, 0] S1x1x144x128.size (by decide)).toLoadRect) (arg12.view.readCov (iniV arg4 X4) (Rect.unit (s := S2x18x144x128) ![0, 16, 0, 0] S1x1x144x128.size (by decide)).toLoadRect) (arg12.view.readCov (iniV arg4 X4) (Rect.unit (s := S2x18x144x128) ![1, 14, 0, 0] S1x1x144x128.size (by decide)).toLoadRect) (arg12.view.readCov (iniV arg4 X4) (Rect.unit (s := S2x18x144x128) ![1, 15, 0, 0] S1x1x144x128.size (by decide)).toLoadRect) (arg12.view.readCov (iniV arg4 X4) (Rect.unit (s := S2x18x144x128) ![1, 16, 0, 0] S1x1x144x128.size (by decide)).toLoadRect)) (View.readAt (Elt F) arg15.view (Rect.unit (s := S2x768x256) ![0, 0, 0] S1x768x256.size inb_S2x768x256_S1x768x256_0_0_0).toLoadRect g15) (View.readAt (Elt F) arg15.view (Rect.unit (s := S2x768x256) ![1, 0, 0] S1x768x256.size inb_S2x768x256_S1x768x256_1_0_0).toLoadRect g15) (View.readAt (Elt F) arg17.view (Rect.unit (s := S2x8x256) ![0, 0, 0] S1x2x256.size inb_S2x8x256_S1x2x256_0_0_0).toLoadRect g17) (View.readAt (Elt F) arg17.view (Rect.unit (s := S2x8x256) ![1, 0, 0] S1x2x256.size inb_S2x8x256_S1x2x256_1_0_0).toLoadRect g17) ([])))

set_option maxHeartbeats 2000000 in
theorem run_rec (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec F S8 .f32) (x1 : Vec F S16x512x128 .bf16) (x2 : Vec F S2048x128 .bf16) (x3 : Vec F S2048x128 .bf16) (x4 : Vec F S8x384x128 .f32) (x5 : Vec F S64x4096 .f32) (x6 : Vec F S256x1024 .f32) (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1 f8 f11 f12 f13 f14 f15 f16 f17 f18 =
      epi arg1 arg4 arg8 arg12 arg14 arg15 arg16 arg17 arg18 (harg1.unread x0) (harg4.unread x3) (Nat.rec (motive := fun _ => BufTy.Contents (Elt F) arg8.view.ty) f8 (fun j _ => (st Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) (f8, (arg13.view.writes (Elt F) arg13.view.junk (ini13 arg2 arg3 arg5 arg11 (harg2.unread x1) (harg3.unread x2) (harg5.unread x4))), (arg14.view.writes (Elt F) arg14.view.junk (ini14 arg2 arg3 arg5 arg11 (harg2.unread x1) (harg3.unread x2) (harg5.unread x4))), (arg15.view.writes (Elt F) arg15.view.junk (ini15 arg1 arg2 arg3 arg5 arg11 arg13 (harg1.unread x0) (harg2.unread x1) (harg3.unread x2) (harg5.unread x4))), f16, (arg17.view.writes (Elt F) f17 (ini17 arg1 arg2 arg3 arg5 arg11 arg13 (harg1.unread x0) (harg2.unread x1) (harg3.unread x2) (harg5.unread x4))), f18) (j + 1)).1) (Scf.trips k0_t1_loop.lb k0_t1_loop.ub k0_t1_loop.st) : BufTy.Contents (Elt F) arg8.view.ty) (Nat.rec (motive := fun _ => BufTy.Contents (Elt F) arg14.view.ty) (arg14.view.writes (Elt F) arg14.view.junk (ini14 arg2 arg3 arg5 arg11 (harg2.unread x1) (harg3.unread x2) (harg5.unread x4))) (fun j _ => (st Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) (f8, (arg13.view.writes (Elt F) arg13.view.junk (ini13 arg2 arg3 arg5 arg11 (harg2.unread x1) (harg3.unread x2) (harg5.unread x4))), (arg14.view.writes (Elt F) arg14.view.junk (ini14 arg2 arg3 arg5 arg11 (harg2.unread x1) (harg3.unread x2) (harg5.unread x4))), (arg15.view.writes (Elt F) arg15.view.junk (ini15 arg1 arg2 arg3 arg5 arg11 arg13 (harg1.unread x0) (harg2.unread x1) (harg3.unread x2) (harg5.unread x4))), f16, (arg17.view.writes (Elt F) f17 (ini17 arg1 arg2 arg3 arg5 arg11 arg13 (harg1.unread x0) (harg2.unread x1) (harg3.unread x2) (harg5.unread x4))), f18) (j + 1)).2.2.1) (Scf.trips k0_t1_loop.lb k0_t1_loop.ub k0_t1_loop.st) : BufTy.Contents (Elt F) arg14.view.ty) (Nat.rec (motive := fun _ => BufTy.Contents (Elt F) arg15.view.ty) (arg15.view.writes (Elt F) arg15.view.junk (ini15 arg1 arg2 arg3 arg5 arg11 arg13 (harg1.unread x0) (harg2.unread x1) (harg3.unread x2) (harg5.unread x4))) (fun j _ => (st Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) (f8, (arg13.view.writes (Elt F) arg13.view.junk (ini13 arg2 arg3 arg5 arg11 (harg2.unread x1) (harg3.unread x2) (harg5.unread x4))), (arg14.view.writes (Elt F) arg14.view.junk (ini14 arg2 arg3 arg5 arg11 (harg2.unread x1) (harg3.unread x2) (harg5.unread x4))), (arg15.view.writes (Elt F) arg15.view.junk (ini15 arg1 arg2 arg3 arg5 arg11 arg13 (harg1.unread x0) (harg2.unread x1) (harg3.unread x2) (harg5.unread x4))), f16, (arg17.view.writes (Elt F) f17 (ini17 arg1 arg2 arg3 arg5 arg11 arg13 (harg1.unread x0) (harg2.unread x1) (harg3.unread x2) (harg5.unread x4))), f18) (j + 1)).2.2.2.1) (Scf.trips k0_t1_loop.lb k0_t1_loop.ub k0_t1_loop.st) : BufTy.Contents (Elt F) arg15.view.ty) (Nat.rec (motive := fun _ => BufTy.Contents (Elt F) arg17.view.ty) (arg17.view.writes (Elt F) f17 (ini17 arg1 arg2 arg3 arg5 arg11 arg13 (harg1.unread x0) (harg2.unread x1) (harg3.unread x2) (harg5.unread x4))) (fun j _ => (st Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) (f8, (arg13.view.writes (Elt F) arg13.view.junk (ini13 arg2 arg3 arg5 arg11 (harg2.unread x1) (harg3.unread x2) (harg5.unread x4))), (arg14.view.writes (Elt F) arg14.view.junk (ini14 arg2 arg3 arg5 arg11 (harg2.unread x1) (harg3.unread x2) (harg5.unread x4))), (arg15.view.writes (Elt F) arg15.view.junk (ini15 arg1 arg2 arg3 arg5 arg11 arg13 (harg1.unread x0) (harg2.unread x1) (harg3.unread x2) (harg5.unread x4))), f16, (arg17.view.writes (Elt F) f17 (ini17 arg1 arg2 arg3 arg5 arg11 arg13 (harg1.unread x0) (harg2.unread x1) (harg3.unread x2) (harg5.unread x4))), f18) (j + 1)).2.2.2.2.2.1) (Scf.trips k0_t1_loop.lb k0_t1_loop.ub k0_t1_loop.st) : BufTy.Contents (Elt F) arg17.view.ty) := by
  unfold run; rfl

/-- The output block the run leaves: the epilogue over the state after the seventh trip. -/
theorem run_8 (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec F S8 .f32) (x1 : Vec F S16x512x128 .bf16) (x2 : Vec F S2048x128 .bf16) (x3 : Vec F S2048x128 .bf16) (x4 : Vec F S8x384x128 .f32) (x5 : Vec F S64x4096 .f32) (x6 : Vec F S256x1024 .f32) (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) :
    (run (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1 f8 f11 f12 f13 f14 f15 f16 f17 f18 =
      epi arg1 arg4 arg8 arg12 arg14 arg15 arg16 arg17 arg18 (harg1.unread x0) (harg4.unread x3) (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18 (Scf.trips k0_t1_loop.lb k0_t1_loop.ub k0_t1_loop.st)).1 (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18 (Scf.trips k0_t1_loop.lb k0_t1_loop.ub k0_t1_loop.st)).2.2.1 (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18 (Scf.trips k0_t1_loop.lb k0_t1_loop.ub k0_t1_loop.st)).2.2.2.1 (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18 (Scf.trips k0_t1_loop.lb k0_t1_loop.ub k0_t1_loop.st)).2.2.2.2.2.1 := by
  rw [run_rec]
  exact congr (congr (congr (congrArg (epi arg1 arg4 arg8 arg12 arg14 arg15 arg16 arg17 arg18 (harg1.unread x0) (harg4.unread x3)) (at_8 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) f8 (arg13.view.writes (Elt F) arg13.view.junk (ini13 arg2 arg3 arg5 arg11 (harg2.unread x1) (harg3.unread x2) (harg5.unread x4))) (arg14.view.writes (Elt F) arg14.view.junk (ini14 arg2 arg3 arg5 arg11 (harg2.unread x1) (harg3.unread x2) (harg5.unread x4))) (arg15.view.writes (Elt F) arg15.view.junk (ini15 arg1 arg2 arg3 arg5 arg11 arg13 (harg1.unread x0) (harg2.unread x1) (harg3.unread x2) (harg5.unread x4))) f16 (arg17.view.writes (Elt F) f17 (ini17 arg1 arg2 arg3 arg5 arg11 arg13 (harg1.unread x0) (harg2.unread x1) (harg3.unread x2) (harg5.unread x4))) f18 (Scf.trips k0_t1_loop.lb k0_t1_loop.ub k0_t1_loop.st))) (at_14 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) f8 (arg13.view.writes (Elt F) arg13.view.junk (ini13 arg2 arg3 arg5 arg11 (harg2.unread x1) (harg3.unread x2) (harg5.unread x4))) (arg14.view.writes (Elt F) arg14.view.junk (ini14 arg2 arg3 arg5 arg11 (harg2.unread x1) (harg3.unread x2) (harg5.unread x4))) (arg15.view.writes (Elt F) arg15.view.junk (ini15 arg1 arg2 arg3 arg5 arg11 arg13 (harg1.unread x0) (harg2.unread x1) (harg3.unread x2) (harg5.unread x4))) f16 (arg17.view.writes (Elt F) f17 (ini17 arg1 arg2 arg3 arg5 arg11 arg13 (harg1.unread x0) (harg2.unread x1) (harg3.unread x2) (harg5.unread x4))) f18 (Scf.trips k0_t1_loop.lb k0_t1_loop.ub k0_t1_loop.st))) (at_15 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) f8 (arg13.view.writes (Elt F) arg13.view.junk (ini13 arg2 arg3 arg5 arg11 (harg2.unread x1) (harg3.unread x2) (harg5.unread x4))) (arg14.view.writes (Elt F) arg14.view.junk (ini14 arg2 arg3 arg5 arg11 (harg2.unread x1) (harg3.unread x2) (harg5.unread x4))) (arg15.view.writes (Elt F) arg15.view.junk (ini15 arg1 arg2 arg3 arg5 arg11 arg13 (harg1.unread x0) (harg2.unread x1) (harg3.unread x2) (harg5.unread x4))) f16 (arg17.view.writes (Elt F) f17 (ini17 arg1 arg2 arg3 arg5 arg11 arg13 (harg1.unread x0) (harg2.unread x1) (harg3.unread x2) (harg5.unread x4))) f18 (Scf.trips k0_t1_loop.lb k0_t1_loop.ub k0_t1_loop.st))) (at_17 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) (broadcast S128x128 (FloatOps.ofBits .f32 0xFF800000#32 : F .f32)) (k0_pay274 (broadcast S128x128 (FloatOps.ofBits .f32 0xFF800000#32 : F .f32)) (View.readCov arg13.view (ini13 arg2 arg3 arg5 arg11 (harg2.unread x1) (harg3.unread x2) (harg5.unread x4)) (Rect.unit (s := S2x768x256) ![1, 384, 0] S1x384x128.size inb_S2x768x256_S1x384x128_1_384_0).toLoadRect) (View.readAt (Elt F) arg1.view (Rect.unit (s := S8) ![6] S1.size inb_S8_S1_6).toLoadRect (harg1.unread x0) (Shape.Idx.first (by decide)))) (harg1.unread x0) (harg2.unread x1) (harg5.unread x4) (arg11.view.writes (Elt F) arg11.view.junk (iniK arg3 (harg3.unread x2))) (arg12.view.writes (Elt F) arg12.view.junk (iniV arg4 (harg4.unread x3))) f8 (arg13.view.writes (Elt F) arg13.view.junk (ini13 arg2 arg3 arg5 arg11 (harg2.unread x1) (harg3.unread x2) (harg5.unread x4))) (arg14.view.writes (Elt F) arg14.view.junk (ini14 arg2 arg3 arg5 arg11 (harg2.unread x1) (harg3.unread x2) (harg5.unread x4))) (arg15.view.writes (Elt F) arg15.view.junk (ini15 arg1 arg2 arg3 arg5 arg11 arg13 (harg1.unread x0) (harg2.unread x1) (harg3.unread x2) (harg5.unread x4))) f16 (arg17.view.writes (Elt F) f17 (ini17 arg1 arg2 arg3 arg5 arg11 arg13 (harg1.unread x0) (harg2.unread x1) (harg3.unread x2) (harg5.unread x4))) f18 (Scf.trips k0_t1_loop.lb k0_t1_loop.ub k0_t1_loop.st))

end Cert.KernelIdeal.Attn

end
-- ==== Proof.AttnReads.lean ====
module

public import proofs.«01_k».proof.Proof.AttnSem
public import proofs.«01_k».proof.Proof.AttnBridgeRun

@[expose] public section

set_option maxRecDepth 16384

noncomputable section

namespace Cert.KernelIdeal.Attn

open Cert.KernelIdeal Cert.KernelIdeal.Gen
open Idealize.ShloMosaic Idealize.ShloMosaic.Tactic

/-- A view written over pieces of `G` reads `G` where a piece lies or where it read `G` before. -/
theorem read_over {κ : Kind} {sp : Space} {s : Shape} {e : EltTy} (v : View sig κ sp s e) (f : v.ty.Contents (Elt Ideal)) (L : List (View.Piece (Elt Ideal) s e)) (G : s.Idx → Elt Ideal e) (y : s.Idx)
    (hL : View.PiecesOf G L) (h : (∃ p ∈ L, y ∈ p.1.set) ∨ v.read (Elt Ideal) f y = G y) : v.read (Elt Ideal) (v.writes (Elt Ideal) f L) y = G y := by
  by_cases c : ∃ p ∈ L, y ∈ p.1.set
  · exact View.read_writes_apply_of_pieces v f G L hL.mem y c
  · rw [View.read_writes_apply_of_forall_not_mem v f y L fun p hp hy => c ⟨p, hp, hy⟩]
    exact h.resolve_left c

/-- A load of a rank-3 box, at an index. -/
theorem load3 {κ : Kind} {sp : Space} {e : EltTy} {n0 n1 n2 m0 m1 m2 o0 o1 o2 : ℕ} (v : View sig κ sp ⟨3, ![n0, n1, n2]⟩ e) (X : v.ty.Contents (Elt Ideal)) (off : Fin 3 → ℕ)
    (inb : ∀ a, off a + (![m0, m1, m2] : Fin 3 → ℕ) a ≤ (⟨3, ![n0, n1, n2]⟩ : Shape).size a) (ho : off = ![o0, o1, o2])
    (a : Fin m0) (b : Fin m1) (c : Fin m2) (ha : o0 + a.val < n0) (hb : o1 + b.val < n1) (hc : o2 + c.val < n2) :
    View.readAt (Elt Ideal) v (Rect.unit (s := ⟨3, ![n0, n1, n2]⟩) off ![m0, m1, m2] inb).toLoadRect X (ix3 a b c)
      = v.read (Elt Ideal) X (ix3 (⟨o0 + a.val, ha⟩ : Fin n0) (⟨o1 + b.val, hb⟩ : Fin n1) (⟨o2 + c.val, hc⟩ : Fin n2)) := by
  subst ho
  exact congrArg (v.read (Elt Ideal) X) (emb3 inb a b c ha hb hc)

/-- A load of a rank-2 box, at an index. -/
theorem load2 {κ : Kind} {sp : Space} {e : EltTy} {n0 n1 m0 m1 o0 o1 : ℕ} (v : View sig κ sp ⟨2, ![n0, n1]⟩ e) (X : v.ty.Contents (Elt Ideal)) (off : Fin 2 → ℕ)
    (inb : ∀ a, off a + (![m0, m1] : Fin 2 → ℕ) a ≤ (⟨2, ![n0, n1]⟩ : Shape).size a) (ho : off = ![o0, o1])
    (a : Fin m0) (b : Fin m1) (ha : o0 + a.val < n0) (hb : o1 + b.val < n1) :
    View.readAt (Elt Ideal) v (Rect.unit (s := ⟨2, ![n0, n1]⟩) off ![m0, m1] inb).toLoadRect X (ix2 a b)
      = v.read (Elt Ideal) X (ix2 (⟨o0 + a.val, ha⟩ : Fin n0) (⟨o1 + b.val, hb⟩ : Fin n1)) := by
  subst ho
  exact congrArg (v.read (Elt Ideal) X) (emb2 inb a b ha hb)

/-- Where a box of a rank-4 array puts a local index. -/
theorem emb4 {n0 n1 n2 n3 m0 m1 m2 m3 o0 o1 o2 o3 : ℕ}
    (inb : ∀ a, (![o0, o1, o2, o3] : Fin 4 → ℕ) a + (![m0, m1, m2, m3] : Fin 4 → ℕ) a ≤ (⟨4, ![n0, n1, n2, n3]⟩ : Shape).size a)
    (a : Fin m0) (b : Fin m1) (c : Fin m2) (d : Fin m3) (ha : o0 + a.val < n0) (hb : o1 + b.val < n1) (hc : o2 + c.val < n2) (hd : o3 + d.val < n3) :
    (Rect.unit (s := ⟨4, ![n0, n1, n2, n3]⟩) ![o0, o1, o2, o3] ![m0, m1, m2, m3] inb).emb (ix4 a b c d)
      = ix4 (⟨o0 + a.val, ha⟩ : Fin n0) (⟨o1 + b.val, hb⟩ : Fin n1) (⟨o2 + c.val, hc⟩ : Fin n2) (⟨o3 + d.val, hd⟩ : Fin n3) := by
  funext k
  apply Fin.ext
  rw [ValueKit.rect_emb_unit_val]
  match k with
  | 0 => rfl
  | 1 => rfl
  | 2 => rfl
  | 3 => rfl

/-- A load of a rank-4 box, at an index. -/
theorem load4 {κ : Kind} {sp : Space} {e : EltTy} {n0 n1 n2 n3 m0 m1 m2 m3 o0 o1 o2 o3 : ℕ} (v : View sig κ sp ⟨4, ![n0, n1, n2, n3]⟩ e) (X : v.ty.Contents (Elt Ideal)) (off : Fin 4 → ℕ)
    (inb : ∀ a, off a + (![m0, m1, m2, m3] : Fin 4 → ℕ) a ≤ (⟨4, ![n0, n1, n2, n3]⟩ : Shape).size a) (ho : off = ![o0, o1, o2, o3])
    (a : Fin m0) (b : Fin m1) (c : Fin m2) (d : Fin m3) (ha : o0 + a.val < n0) (hb : o1 + b.val < n1) (hc : o2 + c.val < n2) (hd : o3 + d.val < n3) :
    View.readAt (Elt Ideal) v (Rect.unit (s := ⟨4, ![n0, n1, n2, n3]⟩) off ![m0, m1, m2, m3] inb).toLoadRect X (ix4 a b c d)
      = v.read (Elt Ideal) X (ix4 (⟨o0 + a.val, ha⟩ : Fin n0) (⟨o1 + b.val, hb⟩ : Fin n1) (⟨o2 + c.val, hc⟩ : Fin n2) (⟨o3 + d.val, hd⟩ : Fin n3)) := by
  subst ho
  exact congrArg (v.read (Elt Ideal) X) (emb4 inb a b c d ha hb hc hd)

theorem kz0_apply (x : FVec Ideal S2048x128 .bf16) (z : Fin 1) (r : Fin 2048) (l : Fin 128) : kz0 x (ix3 z r l) = if l.val < 64 then at2 x r.val l.val else 0 := by
  pointwise [kz0]
  rw [slt64, eq_at2 x]
  split <;> rfl

theorem kz1_apply (x : FVec Ideal S2048x128 .bf16) (z : Fin 1) (r : Fin 2048) (l : Fin 128) : kz1 x (ix3 z r l) = if l.val < 64 then 0 else at2 x r.val l.val := by
  pointwise [kz1]
  rw [slt64, eq_at2 x]
  split <;> rfl

theorem z_apply (z : Fin 1) (r l : Fin 128) : shapeCast S1x128x128 (zBlk (F := Ideal)) shapeCasts_S128x128_S1x128x128 (ix3 z r l) = 0 := by
  pointwise [zBlk]

theorem one_eq : ∀ e : Fin 16, ∀ kv : Fin 2, IntOp.cmpi CmpIPredicate.eq (BitVec.ofNat 32 e.val) (BitVec.ofNat 32 kv.val) = if e.val = kv.val then 1#1 else 0#1 := by decide

theorem vt0_apply (x : FVec Ideal S128x128 .bf16) (z w : Fin 1) (e : Fin 144) (c : Fin 128) :
    vt0 x (ix4 z w e c) = if e.val < 128 then (if e.val < 64 then at2 x c.val e.val else 0) else if e.val - 128 = 0 then 1 else 0 := by
  pointwise [vt0, vtCat, oneRows]
  have he := e.isLt
  by_cases h : e.val < 128
  · rw [dif_pos h, if_pos h, slt64 ⟨e.val, h⟩, eq_at2 x]
    split <;> rfl
  · rw [dif_neg h, if_neg h, show IntOp.cmpi CmpIPredicate.eq (BitVec.ofNat 32 (e.val - 128)) 0#32 = if e.val - 128 = 0 then 1#1 else 0#1 from one_eq ⟨e.val - 128, by omega⟩ 0]
    by_cases h2 : e.val - 128 = 0
    · rw [if_pos h2, if_pos h2]; rfl
    · rw [if_neg h2, if_neg h2]; rfl

theorem vt1_apply (x : FVec Ideal S128x128 .bf16) (z w : Fin 1) (e : Fin 144) (c : Fin 128) :
    vt1 x (ix4 z w e c) = if e.val < 128 then (if e.val < 64 then 0 else at2 x c.val e.val) else if e.val - 128 = 1 then 1 else 0 := by
  pointwise [vt1, vtCat, oneRows]
  have he := e.isLt
  by_cases h : e.val < 128
  · rw [dif_pos h, if_pos h, slt64 ⟨e.val, h⟩, eq_at2 x]
    split <;> rfl
  · rw [dif_neg h, if_neg h, show IntOp.cmpi CmpIPredicate.eq (BitVec.ofNat 32 (e.val - 128)) 1#32 = if e.val - 128 = 1 then 1#1 else 0#1 from one_eq ⟨e.val - 128, by omega⟩ 1]
    by_cases h2 : e.val - 128 = 1
    · rw [if_pos h2, if_pos h2]; rfl
    · rw [if_neg h2, if_neg h2]; rfl

theorem vtz_apply (kv : Fin 2) (z w : Fin 1) (e : Fin 144) (c : Fin 128) :
    vtCat (zBlk (F := Ideal)) (BitVec.ofNat 32 kv.val) (ix4 z w e c) = if e.val < 128 then 0 else if e.val - 128 = kv.val then 1 else 0 := by
  pointwise [zBlk, vtCat, oneRows]
  have he := e.isLt
  by_cases h : e.val < 128
  · rw [dif_pos h, if_pos h]
  · rw [dif_neg h, if_neg h, show IntOp.cmpi CmpIPredicate.eq (BitVec.ofNat 32 (e.val - 128)) (BitVec.ofNat 32 kv.val) = if e.val - 128 = kv.val then 1#1 else 0#1 from one_eq ⟨e.val - 128, by omega⟩ kv]
    by_cases h2 : e.val - 128 = kv.val
    · rw [if_pos h2, if_pos h2]; rfl
    · rw [if_neg h2, if_neg h2]; rfl

variable (x0 : FVec Ideal S8 .f32) (x1 : FVec Ideal S16x512x128 .bf16) (x2 x3 : FVec Ideal S2048x128 .bf16) (x4 : FVec Ideal S8x384x128 .f32)

/-- The padded keys. -/
def KzA : FVec Ideal S2x2304x128 .bf16 := fun y => pad x2 (y 0).val (y 1).val (y 2).val
/-- The padded values, transposed by blocks, over their rows of ones. -/
def VtA : FVec Ideal S2x18x144x128 .bf16 := fun y => va x3 (y 0).val (128 * (y 1).val + (y 3).val) (y 2).val

/-- An index of a rank-3 box, by its coordinates. -/
theorem mem3 {n0 n1 n2 m0 m1 m2 o0 o1 o2 : ℕ} (inb : ∀ a, (![o0, o1, o2] : Fin 3 → ℕ) a + (![m0, m1, m2] : Fin 3 → ℕ) a ≤ (⟨3, ![n0, n1, n2]⟩ : Shape).size a)
    (a : Fin n0) (b : Fin n1) (c : Fin n2) (ha : o0 ≤ a.val ∧ a.val < o0 + m0) (hb : o1 ≤ b.val ∧ b.val < o1 + m1) (hc : o2 ≤ c.val ∧ c.val < o2 + m2) :
    ix3 a b c ∈ (Rect.unit (s := ⟨3, ![n0, n1, n2]⟩) ![o0, o1, o2] ![m0, m1, m2] inb).set :=
  Rect.mem_set_unit.mpr fun k => match k with | 0 => ha | 1 => hb | 2 => hc

/-- An index of a rank-2 box, by its coordinates. -/
theorem mem2 {n0 n1 m0 m1 o0 o1 : ℕ} (inb : ∀ a, (![o0, o1] : Fin 2 → ℕ) a + (![m0, m1] : Fin 2 → ℕ) a ≤ (⟨2, ![n0, n1]⟩ : Shape).size a)
    (a : Fin n0) (b : Fin n1) (ha : o0 ≤ a.val ∧ a.val < o0 + m0) (hb : o1 ≤ b.val ∧ b.val < o1 + m1) :
    ix2 a b ∈ (Rect.unit (s := ⟨2, ![n0, n1]⟩) ![o0, o1] ![m0, m1] inb).set :=
  Rect.mem_set_unit.mpr fun k => match k with | 0 => ha | 1 => hb

theorem kz_pieces : View.PiecesOf (KzA x2) (kzList x2) := by
  have z : ∀ (kv o : ℕ) (hk : kv < 2) (ho : o = 0 ∨ o = 2176) (inb : ∀ a, (![kv, o, 0] : Fin 3 → ℕ) a + S1x128x128.size a ≤ S2x2304x128.size a),
      ∀ x, shapeCast S1x128x128 (zBlk (F := Ideal)) shapeCasts_S128x128_S1x128x128 x = KzA x2 ((Rect.unit (s := S2x2304x128) ![kv, o, 0] S1x128x128.size inb).emb x) := by
    intro kv o hk ho inb x
    obtain ⟨a, b, c, rfl⟩ : ∃ (a : Fin 1) (b : Fin 128) (c : Fin 128), x = ix3 a b c := ⟨x 0, x 1, x 2, eq_ix3 x⟩
    have ea := a.isLt; have eb := b.isLt; have ec := c.isLt
    rw [z_apply, emb3 _ _ _ _ (by omega) (by omega) (by omega)]
    show _ = pad x2 (kv + a.val) (o + b.val) (0 + c.val)
    rw [pad]
    rw [if_neg (by omega)]
  have k0 : ∀ (inb : ∀ a, (![0, 128, 0] : Fin 3 → ℕ) a + S1x2048x128.size a ≤ S2x2304x128.size a),
      ∀ x, kz0 x2 x = KzA x2 ((Rect.unit (s := S2x2304x128) ![0, 128, 0] S1x2048x128.size inb).emb x) := by
    intro inb x
    obtain ⟨a, b, c, rfl⟩ : ∃ (a : Fin 1) (b : Fin 2048) (c : Fin 128), x = ix3 a b c := ⟨x 0, x 1, x 2, eq_ix3 x⟩
    have ea := a.isLt; have eb := b.isLt; have ec := c.isLt
    rw [kz0_apply, emb3 _ _ _ _ (by omega) (by omega) (by omega)]
    show _ = pad x2 (0 + a.val) (128 + b.val) (0 + c.val)
    rw [pad]
    by_cases h : c.val < 64
    · rw [if_pos h, if_pos (by omega)]; congr 1 <;> omega
    · rw [if_neg h, if_neg (by omega)]
  have k1 : ∀ (inb : ∀ a, (![1, 128, 0] : Fin 3 → ℕ) a + S1x2048x128.size a ≤ S2x2304x128.size a),
      ∀ x, kz1 x2 x = KzA x2 ((Rect.unit (s := S2x2304x128) ![1, 128, 0] S1x2048x128.size inb).emb x) := by
    intro inb x
    obtain ⟨a, b, c, rfl⟩ : ∃ (a : Fin 1) (b : Fin 2048) (c : Fin 128), x = ix3 a b c := ⟨x 0, x 1, x 2, eq_ix3 x⟩
    have ea := a.isLt; have eb := b.isLt; have ec := c.isLt
    rw [kz1_apply, emb3 _ _ _ _ (by omega) (by omega) (by omega)]
    show _ = pad x2 (1 + a.val) (128 + b.val) (0 + c.val)
    rw [pad]
    by_cases h : c.val < 64
    · rw [if_pos h, if_neg (by omega)]
    · rw [if_neg h, if_pos (by omega)]; congr 1 <;> omega
  unfold kzList
  exact ⟨k1 (by decide), k0 (by decide), z 1 2176 (by norm_num) (by norm_num) (by decide), z 1 0 (by norm_num) (by norm_num) (by decide),
    z 0 2176 (by norm_num) (by norm_num) (by decide), z 0 0 (by norm_num) (by norm_num) (by decide), trivial⟩

theorem kz_cover (x : FVec Ideal S2048x128 .bf16) : ∀ y : S2x2304x128.Idx, ∃ p ∈ kzList x, y ∈ p.1.set := by
  intro y
  obtain ⟨a, b, c, rfl⟩ : ∃ (a : Fin 2) (b : Fin 2304) (c : Fin 128), y = ix3 a b c := ⟨y 0, y 1, y 2, eq_ix3 y⟩
  have ha := a.isLt; have hb := b.isLt; have hc := c.isLt
  unfold kzList
  rcases (by omega : a.val = 1 ∨ a.val = 0) with h | h <;> rcases (by omega : b.val < 128 ∨ (128 ≤ b.val ∧ b.val < 2176) ∨ 2176 ≤ b.val) with g | g | g
  · exact ⟨_, List.mem_cons_of_mem _ (List.mem_cons_of_mem _ (List.mem_cons_of_mem _ (List.mem_cons_self))), mem3 (by decide) a b c (by omega) (by omega) (by omega)⟩
  · exact ⟨_, List.mem_cons_self, mem3 (by decide) a b c (by omega) (by omega) (by omega)⟩
  · exact ⟨_, List.mem_cons_of_mem _ (List.mem_cons_of_mem _ (List.mem_cons_self)), mem3 (by decide) a b c (by omega) (by omega) (by omega)⟩
  · exact ⟨_, List.mem_cons_of_mem _ (List.mem_cons_of_mem _ (List.mem_cons_of_mem _ (List.mem_cons_of_mem _ (List.mem_cons_of_mem _ (List.mem_cons_self))))), mem3 (by decide) a b c (by omega) (by omega) (by omega)⟩
  · exact ⟨_, List.mem_cons_of_mem _ (List.mem_cons_self), mem3 (by decide) a b c (by omega) (by omega) (by omega)⟩
  · exact ⟨_, List.mem_cons_of_mem _ (List.mem_cons_of_mem _ (List.mem_cons_of_mem _ (List.mem_cons_of_mem _ (List.mem_cons_self)))), mem3 (by decide) a b c (by omega) (by omega) (by omega)⟩

theorem vt_pieces (x : Fin 16 → FVec Ideal S128x128 .bf16) (hx : ∀ (b : Fin 16) (r c : Fin 128), x b (ix2 r c) = at2 x3 (128 * b.val + r.val) c.val) :
    View.PiecesOf (VtA x3) (vtList x) := by
  have w : ∀ (kv m : ℕ) (hk : kv < 2) (hm : m < 18) (inb : ∀ a, (![kv, m, 0, 0] : Fin 4 → ℕ) a + S1x1x144x128.size a ≤ S2x18x144x128.size a)
      (T : FVec Ideal S1x1x144x128 .bf16) (hT : ∀ (e : Fin 144) (c : Fin 128), T (ix4 0 0 e c) = va x3 kv (128 * m + c.val) e.val),
      ∀ x, T x = VtA x3 ((Rect.unit (s := S2x18x144x128) ![kv, m, 0, 0] S1x1x144x128.size inb).emb x) := by
    intro kv m hk hm inb T hT x
    obtain ⟨a, b, e, c, rfl⟩ : ∃ (a : Fin 1) (b : Fin 1) (e : Fin 144) (c : Fin 128), x = ix4 a b e c := ⟨x 0, x 1, x 2, x 3, eq_ix4 x⟩
    obtain rfl : a = 0 := Subsingleton.elim _ _
    obtain rfl : b = 0 := Subsingleton.elim _ _
    have ee := e.isLt; have ec := c.isLt
    rw [hT, emb4 _ _ _ _ _ (by simpa using hk) (by simpa using hm) (by omega) (by omega)]
    show _ = va x3 (kv + 0) (128 * (m + 0) + (0 + c.val)) (0 + e.val)
    simp only [Nat.zero_add, Nat.add_zero]
  have a0 : ∀ (b : Fin 16) (inb : ∀ a, (![0, b.val + 1, 0, 0] : Fin 4 → ℕ) a + S1x1x144x128.size a ≤ S2x18x144x128.size a),
      ∀ y, vt0 (x b) y = VtA x3 ((Rect.unit (s := S2x18x144x128) ![0, b.val + 1, 0, 0] S1x1x144x128.size inb).emb y) := by
    intro b inb
    have eb := b.isLt
    refine w 0 (b.val + 1) (by norm_num) (by omega) inb _ fun e c => ?_
    have ee := e.isLt; have ec := c.isLt
    rw [vt0_apply, va]
    by_cases h : e.val < 128
    · rw [if_pos h, if_pos h, (eq_at2 (x b) c ⟨e.val, h⟩).symm, hx, pad]
      by_cases h' : e.val < 64
      · rw [if_pos h', if_pos (by omega)]; congr 1; omega
      · rw [if_neg h', if_neg (by omega)]
    · rw [if_neg h, if_neg h]
  have a1 : ∀ (b : Fin 16) (inb : ∀ a, (![1, b.val + 1, 0, 0] : Fin 4 → ℕ) a + S1x1x144x128.size a ≤ S2x18x144x128.size a),
      ∀ y, vt1 (x b) y = VtA x3 ((Rect.unit (s := S2x18x144x128) ![1, b.val + 1, 0, 0] S1x1x144x128.size inb).emb y) := by
    intro b inb
    have eb := b.isLt
    refine w 1 (b.val + 1) (by norm_num) (by omega) inb _ fun e c => ?_
    have ee := e.isLt; have ec := c.isLt
    rw [vt1_apply, va]
    by_cases h : e.val < 128
    · rw [if_pos h, if_pos h, (eq_at2 (x b) c ⟨e.val, h⟩).symm, hx, pad]
      by_cases h' : e.val < 64
      · rw [if_pos h', if_neg (by omega)]
      · rw [if_neg h', if_pos (by omega)]; congr 1; omega
    · rw [if_neg h, if_neg h]
  have az : ∀ (kv : Fin 2) (m : ℕ) (hm : m = 0 ∨ m = 17) (inb : ∀ a, (![kv.val, m, 0, 0] : Fin 4 → ℕ) a + S1x1x144x128.size a ≤ S2x18x144x128.size a),
      ∀ y, vtCat (zBlk (F := Ideal)) (BitVec.ofNat 32 kv.val) y = VtA x3 ((Rect.unit (s := S2x18x144x128) ![kv.val, m, 0, 0] S1x1x144x128.size inb).emb y) := by
    intro kv m hm inb
    refine w kv.val m kv.isLt (by omega) inb _ fun e c => ?_
    have ee := e.isLt; have ec := c.isLt
    rw [vtz_apply, va, pad]
    by_cases h : e.val < 128
    · rw [if_pos h, if_pos h, if_neg (by omega)]
    · rw [if_neg h, if_neg h]
  unfold vtList
  exact ⟨a1 15 (by decide), a0 15 (by decide), a1 14 (by decide), a0 14 (by decide), a1 13 (by decide), a0 13 (by decide), a1 12 (by decide), a0 12 (by decide), a1 11 (by decide), a0 11 (by decide), a1 10 (by decide), a0 10 (by decide), a1 9 (by decide), a0 9 (by decide), a1 8 (by decide), a0 8 (by decide), a1 7 (by decide), a0 7 (by decide), a1 6 (by decide), a0 6 (by decide), a1 5 (by decide), a0 5 (by decide), a1 4 (by decide), a0 4 (by decide), a1 3 (by decide), a0 3 (by decide), a1 2 (by decide), a0 2 (by decide), a1 1 (by decide), a0 1 (by decide), a1 0 (by decide), a0 0 (by decide),
    az 1 17 (by norm_num) (by decide), az 1 0 (by norm_num) (by decide), az 0 17 (by norm_num) (by decide), az 0 0 (by norm_num) (by decide), trivial⟩

theorem vt_cover (x : Fin 16 → FVec Ideal S128x128 .bf16) : ∀ y : S2x18x144x128.Idx, ∃ p ∈ vtList x, y ∈ p.1.set :=
  View.cover_of_tiledL _ S1x1x144x128.size (by sl_kernel_rfl)

theorem sc_cover (p0 p1 : FVec Ideal S768x256 .f32) (b0 b1 b2 b3 b4 b5 b6 b7 : FVec Ideal S1x384x128 .f32) :
    ∀ y : S2x768x256.Idx, ∃ p ∈ scList p0 p1 b0 b1 b2 b3 b4 b5 b6 b7, y ∈ p.1.set :=
  View.cover_of_tiledL _ S1x384x128.size (by sl_kernel_rfl)

theorem sm_cover (t000 t001 t010 t011 t100 t101 t110 t111 : FVec Ideal S384x128 .f32) (s0 s1 s2 s3 s4 s5 s6 s7 : EReal) :
    ∀ y : S2x768x256.Idx, ∃ p ∈ smPList (F := Ideal) t000 t001 t010 t011 t100 t101 t110 t111 s0 s1 s2 s3 s4 s5 s6 s7, y ∈ p.1.set :=
  View.cover_of_tiledL _ S1x384x128.size (by sl_kernel_rfl)

theorem lk_cover (t000 t001 t010 t011 t100 t101 t110 t111 : FVec Ideal S384x128 .f32) (s0 s1 s2 s3 s4 s5 s6 s7 : EReal)
    (a : Fin 2) (b : Fin 8) (c : Fin 256) (hb : b.val < 2) :
    ∃ p ∈ smLList (F := Ideal) t000 t001 t010 t011 t100 t101 t110 t111 s0 s1 s2 s3 s4 s5 s6 s7, ix3 a b c ∈ p.1.set := by
  have ha := a.isLt; have hc := c.isLt
  unfold smLList
  rcases (by omega : a.val = 1 ∨ a.val = 0) with h | h <;> rcases (by omega : b.val = 1 ∨ b.val = 0) with h' | h' <;>
    rcases (by omega : 128 ≤ c.val ∨ c.val < 128) with h'' | h''
  · exact ⟨_, List.mem_cons_self, mem3 (by decide) a b c (by omega) (by omega) (by omega)⟩
  · exact ⟨_, List.mem_cons_of_mem _ (List.mem_cons_self), mem3 (by decide) a b c (by omega) (by omega) (by omega)⟩
  · exact ⟨_, List.mem_cons_of_mem _ (List.mem_cons_of_mem _ (List.mem_cons_self)), mem3 (by decide) a b c (by omega) (by omega) (by omega)⟩
  · exact ⟨_, List.mem_cons_of_mem _ (List.mem_cons_of_mem _ (List.mem_cons_of_mem _ (List.mem_cons_self))), mem3 (by decide) a b c (by omega) (by omega) (by omega)⟩
  · exact ⟨_, List.mem_cons_of_mem _ (List.mem_cons_of_mem _ (List.mem_cons_of_mem _ (List.mem_cons_of_mem _ (List.mem_cons_self)))), mem3 (by decide) a b c (by omega) (by omega) (by omega)⟩
  · exact ⟨_, List.mem_cons_of_mem _ (List.mem_cons_of_mem _ (List.mem_cons_of_mem _ (List.mem_cons_of_mem _ (List.mem_cons_of_mem _ (List.mem_cons_self))))), mem3 (by decide) a b c (by omega) (by omega) (by omega)⟩
  · exact ⟨_, List.mem_cons_of_mem _ (List.mem_cons_of_mem _ (List.mem_cons_of_mem _ (List.mem_cons_of_mem _ (List.mem_cons_of_mem _ (List.mem_cons_of_mem _ (List.mem_cons_self)))))), mem3 (by decide) a b c (by omega) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem3 (by decide) a b c (by omega) (by omega) (by omega)⟩

theorem pv_cover (j : ℕ) (o0 o1 o2 o3 : Fin 2 → ℕ) (h0 : ∀ a, o0 a + S128x128.size a ≤ S2048x512.size a) (h1 : ∀ a, o1 a + S128x128.size a ≤ S2048x512.size a)
    (h2 : ∀ a, o2 a + S128x128.size a ≤ S2048x512.size a) (h3 : ∀ a, o3 a + S128x128.size a ≤ S2048x512.size a)
    (e0 : o0 = ![128 * j, 0]) (e1 : o1 = ![128 * j, 128]) (e2 : o2 = ![128 * j, 256]) (e3 : o3 = ![128 * j, 384])
    (io : IVec S128x256 32) (V : FVec Ideal S144x768 .bf16) (p0 p1 : FVec Ideal S1x768x256 .bf16) (l0 l1 : FVec Ideal S1x2x256 .f32) (L : List (View.Piece (Elt Ideal) S2048x512 .bf16))
    (a : Fin 2048) (b : Fin 512) (h : (128 * j ≤ a.val ∧ a.val < 128 * j + 128) ∨ ∃ p ∈ L, ix2 a b ∈ p.1.set) :
    ∃ p ∈ pvList o0 o1 o2 o3 h0 h1 h2 h3 io V p0 p1 l0 l1 L, ix2 a b ∈ p.1.set := by
  subst e0 e1 e2 e3
  unfold pvList
  have hb := b.isLt
  rcases h with h | ⟨p, hp, hy⟩
  · rcases (by omega : 384 ≤ b.val ∨ (256 ≤ b.val ∧ b.val < 384) ∨ (128 ≤ b.val ∧ b.val < 256) ∨ b.val < 128) with g | g | g | g
    · exact ⟨_, List.mem_cons_self, mem2 h3 a b h (by omega)⟩
    · exact ⟨_, List.mem_cons_of_mem _ (List.mem_cons_self), mem2 h2 a b h (by omega)⟩
    · exact ⟨_, List.mem_cons_of_mem _ (List.mem_cons_of_mem _ (List.mem_cons_self)), mem2 h1 a b h (by omega)⟩
    · exact ⟨_, List.mem_cons_of_mem _ (List.mem_cons_of_mem _ (List.mem_cons_of_mem _ (List.mem_cons_self))), mem2 h0 a b h (by omega)⟩
  · exact ⟨p, List.mem_cons_of_mem _ (List.mem_cons_of_mem _ (List.mem_cons_of_mem _ (List.mem_cons_of_mem _ hp))), hy⟩

end Cert.KernelIdeal.Attn
-- ==== Proof.AttnBridge.lean ====
module

public import proofs.«01_k».proof.Proof.AttnTiles
public import proofs.«01_k».proof.Proof.AttnLoopIdeal

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The output pieces of one trip: the four tiles of its second query block over those of its first. -/
theorem trip_8 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).1 f8 f13 f14 f15 f16 f17 f18 = pvList (k0_off3 k 1#32) (k0_off4 k 1#32) (k0_off5 k 1#32) (k0_off6 k 1#32) (k0_off3_inb k 0) (k0_off4_inb k 0) (k0_off5_inb k 0) (k0_off6_inb k 0) v404 (vals (View.readAt (Elt F) arg12.view (Rect.unit (s := S2x18x144x128) (k0_off1 k 1#32 0#32) S1x1x144x128.size (k0_off1_inb k 0 0)).toLoadRect X12) (View.readAt (Elt F) arg12.view (Rect.unit (s := S2x18x144x128) (k0_off1 k 1#32 1#32) S1x1x144x128.size (k0_off1_inb k 0 1)).toLoadRect X12) (View.readAt (Elt F) arg12.view (Rect.unit (s := S2x18x144x128) (k0_off1 k 1#32 2#32) S1x1x144x128.size (k0_off1_inb k 0 2)).toLoadRect X12) (View.readAt (Elt F) arg12.view (Rect.unit (s := S2x18x144x128) (k0_off2 k 1#32 0#32) S1x1x144x128.size (k0_off2_inb k 0 0)).toLoadRect X12) (View.readAt (Elt F) arg12.view (Rect.unit (s := S2x18x144x128) (k0_off2 k 1#32 1#32) S1x1x144x128.size (k0_off2_inb k 0 1)).toLoadRect X12) (View.readAt (Elt F) arg12.view (Rect.unit (s := S2x18x144x128) (k0_off2 k 1#32 2#32) S1x1x144x128.size (k0_off2_inb k 0 2)).toLoadRect X12)) (arg16.view.readCov (smPList (tile (View.readAt (Elt F) arg14.view (Rect.unit (s := S2x768x256) ![0, 0, 0] S1x384x128.size inb_S2x768x256_S1x384x128_0_0_0).toLoadRect f14)) (tile (View.readAt (Elt F) arg14.view (Rect.unit (s := S2x768x256) ![0, 0, 128] S1x384x128.size inb_S2x768x256_S1x384x128_0_0_128).toLoadRect f14)) (tile (View.readAt (Elt F) arg14.view (Rect.unit (s := S2x768x256) ![0, 384, 0] S1x384x128.size inb_S2x768x256_S1x384x128_0_384_0).toLoadRect f14)) (tile (View.readAt (Elt F) arg14.view (Rect.unit (s := S2x768x256) ![0, 384, 128] S1x384x128.size inb_S2x768x256_S1x384x128_0_384_128).toLoadRect f14)) (tile (View.readAt (Elt F) arg14.view (Rect.unit (s := S2x768x256) ![1, 0, 0] S1x384x128.size inb_S2x768x256_S1x384x128_1_0_0).toLoadRect f14)) (tile (View.readAt (Elt F) arg14.view (Rect.unit (s := S2x768x256) ![1, 0, 128] S1x384x128.size inb_S2x768x256_S1x384x128_1_0_128).toLoadRect f14)) (tile (View.readAt (Elt F) arg14.view (Rect.unit (s := S2x768x256) ![1, 384, 0] S1x384x128.size inb_S2x768x256_S1x384x128_1_384_0).toLoadRect f14)) (tile (View.readAt (Elt F) arg14.view (Rect.unit (s := S2x768x256) ![1, 384, 128] S1x384x128.size inb_S2x768x256_S1x384x128_1_384_128).toLoadRect f14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x768x256) ![0, 0, 0] S1x768x256.size inb_S2x768x256_S1x768x256_0_0_0).toLoadRect) (arg16.view.readCov (smPList (tile (View.readAt (Elt F) arg14.view (Rect.unit (s := S2x768x256) ![0, 0, 0] S1x384x128.size inb_S2x768x256_S1x384x128_0_0_0).toLoadRect f14)) (tile (View.readAt (Elt F) arg14.view (Rect.unit (s := S2x768x256) ![0, 0, 128] S1x384x128.size inb_S2x768x256_S1x384x128_0_0_128).toLoadRect f14)) (tile (View.readAt (Elt F) arg14.view (Rect.unit (s := S2x768x256) ![0, 384, 0] S1x384x128.size inb_S2x768x256_S1x384x128_0_384_0).toLoadRect f14)) (tile (View.readAt (Elt F) arg14.view (Rect.unit (s := S2x768x256) ![0, 384, 128] S1x384x128.size inb_S2x768x256_S1x384x128_0_384_128).toLoadRect f14)) (tile (View.readAt (Elt F) arg14.view (Rect.unit (s := S2x768x256) ![1, 0, 0] S1x384x128.size inb_S2x768x256_S1x384x128_1_0_0).toLoadRect f14)) (tile (View.readAt (Elt F) arg14.view (Rect.unit (s := S2x768x256) ![1, 0, 128] S1x384x128.size inb_S2x768x256_S1x384x128_1_0_128).toLoadRect f14)) (tile (View.readAt (Elt F) arg14.view (Rect.unit (s := S2x768x256) ![1, 384, 0] S1x384x128.size inb_S2x768x256_S1x384x128_1_384_0).toLoadRect f14)) (tile (View.readAt (Elt F) arg14.view (Rect.unit (s := S2x768x256) ![1, 384, 128] S1x384x128.size inb_S2x768x256_S1x384x128_1_384_128).toLoadRect f14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x768x256) ![1, 0, 0] S1x768x256.size inb_S2x768x256_S1x768x256_1_0_0).toLoadRect) (arg18.view.readCov (smLList (tile (View.readAt (Elt F) arg14.view (Rect.unit (s := S2x768x256) ![0, 0, 0] S1x384x128.size inb_S2x768x256_S1x384x128_0_0_0).toLoadRect f14)) (tile (View.readAt (Elt F) arg14.view (Rect.unit (s := S2x768x256) ![0, 0, 128] S1x384x128.size inb_S2x768x256_S1x384x128_0_0_128).toLoadRect f14)) (tile (View.readAt (Elt F) arg14.view (Rect.unit (s := S2x768x256) ![0, 384, 0] S1x384x128.size inb_S2x768x256_S1x384x128_0_384_0).toLoadRect f14)) (tile (View.readAt (Elt F) arg14.view (Rect.unit (s := S2x768x256) ![0, 384, 128] S1x384x128.size inb_S2x768x256_S1x384x128_0_384_128).toLoadRect f14)) (tile (View.readAt (Elt F) arg14.view (Rect.unit (s := S2x768x256) ![1, 0, 0] S1x384x128.size inb_S2x768x256_S1x384x128_1_0_0).toLoadRect f14)) (tile (View.readAt (Elt F) arg14.view (Rect.unit (s := S2x768x256) ![1, 0, 128] S1x384x128.size inb_S2x768x256_S1x384x128_1_0_128).toLoadRect f14)) (tile (View.readAt (Elt F) arg14.view (Rect.unit (s := S2x768x256) ![1, 384, 0] S1x384x128.size inb_S2x768x256_S1x384x128_1_384_0).toLoadRect f14)) (tile (View.readAt (Elt F) arg14.view (Rect.unit (s := S2x768x256) ![1, 384, 128] S1x384x128.size inb_S2x768x256_S1x384x128_1_384_128).toLoadRect f14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x8x256) ![0, 0, 0] S1x2x256.size inb_S2x8x256_S1x2x256_0_0_0).toLoadRect) (arg18.view.readCov (smLList (tile (View.readAt (Elt F) arg14.view (Rect.unit (s := S2x768x256) ![0, 0, 0] S1x384x128.size inb_S2x768x256_S1x384x128_0_0_0).toLoadRect f14)) (tile (View.readAt (Elt F) arg14.view (Rect.unit (s := S2x768x256) ![0, 0, 128] S1x384x128.size inb_S2x768x256_S1x384x128_0_0_128).toLoadRect f14)) (tile (View.readAt (Elt F) arg14.view (Rect.unit (s := S2x768x256) ![0, 384, 0] S1x384x128.size inb_S2x768x256_S1x384x128_0_384_0).toLoadRect f14)) (tile (View.readAt (Elt F) arg14.view (Rect.unit (s := S2x768x256) ![0, 384, 128] S1x384x128.size inb_S2x768x256_S1x384x128_0_384_128).toLoadRect f14)) (tile (View.readAt (Elt F) arg14.view (Rect.unit (s := S2x768x256) ![1, 0, 0] S1x384x128.size inb_S2x768x256_S1x384x128_1_0_0).toLoadRect f14)) (tile (View.readAt (Elt F) arg14.view (Rect.unit (s := S2x768x256) ![1, 0, 128] S1x384x128.size inb_S2x768x256_S1x384x128_1_0_128).toLoadRect f14)) (tile (View.readAt (Elt F) arg14.view (Rect.unit (s := S2x768x256) ![1, 384, 0] S1x384x128.size inb_S2x768x256_S1x384x128_1_384_0).toLoadRect f14)) (tile (View.readAt (Elt F) arg14.view (Rect.unit (s := S2x768x256) ![1, 384, 128] S1x384x128.size inb_S2x768x256_S1x384x128_1_384_128).toLoadRect f14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide)))) (Rect.unit (s := S2x8x256) ![1, 0, 0] S1x2x256.size inb_S2x8x256_S1x2x256_1_0_0).toLoadRect) (pvList (k0_off3 k 2#32) (k0_off4 k 2#32) (k0_off5 k 2#32) (k0_off6 k 2#32) (k0_off3_inb k 1) (k0_off4_inb k 1) (k0_off5_inb k 1) (k0_off6_inb k 1) v404 (vals (View.readAt (Elt F) arg12.view (Rect.unit (s := S2x18x144x128) (k0_off1 k 2#32 0#32) S1x1x144x128.size (k0_off1_inb k 1 0)).toLoadRect X12) (View.readAt (Elt F) arg12.view (Rect.unit (s := S2x18x144x128) (k0_off1 k 2#32 1#32) S1x1x144x128.size (k0_off1_inb k 1 1)).toLoadRect X12) (View.readAt (Elt F) arg12.view (Rect.unit (s := S2x18x144x128) (k0_off1 k 2#32 2#32) S1x1x144x128.size (k0_off1_inb k 1 2)).toLoadRect X12) (View.readAt (Elt F) arg12.view (Rect.unit (s := S2x18x144x128) (k0_off2 k 2#32 0#32) S1x1x144x128.size (k0_off2_inb k 1 0)).toLoadRect X12) (View.readAt (Elt F) arg12.view (Rect.unit (s := S2x18x144x128) (k0_off2 k 2#32 1#32) S1x1x144x128.size (k0_off2_inb k 1 1)).toLoadRect X12) (View.readAt (Elt F) arg12.view (Rect.unit (s := S2x18x144x128) (k0_off2 k 2#32 2#32) S1x1x144x128.size (k0_off2_inb k 1 2)).toLoadRect X12)) (View.readAt (Elt F) arg15.view (Rect.unit (s := S2x768x256) ![0, 0, 0] S1x768x256.size inb_S2x768x256_S1x768x256_0_0_0).toLoadRect f15) (View.readAt (Elt F) arg15.view (Rect.unit (s := S2x768x256) ![1, 0, 0] S1x768x256.size inb_S2x768x256_S1x768x256_1_0_0).toLoadRect f15) (View.readAt (Elt F) arg17.view (Rect.unit (s := S2x8x256) ![0, 0, 0] S1x2x256.size inb_S2x8x256_S1x2x256_0_0_0).toLoadRect f17) (View.readAt (Elt F) arg17.view (Rect.unit (s := S2x8x256) ![1, 0, 0] S1x2x256.size inb_S2x8x256_S1x2x256_1_0_0).toLoadRect f17) ([])) := by
  unfold trip; rfl

/-- The score tiles a trip leaves for its first query block. -/
theorem trip_13 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.1 f8 f13 f14 f15 f16 f17 f18 = scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5) := by
  unfold trip; rfl

/-- The score tiles a trip leaves for its second query block. -/
theorem trip_14 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.1 f8 f13 f14 f15 f16 f17 f18 = scList (prod0 (View.readAt (Elt F) arg2.view (Rect.unit (s := S16x512x128) (k0_off10 k) S1x512x128.size (k0_off10_inb k)).toLoadRect X2) (View.readAt (Elt F) arg11.view (Rect.unit (s := S2x2304x128) (k0_off11 k) S1x384x128.size (k0_off11_inb k)).toLoadRect X11) (View.readAt (Elt F) arg11.view (Rect.unit (s := S2x2304x128) (k0_off12 k) S1x384x128.size (k0_off12_inb k)).toLoadRect X11)) (prod1 (View.readAt (Elt F) arg2.view (Rect.unit (s := S16x512x128) (k0_off10 k) S1x512x128.size (k0_off10_inb k)).toLoadRect X2) (View.readAt (Elt F) arg11.view (Rect.unit (s := S2x2304x128) (k0_off11 k) S1x384x128.size (k0_off11_inb k)).toLoadRect X11) (View.readAt (Elt F) arg11.view (Rect.unit (s := S2x2304x128) (k0_off12 k) S1x384x128.size (k0_off12_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5) := by
  unfold trip; rfl

/-- The probability tiles a trip leaves for its first query block. -/
theorem trip_15 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.1 f8 f13 f14 f15 f16 f17 f18 = smPList (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 0, 0] S1x384x128.size inb_S2x768x256_S1x384x128_0_0_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 0, 128] S1x384x128.size inb_S2x768x256_S1x384x128_0_0_128).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 384, 0] S1x384x128.size inb_S2x768x256_S1x384x128_0_384_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 384, 128] S1x384x128.size inb_S2x768x256_S1x384x128_0_384_128).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 0, 0] S1x384x128.size inb_S2x768x256_S1x384x128_1_0_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 0, 128] S1x384x128.size inb_S2x768x256_S1x384x128_1_0_128).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 384, 0] S1x384x128.size inb_S2x768x256_S1x384x128_1_384_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 384, 128] S1x384x128.size inb_S2x768x256_S1x384x128_1_384_128).toLoadRect)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide))) := by
  unfold trip; rfl

/-- The probability tiles a trip makes of the scores it finds. -/
theorem trip_16 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.1 f8 f13 f14 f15 f16 f17 f18 = smPList (tile (View.readAt (Elt F) arg14.view (Rect.unit (s := S2x768x256) ![0, 0, 0] S1x384x128.size inb_S2x768x256_S1x384x128_0_0_0).toLoadRect f14)) (tile (View.readAt (Elt F) arg14.view (Rect.unit (s := S2x768x256) ![0, 0, 128] S1x384x128.size inb_S2x768x256_S1x384x128_0_0_128).toLoadRect f14)) (tile (View.readAt (Elt F) arg14.view (Rect.unit (s := S2x768x256) ![0, 384, 0] S1x384x128.size inb_S2x768x256_S1x384x128_0_384_0).toLoadRect f14)) (tile (View.readAt (Elt F) arg14.view (Rect.unit (s := S2x768x256) ![0, 384, 128] S1x384x128.size inb_S2x768x256_S1x384x128_0_384_128).toLoadRect f14)) (tile (View.readAt (Elt F) arg14.view (Rect.unit (s := S2x768x256) ![1, 0, 0] S1x384x128.size inb_S2x768x256_S1x384x128_1_0_0).toLoadRect f14)) (tile (View.readAt (Elt F) arg14.view (Rect.unit (s := S2x768x256) ![1, 0, 128] S1x384x128.size inb_S2x768x256_S1x384x128_1_0_128).toLoadRect f14)) (tile (View.readAt (Elt F) arg14.view (Rect.unit (s := S2x768x256) ![1, 384, 0] S1x384x128.size inb_S2x768x256_S1x384x128_1_384_0).toLoadRect f14)) (tile (View.readAt (Elt F) arg14.view (Rect.unit (s := S2x768x256) ![1, 384, 128] S1x384x128.size inb_S2x768x256_S1x384x128_1_384_128).toLoadRect f14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide))) := by
  unfold trip; rfl

/-- The sink weights a trip leaves for its first query block. -/
theorem trip_17 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.2.1 f8 f13 f14 f15 f16 f17 f18 = smLList (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 0, 0] S1x384x128.size inb_S2x768x256_S1x384x128_0_0_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 0, 128] S1x384x128.size inb_S2x768x256_S1x384x128_0_0_128).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 384, 0] S1x384x128.size inb_S2x768x256_S1x384x128_0_384_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![0, 384, 128] S1x384x128.size inb_S2x768x256_S1x384x128_0_384_128).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 0, 0] S1x384x128.size inb_S2x768x256_S1x384x128_1_0_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 0, 128] S1x384x128.size inb_S2x768x256_S1x384x128_1_0_128).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 384, 0] S1x384x128.size inb_S2x768x256_S1x384x128_1_384_0).toLoadRect)) (tile (arg13.view.readCov (scList (prod0 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (prod1 (View.readAt (Elt F) arg2.view (Rect.unit (s := S16x512x128) (k0_off7 k) S1x512x128.size (k0_off7_inb k)).toLoadRect X2) (View.readAt (Elt F) arg11.view (Rect.unit (s := S2x2304x128) (k0_off8 k) S1x384x128.size (k0_off8_inb k)).toLoadRect X11) (View.readAt (Elt F) arg11.view (Rect.unit (s := S2x2304x128) (k0_off9 k) S1x384x128.size (k0_off9_inb k)).toLoadRect X11)) (View.readAt (Elt F) arg5.view (Rect.unit (s := S8x384x128) ![0, 0, 0] S1x384x128.size inb_S8x384x128_S1x384x128_0_0_0).toLoadRect X5) (View.readAt (Elt F) arg5.view (Rect.unit (s := S8x384x128) ![1, 0, 0] S1x384x128.size inb_S8x384x128_S1x384x128_1_0_0).toLoadRect X5) (View.readAt (Elt F) arg5.view (Rect.unit (s := S8x384x128) ![2, 0, 0] S1x384x128.size inb_S8x384x128_S1x384x128_2_0_0).toLoadRect X5) (View.readAt (Elt F) arg5.view (Rect.unit (s := S8x384x128) ![3, 0, 0] S1x384x128.size inb_S8x384x128_S1x384x128_3_0_0).toLoadRect X5) (View.readAt (Elt F) arg5.view (Rect.unit (s := S8x384x128) ![4, 0, 0] S1x384x128.size inb_S8x384x128_S1x384x128_4_0_0).toLoadRect X5) (View.readAt (Elt F) arg5.view (Rect.unit (s := S8x384x128) ![5, 0, 0] S1x384x128.size inb_S8x384x128_S1x384x128_5_0_0).toLoadRect X5) (View.readAt (Elt F) arg5.view (Rect.unit (s := S8x384x128) ![6, 0, 0] S1x384x128.size inb_S8x384x128_S1x384x128_6_0_0).toLoadRect X5) (View.readAt (Elt F) arg5.view (Rect.unit (s := S8x384x128) ![7, 0, 0] S1x384x128.size inb_S8x384x128_S1x384x128_7_0_0).toLoadRect X5)) (Rect.unit (s := S2x768x256) ![1, 384, 128] S1x384x128.size inb_S2x768x256_S1x384x128_1_384_128).toLoadRect)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide))) := by
  unfold trip; rfl

/-- The sink weights a trip makes of the scores it finds. -/
theorem trip_18 (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec F S128x128 .f32) (v705 : FVec F S384x128 .bf16) (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty) (f8 : BufTy.Contents (Elt F) arg8.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (k : Fin k0_t1_loop.trips) :
    (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k).2.2.2.2.2.2.1 f8 f13 f14 f15 f16 f17 f18 = smLList (tile (View.readAt (Elt F) arg14.view (Rect.unit (s := S2x768x256) ![0, 0, 0] S1x384x128.size inb_S2x768x256_S1x384x128_0_0_0).toLoadRect f14)) (tile (View.readAt (Elt F) arg14.view (Rect.unit (s := S2x768x256) ![0, 0, 128] S1x384x128.size inb_S2x768x256_S1x384x128_0_0_128).toLoadRect f14)) (tile (View.readAt (Elt F) arg14.view (Rect.unit (s := S2x768x256) ![0, 384, 0] S1x384x128.size inb_S2x768x256_S1x384x128_0_384_0).toLoadRect f14)) (tile (View.readAt (Elt F) arg14.view (Rect.unit (s := S2x768x256) ![0, 384, 128] S1x384x128.size inb_S2x768x256_S1x384x128_0_384_128).toLoadRect f14)) (tile (View.readAt (Elt F) arg14.view (Rect.unit (s := S2x768x256) ![1, 0, 0] S1x384x128.size inb_S2x768x256_S1x384x128_1_0_0).toLoadRect f14)) (tile (View.readAt (Elt F) arg14.view (Rect.unit (s := S2x768x256) ![1, 0, 128] S1x384x128.size inb_S2x768x256_S1x384x128_1_0_128).toLoadRect f14)) (tile (View.readAt (Elt F) arg14.view (Rect.unit (s := S2x768x256) ![1, 384, 0] S1x384x128.size inb_S2x768x256_S1x384x128_1_384_0).toLoadRect f14)) (tile (View.readAt (Elt F) arg14.view (Rect.unit (s := S2x768x256) ![1, 384, 128] S1x384x128.size inb_S2x768x256_S1x384x128_1_384_128).toLoadRect f14)) (View.readAt (Elt F) arg1.view (Rect.unit (s := S8) ![0] S1.size inb_S8_S1_0).toLoadRect X1 (Shape.Idx.first (by decide))) (View.readAt (Elt F) arg1.view (Rect.unit (s := S8) ![1] S1.size inb_S8_S1_1).toLoadRect X1 (Shape.Idx.first (by decide))) (View.readAt (Elt F) arg1.view (Rect.unit (s := S8) ![2] S1.size inb_S8_S1_2).toLoadRect X1 (Shape.Idx.first (by decide))) (View.readAt (Elt F) arg1.view (Rect.unit (s := S8) ![3] S1.size inb_S8_S1_3).toLoadRect X1 (Shape.Idx.first (by decide))) (View.readAt (Elt F) arg1.view (Rect.unit (s := S8) ![4] S1.size inb_S8_S1_4).toLoadRect X1 (Shape.Idx.first (by decide))) (View.readAt (Elt F) arg1.view (Rect.unit (s := S8) ![5] S1.size inb_S8_S1_5).toLoadRect X1 (Shape.Idx.first (by decide))) (View.readAt (Elt F) arg1.view (Rect.unit (s := S8) ![6] S1.size inb_S8_S1_6).toLoadRect X1 (Shape.Idx.first (by decide))) (View.readAt (Elt F) arg1.view (Rect.unit (s := S8) ![7] S1.size inb_S8_S1_7).toLoadRect X1 (Shape.Idx.first (by decide))) := by
  unfold trip; rfl

end Cert.KernelIdeal.Attn

end
-- ==== Proof.AttnInv.lean ====
module

public import proofs.«01_k».proof.Proof.AttnReads
public import proofs.«01_k».proof.Proof.AttnBridge

@[expose] public section

set_option maxRecDepth 16384
set_option maxHeartbeats 2000000

noncomputable section

namespace Cert.KernelIdeal.Attn

open Cert.KernelIdeal Cert.KernelIdeal.Gen
open Idealize.ShloMosaic Idealize.ShloMosaic.Tactic

/-- The mask value is the least of the extended reals. -/
theorem ninf_eq : Ideal.ofBits FTy.f32 0xFF800000#32 = ⊥ := by
  simp [Ideal.ofBits, Ideal.ieee]

section sem
variable (x0 : FVec Ideal S8 .f32) (x1 : FVec Ideal S16x512x128 .bf16) (x2 x3 : FVec Ideal S2048x128 .bf16) (x4 : FVec Ideal S8x384x128 .f32)

/-- A load of one head's sink. -/
theorem ld_sink {κ : Kind} {sp : Space} (v : View sig κ sp S8 .f32) (X : v.ty.Contents (Elt Ideal)) (h : ∀ y, v.read (Elt Ideal) X y = x0 y) (n : ℕ) (hn : n < 8)
    (inb : ∀ a, (![n] : Fin 1 → ℕ) a + S1.size a ≤ S8.size a) (hp : 0 < S1.numel) :
    View.readAt (Elt Ideal) v (Rect.unit (s := S8) ![n] S1.size inb).toLoadRect X (Shape.Idx.first hp) = at1 x0 n := by
  refine (h _).trans (congrArg x0 ?_)
  funext k
  apply Fin.ext
  refine (ValueKit.rect_emb_unit_val _ _ _ _ _).trans ?_
  match k with
  | 0 => exact (Nat.mod_eq_of_lt hn).symm

/-- A load of one block of queries. -/
theorem ld_q {κ : Kind} {sp : Space} (v : View sig κ sp S16x512x128 .bf16) (X : v.ty.Contents (Elt Ideal)) (h : ∀ y, v.read (Elt Ideal) X y = x1 y) (off : Fin 3 → ℕ)
    (inb : ∀ a, off a + S1x512x128.size a ≤ S16x512x128.size a) (j : ℕ) (hj : j < 16) (ho : off = ![j, 0, 0]) (r : Fin 512) (c : Fin 128) :
    View.readAt (Elt Ideal) v (Rect.unit (s := S16x512x128) off S1x512x128.size inb).toLoadRect X (ix3 0 r c) = at3 x1 j r.val c.val := by
  refine (load3 v X off inb ho 0 r c (by simpa using hj) (by omega) (by omega)).trans ?_
  rw [h]
  refine (eq_at3 x1 _ _ _).trans ?_
  simp only [Nat.zero_add, Fin.val_zero, Nat.add_zero]

/-- A load of one band of the padded keys. -/
theorem ld_k {κ : Kind} {sp : Space} (v : View sig κ sp S2x2304x128 .bf16) (X : v.ty.Contents (Elt Ideal)) (h : ∀ y, v.read (Elt Ideal) X y = KzA x2 y) (off : Fin 3 → ℕ)
    (inb : ∀ a, off a + S1x384x128.size a ≤ S2x2304x128.size a) (kv j : ℕ) (hk : kv < 2) (hj : j < 16) (ho : off = ![kv, 128 * j, 0]) (x : Fin 384) (l : Fin 128) :
    View.readAt (Elt Ideal) v (Rect.unit (s := S2x2304x128) off S1x384x128.size inb).toLoadRect X (ix3 0 x l) = pad x2 kv (128 * j + x.val) l.val := by
  refine (load3 v X off inb ho 0 x l (by simpa using hk) (by omega) (by omega)).trans ?_
  rw [h]
  show pad x2 (kv + 0) (128 * j + x.val) (0 + l.val) = _
  simp only [Nat.zero_add, Nat.add_zero]

/-- A load of one block of the transposed values. -/
theorem ld_v {κ : Kind} {sp : Space} (v : View sig κ sp S2x18x144x128 .bf16) (X : v.ty.Contents (Elt Ideal)) (h : ∀ y, v.read (Elt Ideal) X y = VtA x3 y) (off : Fin 4 → ℕ)
    (inb : ∀ a, off a + S1x1x144x128.size a ≤ S2x18x144x128.size a) (kv m : ℕ) (hk : kv < 2) (hm : m < 18) (ho : off = ![kv, m, 0, 0]) (e : Fin 144) (c : Fin 128) :
    View.readAt (Elt Ideal) v (Rect.unit (s := S2x18x144x128) off S1x1x144x128.size inb).toLoadRect X (ix4 0 0 e c) = va x3 kv (128 * m + c.val) e.val := by
  refine (load4 v X off inb ho 0 0 e c (by simpa using hk) (by simpa using hm) (by omega) (by omega)).trans ?_
  rw [h]
  show va x3 (kv + 0) (128 * (m + 0) + (0 + c.val)) (0 + e.val) = _
  simp only [Nat.zero_add, Nat.add_zero]

/-- A load of one head's bias. -/
theorem ld_b {κ : Kind} {sp : Space} (v : View sig κ sp S8x384x128 .f32) (X : v.ty.Contents (Elt Ideal)) (h : ∀ y, v.read (Elt Ideal) X y = x4 y) (n : Fin 8)
    (inb : ∀ a, (![n.val, 0, 0] : Fin 3 → ℕ) a + S1x384x128.size a ≤ S8x384x128.size a) (r : Fin 384) (c : Fin 128) :
    View.readAt (Elt Ideal) v (Rect.unit (s := S8x384x128) ![n.val, 0, 0] S1x384x128.size inb).toLoadRect X (ix3 0 r c) = x4 (ix3 n r c) := by
  refine (load3 v X _ inb rfl 0 r c n.isLt (by omega) (by omega)).trans ?_
  rw [h]
  refine congrArg x4 (congr (congr (congrArg ix3 (Fin.ext ?_)) (Fin.ext ?_)) (Fin.ext ?_))
  · rfl
  · exact Nat.zero_add _
  · exact Nat.zero_add _

/-- A load of one tile of a score buffer. -/
theorem ld_s (j : ℕ) {κ : Kind} {sp : Space} (v : View sig κ sp S2x768x256 .f32) (X : v.ty.Contents (Elt Ideal)) (h : ∀ y, v.read (Elt Ideal) X y = ScA x1 x2 x4 j y) (p kv t : ℕ) (hp : p < 2) (hk : kv < 2) (ht : t < 2)
    (inb : ∀ a, (![p, 384 * kv, 128 * t] : Fin 3 → ℕ) a + S1x384x128.size a ≤ S2x768x256.size a) (r : Fin 384) (c : Fin 128) :
    View.readAt (Elt Ideal) v (Rect.unit (s := S2x768x256) ![p, 384 * kv, 128 * t] S1x384x128.size inb).toLoadRect X (ix3 0 r c) = sc x1 x2 x4 j (2 * p + t) kv c.val r.val := by
  refine (load3 v X _ inb rfl 0 r c (by simpa using hp) (by omega) (by omega)).trans ?_
  rw [h]
  have er := r.isLt; have ec := c.isLt
  show sc x1 x2 x4 j (2 * (p + 0) + (128 * t + c.val) / 128) ((384 * kv + r.val) / 384) ((128 * t + c.val) % 128) ((384 * kv + r.val) % 384) = _
  congr 1 <;> omega

/-- A load of one pair's probabilities. -/
theorem ld_p (j : ℕ) {κ : Kind} {sp : Space} (v : View sig κ sp S2x768x256 .bf16) (X : v.ty.Contents (Elt Ideal)) (h : ∀ y, v.read (Elt Ideal) X y = PrA x0 x1 x2 x4 j y) (p : ℕ) (hp : p < 2)
    (inb : ∀ a, (![p, 0, 0] : Fin 3 → ℕ) a + S1x768x256.size a ≤ S2x768x256.size a) (k : Fin 768) (c : Fin 256) :
    View.readAt (Elt Ideal) v (Rect.unit (s := S2x768x256) ![p, 0, 0] S1x768x256.size inb).toLoadRect X (ix3 0 k c) = pr x0 x1 x2 x4 j (2 * p + c.val / 128) (k.val / 384) (c.val % 128) (k.val % 384) := by
  refine (load3 v X _ inb rfl 0 k c (by simpa using hp) (by omega) (by omega)).trans ?_
  rw [h]
  show pr x0 x1 x2 x4 j (2 * (p + 0) + (0 + c.val) / 128) ((0 + k.val) / 384) ((0 + c.val) % 128) ((0 + k.val) % 384) = _
  simp only [Nat.zero_add, Nat.add_zero]

/-- A load of one pair's sink weights. -/
theorem ld_l (j : ℕ) {κ : Kind} {sp : Space} (v : View sig κ sp S2x8x256 .f32) (X : v.ty.Contents (Elt Ideal))
    (h : ∀ (a : Fin 2) (b : Fin 8) (c : Fin 256), b.val < 2 → v.read (Elt Ideal) X (ix3 a b c) = LkA x0 x1 x2 x4 j (ix3 a b c)) (p : ℕ) (hp : p < 2)
    (inb : ∀ a, (![p, 0, 0] : Fin 3 → ℕ) a + S1x2x256.size a ≤ S2x8x256.size a) (s : Fin 2) (c : Fin 256) :
    View.readAt (Elt Ideal) v (Rect.unit (s := S2x8x256) ![p, 0, 0] S1x2x256.size inb).toLoadRect X (ix3 0 s c) = lk x0 x1 x2 x4 j (2 * p + c.val / 128) s.val (c.val % 128) := by
  have es := s.isLt
  refine (load3 v X _ inb rfl 0 s c (by simpa using hp) (by omega) (by omega)).trans ?_
  rw [h _ _ _ (by show 0 + s.val < 2; omega)]
  show lk x0 x1 x2 x4 j (2 * (p + 0) + (0 + c.val) / 128) (0 + s.val) ((0 + c.val) % 128) = _
  simp only [Nat.zero_add, Nat.add_zero]

/-- What it is for a reading of score tiles to give a block's masked scores. -/
def Masks (j : ℕ) (tf : FVec Ideal S1x384x128 .f32 → FVec Ideal S384x128 .f32) : Prop :=
  ∀ (g kv : ℕ) (T : FVec Ideal S1x384x128 .f32), (∀ (r : Fin 384) (c : Fin 128), T (ix3 0 r c) = sc x1 x2 x4 j g kv c.val r.val) →
    ∀ (r : Fin 384) (c : Fin 128), tf T (ix2 r c) = scm x1 x2 x4 j g kv c.val r.val

theorem masks_tile (j : ℕ) (h : 1 ≤ j) (h' : j ≤ 14) : Masks x1 x2 x4 j tile := by
  intro g kv T hT r c
  have er := r.isLt
  rw [scm, if_pos (by omega), ← hT]
  pointwise [tile]

theorem masks_fst : Masks x1 x2 x4 0 (tileFst (broadcast S128x128 (FloatOps.ofBits .f32 0xFF800000#32 : Ideal .f32))) := by
  intro g kv T hT r c
  have er := r.isLt
  rw [scm]
  pointwise [tileFst, tile]
  by_cases h : r.val < 128
  · rw [dif_pos h, if_neg (by omega), ninf_eq]
  · rw [dif_neg h]
    refine Eq.trans ?_ (if_pos (show 128 ≤ r.val ∧ r.val < 2176 by omega)).symm
    exact (congrArg (fun i => T (ix3 0 i c)) (Fin.ext (show 128 + (r.val - 128) = r.val by omega))).trans (hT r c)

theorem masks_lst : Masks x1 x2 x4 15 (tileLst (broadcast S128x128 (FloatOps.ofBits .f32 0xFF800000#32 : Ideal .f32))) := by
  intro g kv T hT r c
  have er := r.isLt
  rw [scm]
  pointwise [tileLst, tile]
  by_cases h : r.val < 256
  · rw [dif_pos h, if_pos (by omega), hT]
  · rw [dif_neg h, if_neg (by omega), ninf_eq]

section prob
variable (j : ℕ) (tf : FVec Ideal S1x384x128 .f32 → FVec Ideal S384x128 .f32) (htf : Masks x1 x2 x4 j tf)
  {κ κ' : Kind} {sp sp' : Space} (v : View sig κ sp S2x768x256 .f32) (X : v.ty.Contents (Elt Ideal)) (h : ∀ y, v.read (Elt Ideal) X y = ScA x1 x2 x4 j y)
  (w : View sig κ' sp' S8 .f32) (W : w.ty.Contents (Elt Ideal)) (hw : ∀ y, w.read (Elt Ideal) W y = x0 y)
include htf h hw

/-- The probability tiles stored from a block's score buffer are the block's. -/
theorem pr_of : View.PiecesOf (PrA x0 x1 x2 x4 j) (smPList (tf (View.readAt (Elt Ideal) v (Rect.unit (s := S2x768x256) ![0, 0, 0] S1x384x128.size inb_S2x768x256_S1x384x128_0_0_0).toLoadRect X)) (tf (View.readAt (Elt Ideal) v (Rect.unit (s := S2x768x256) ![0, 0, 128] S1x384x128.size inb_S2x768x256_S1x384x128_0_0_128).toLoadRect X)) (tf (View.readAt (Elt Ideal) v (Rect.unit (s := S2x768x256) ![0, 384, 0] S1x384x128.size inb_S2x768x256_S1x384x128_0_384_0).toLoadRect X)) (tf (View.readAt (Elt Ideal) v (Rect.unit (s := S2x768x256) ![0, 384, 128] S1x384x128.size inb_S2x768x256_S1x384x128_0_384_128).toLoadRect X)) (tf (View.readAt (Elt Ideal) v (Rect.unit (s := S2x768x256) ![1, 0, 0] S1x384x128.size inb_S2x768x256_S1x384x128_1_0_0).toLoadRect X)) (tf (View.readAt (Elt Ideal) v (Rect.unit (s := S2x768x256) ![1, 0, 128] S1x384x128.size inb_S2x768x256_S1x384x128_1_0_128).toLoadRect X)) (tf (View.readAt (Elt Ideal) v (Rect.unit (s := S2x768x256) ![1, 384, 0] S1x384x128.size inb_S2x768x256_S1x384x128_1_384_0).toLoadRect X)) (tf (View.readAt (Elt Ideal) v (Rect.unit (s := S2x768x256) ![1, 384, 128] S1x384x128.size inb_S2x768x256_S1x384x128_1_384_128).toLoadRect X)) (View.readAt (Elt Ideal) w (Rect.unit (s := S8) ![0] S1.size inb_S8_S1_0).toLoadRect W (Shape.Idx.first (by decide))) (View.readAt (Elt Ideal) w (Rect.unit (s := S8) ![1] S1.size inb_S8_S1_1).toLoadRect W (Shape.Idx.first (by decide))) (View.readAt (Elt Ideal) w (Rect.unit (s := S8) ![2] S1.size inb_S8_S1_2).toLoadRect W (Shape.Idx.first (by decide))) (View.readAt (Elt Ideal) w (Rect.unit (s := S8) ![3] S1.size inb_S8_S1_3).toLoadRect W (Shape.Idx.first (by decide))) (View.readAt (Elt Ideal) w (Rect.unit (s := S8) ![4] S1.size inb_S8_S1_4).toLoadRect W (Shape.Idx.first (by decide))) (View.readAt (Elt Ideal) w (Rect.unit (s := S8) ![5] S1.size inb_S8_S1_5).toLoadRect W (Shape.Idx.first (by decide))) (View.readAt (Elt Ideal) w (Rect.unit (s := S8) ![6] S1.size inb_S8_S1_6).toLoadRect W (Shape.Idx.first (by decide))) (View.readAt (Elt Ideal) w (Rect.unit (s := S8) ![7] S1.size inb_S8_S1_7).toLoadRect W (Shape.Idx.first (by decide)))) :=
  pr_pieces x0 x1 x2 x4 j _ _ _ _ _ _ _ _ _ _ _ _ _ _ _ _ (htf 0 0 _ (ld_s x1 x2 x4 j v X h 0 0 0 (by norm_num) (by norm_num) (by norm_num) (by decide))) (htf 1 0 _ (ld_s x1 x2 x4 j v X h 0 0 1 (by norm_num) (by norm_num) (by norm_num) (by decide))) (htf 0 1 _ (ld_s x1 x2 x4 j v X h 0 1 0 (by norm_num) (by norm_num) (by norm_num) (by decide))) (htf 1 1 _ (ld_s x1 x2 x4 j v X h 0 1 1 (by norm_num) (by norm_num) (by norm_num) (by decide))) (htf 2 0 _ (ld_s x1 x2 x4 j v X h 1 0 0 (by norm_num) (by norm_num) (by norm_num) (by decide))) (htf 3 0 _ (ld_s x1 x2 x4 j v X h 1 0 1 (by norm_num) (by norm_num) (by norm_num) (by decide))) (htf 2 1 _ (ld_s x1 x2 x4 j v X h 1 1 0 (by norm_num) (by norm_num) (by norm_num) (by decide))) (htf 3 1 _ (ld_s x1 x2 x4 j v X h 1 1 1 (by norm_num) (by norm_num) (by norm_num) (by decide))) (ld_sink x0 w W hw 0 (by norm_num) (by decide) (by decide)) (ld_sink x0 w W hw 1 (by norm_num) (by decide) (by decide)) (ld_sink x0 w W hw 2 (by norm_num) (by decide) (by decide)) (ld_sink x0 w W hw 3 (by norm_num) (by decide) (by decide)) (ld_sink x0 w W hw 4 (by norm_num) (by decide) (by decide)) (ld_sink x0 w W hw 5 (by norm_num) (by decide) (by decide)) (ld_sink x0 w W hw 6 (by norm_num) (by decide) (by decide)) (ld_sink x0 w W hw 7 (by norm_num) (by decide) (by decide))

/-- The sink weights stored from a block's score buffer are the block's. -/
theorem lk_of : View.PiecesOf (LkA x0 x1 x2 x4 j) (smLList (tf (View.readAt (Elt Ideal) v (Rect.unit (s := S2x768x256) ![0, 0, 0] S1x384x128.size inb_S2x768x256_S1x384x128_0_0_0).toLoadRect X)) (tf (View.readAt (Elt Ideal) v (Rect.unit (s := S2x768x256) ![0, 0, 128] S1x384x128.size inb_S2x768x256_S1x384x128_0_0_128).toLoadRect X)) (tf (View.readAt (Elt Ideal) v (Rect.unit (s := S2x768x256) ![0, 384, 0] S1x384x128.size inb_S2x768x256_S1x384x128_0_384_0).toLoadRect X)) (tf (View.readAt (Elt Ideal) v (Rect.unit (s := S2x768x256) ![0, 384, 128] S1x384x128.size inb_S2x768x256_S1x384x128_0_384_128).toLoadRect X)) (tf (View.readAt (Elt Ideal) v (Rect.unit (s := S2x768x256) ![1, 0, 0] S1x384x128.size inb_S2x768x256_S1x384x128_1_0_0).toLoadRect X)) (tf (View.readAt (Elt Ideal) v (Rect.unit (s := S2x768x256) ![1, 0, 128] S1x384x128.size inb_S2x768x256_S1x384x128_1_0_128).toLoadRect X)) (tf (View.readAt (Elt Ideal) v (Rect.unit (s := S2x768x256) ![1, 384, 0] S1x384x128.size inb_S2x768x256_S1x384x128_1_384_0).toLoadRect X)) (tf (View.readAt (Elt Ideal) v (Rect.unit (s := S2x768x256) ![1, 384, 128] S1x384x128.size inb_S2x768x256_S1x384x128_1_384_128).toLoadRect X)) (View.readAt (Elt Ideal) w (Rect.unit (s := S8) ![0] S1.size inb_S8_S1_0).toLoadRect W (Shape.Idx.first (by decide))) (View.readAt (Elt Ideal) w (Rect.unit (s := S8) ![1] S1.size inb_S8_S1_1).toLoadRect W (Shape.Idx.first (by decide))) (View.readAt (Elt Ideal) w (Rect.unit (s := S8) ![2] S1.size inb_S8_S1_2).toLoadRect W (Shape.Idx.first (by decide))) (View.readAt (Elt Ideal) w (Rect.unit (s := S8) ![3] S1.size inb_S8_S1_3).toLoadRect W (Shape.Idx.first (by decide))) (View.readAt (Elt Ideal) w (Rect.unit (s := S8) ![4] S1.size inb_S8_S1_4).toLoadRect W (Shape.Idx.first (by decide))) (View.readAt (Elt Ideal) w (Rect.unit (s := S8) ![5] S1.size inb_S8_S1_5).toLoadRect W (Shape.Idx.first (by decide))) (View.readAt (Elt Ideal) w (Rect.unit (s := S8) ![6] S1.size inb_S8_S1_6).toLoadRect W (Shape.Idx.first (by decide))) (View.readAt (Elt Ideal) w (Rect.unit (s := S8) ![7] S1.size inb_S8_S1_7).toLoadRect W (Shape.Idx.first (by decide)))) :=
  lk_pieces x0 x1 x2 x4 j _ _ _ _ _ _ _ _ _ _ _ _ _ _ _ _ (htf 0 0 _ (ld_s x1 x2 x4 j v X h 0 0 0 (by norm_num) (by norm_num) (by norm_num) (by decide))) (htf 1 0 _ (ld_s x1 x2 x4 j v X h 0 0 1 (by norm_num) (by norm_num) (by norm_num) (by decide))) (htf 0 1 _ (ld_s x1 x2 x4 j v X h 0 1 0 (by norm_num) (by norm_num) (by norm_num) (by decide))) (htf 1 1 _ (ld_s x1 x2 x4 j v X h 0 1 1 (by norm_num) (by norm_num) (by norm_num) (by decide))) (htf 2 0 _ (ld_s x1 x2 x4 j v X h 1 0 0 (by norm_num) (by norm_num) (by norm_num) (by decide))) (htf 3 0 _ (ld_s x1 x2 x4 j v X h 1 0 1 (by norm_num) (by norm_num) (by norm_num) (by decide))) (htf 2 1 _ (ld_s x1 x2 x4 j v X h 1 1 0 (by norm_num) (by norm_num) (by norm_num) (by decide))) (htf 3 1 _ (ld_s x1 x2 x4 j v X h 1 1 1 (by norm_num) (by norm_num) (by norm_num) (by decide))) (ld_sink x0 w W hw 0 (by norm_num) (by decide) (by decide)) (ld_sink x0 w W hw 1 (by norm_num) (by decide) (by decide)) (ld_sink x0 w W hw 2 (by norm_num) (by decide) (by decide)) (ld_sink x0 w W hw 3 (by norm_num) (by decide) (by decide)) (ld_sink x0 w W hw 4 (by norm_num) (by decide) (by decide)) (ld_sink x0 w W hw 5 (by norm_num) (by decide) (by decide)) (ld_sink x0 w W hw 6 (by norm_num) (by decide) (by decide)) (ld_sink x0 w W hw 7 (by norm_num) (by decide) (by decide))

end prob

/-- What the state before trip `k` reads: the next block's scores, the block before's probabilities and sink weights, and
    the output rows done. -/
def Inv (arg8 : Memref sig .tc .vmem S2048x512 .bf16) (arg13 arg14 : Memref sig .tc .vmem S2x768x256 .f32) (arg15 arg16 : Memref sig .tc .vmem S2x768x256 .bf16) (arg17 arg18 : Memref sig .tc .vmem S2x8x256 .f32)
    (k : ℕ) (s : St (F := Ideal) arg8 arg13 arg14 arg15 arg16 arg17 arg18) : Prop :=
  (∀ y, arg14.view.read (Elt Ideal) s.2.2.1 y = ScA x1 x2 x4 (2 * k + 1) y) ∧
  (∀ y, arg15.view.read (Elt Ideal) s.2.2.2.1 y = PrA x0 x1 x2 x4 (2 * k) y) ∧
  (∀ (a : Fin 2) (b : Fin 8) (c : Fin 256), b.val < 2 → arg17.view.read (Elt Ideal) s.2.2.2.2.2.1 (ix3 a b c) = LkA x0 x1 x2 x4 (2 * k) (ix3 a b c)) ∧
  (∀ (a : Fin 2048) (b : Fin 512), a.val < 256 * k → arg8.view.read (Elt Ideal) s.1 (ix2 a b) = OutA x0 x1 x2 x3 x4 (ix2 a b))

section offsets
variable (k : Fin k0_t1_loop.trips)
theorem o3_1 : k0_off3 k 1#32 = ![128 * (2 * k.val + 1), 0] := (k0_off3_eq k 0).trans (congrArg (fun n => ![n, 0]) (by show 256 * k.val + 128 - 128 * 0 = _; omega))
theorem o4_1 : k0_off4 k 1#32 = ![128 * (2 * k.val + 1), 128] := (k0_off4_eq k 0).trans (congrArg (fun n => ![n, 128]) (by show 256 * k.val + 128 - 128 * 0 = _; omega))
theorem o5_1 : k0_off5 k 1#32 = ![128 * (2 * k.val + 1), 256] := (k0_off5_eq k 0).trans (congrArg (fun n => ![n, 256]) (by show 256 * k.val + 128 - 128 * 0 = _; omega))
theorem o6_1 : k0_off6 k 1#32 = ![128 * (2 * k.val + 1), 384] := (k0_off6_eq k 0).trans (congrArg (fun n => ![n, 384]) (by show 256 * k.val + 128 - 128 * 0 = _; omega))
theorem o3_2 : k0_off3 k 2#32 = ![128 * (2 * k.val), 0] := (k0_off3_eq k 1).trans (congrArg (fun n => ![n, 0]) (by show 256 * k.val + 128 - 128 * 1 = _; omega))
theorem o4_2 : k0_off4 k 2#32 = ![128 * (2 * k.val), 128] := (k0_off4_eq k 1).trans (congrArg (fun n => ![n, 128]) (by show 256 * k.val + 128 - 128 * 1 = _; omega))
theorem o5_2 : k0_off5 k 2#32 = ![128 * (2 * k.val), 256] := (k0_off5_eq k 1).trans (congrArg (fun n => ![n, 256]) (by show 256 * k.val + 128 - 128 * 1 = _; omega))
theorem o6_2 : k0_off6 k 2#32 = ![128 * (2 * k.val), 384] := (k0_off6_eq k 1).trans (congrArg (fun n => ![n, 384]) (by show 256 * k.val + 128 - 128 * 1 = _; omega))
theorem o1_1_0 : k0_off1 k 1#32 0#32 = ![0, 2 * k.val + 1 + 0, 0, 0] := (k0_off1_eq k 0 0).trans (congrArg (fun n => ![0, n, 0, 0]) (by show 2 * k.val + 0 + 1 - 0 = _; omega))
theorem o2_1_0 : k0_off2 k 1#32 0#32 = ![1, 2 * k.val + 1 + 0, 0, 0] := (k0_off2_eq k 0 0).trans (congrArg (fun n => ![1, n, 0, 0]) (by show 2 * k.val + 0 + 1 - 0 = _; omega))
theorem o1_1_1 : k0_off1 k 1#32 1#32 = ![0, 2 * k.val + 1 + 1, 0, 0] := (k0_off1_eq k 0 1).trans (congrArg (fun n => ![0, n, 0, 0]) (by show 2 * k.val + 1 + 1 - 0 = _; omega))
theorem o2_1_1 : k0_off2 k 1#32 1#32 = ![1, 2 * k.val + 1 + 1, 0, 0] := (k0_off2_eq k 0 1).trans (congrArg (fun n => ![1, n, 0, 0]) (by show 2 * k.val + 1 + 1 - 0 = _; omega))
theorem o1_1_2 : k0_off1 k 1#32 2#32 = ![0, 2 * k.val + 1 + 2, 0, 0] := (k0_off1_eq k 0 2).trans (congrArg (fun n => ![0, n, 0, 0]) (by show 2 * k.val + 2 + 1 - 0 = _; omega))
theorem o2_1_2 : k0_off2 k 1#32 2#32 = ![1, 2 * k.val + 1 + 2, 0, 0] := (k0_off2_eq k 0 2).trans (congrArg (fun n => ![1, n, 0, 0]) (by show 2 * k.val + 2 + 1 - 0 = _; omega))
theorem o1_2_0 : k0_off1 k 2#32 0#32 = ![0, 2 * k.val + 0 + 0, 0, 0] := (k0_off1_eq k 1 0).trans (congrArg (fun n => ![0, n, 0, 0]) (by show 2 * k.val + 0 + 1 - 1 = _; omega))
theorem o2_2_0 : k0_off2 k 2#32 0#32 = ![1, 2 * k.val + 0 + 0, 0, 0] := (k0_off2_eq k 1 0).trans (congrArg (fun n => ![1, n, 0, 0]) (by show 2 * k.val + 0 + 1 - 1 = _; omega))
theorem o1_2_1 : k0_off1 k 2#32 1#32 = ![0, 2 * k.val + 0 + 1, 0, 0] := (k0_off1_eq k 1 1).trans (congrArg (fun n => ![0, n, 0, 0]) (by show 2 * k.val + 1 + 1 - 1 = _; omega))
theorem o2_2_1 : k0_off2 k 2#32 1#32 = ![1, 2 * k.val + 0 + 1, 0, 0] := (k0_off2_eq k 1 1).trans (congrArg (fun n => ![1, n, 0, 0]) (by show 2 * k.val + 1 + 1 - 1 = _; omega))
theorem o1_2_2 : k0_off1 k 2#32 2#32 = ![0, 2 * k.val + 0 + 2, 0, 0] := (k0_off1_eq k 1 2).trans (congrArg (fun n => ![0, n, 0, 0]) (by show 2 * k.val + 2 + 1 - 1 = _; omega))
theorem o2_2_2 : k0_off2 k 2#32 2#32 = ![1, 2 * k.val + 0 + 2, 0, 0] := (k0_off2_eq k 1 2).trans (congrArg (fun n => ![1, n, 0, 0]) (by show 2 * k.val + 2 + 1 - 1 = _; omega))
theorem o8_ : k0_off8 k = ![0, 128 * (2 * k.val + 2), 0] := (k0_off8_eq k).trans (congrArg (fun n => ![0, n, 0]) (by omega))
theorem o9_ : k0_off9 k = ![1, 128 * (2 * k.val + 2), 0] := (k0_off9_eq k).trans (congrArg (fun n => ![1, n, 0]) (by omega))
theorem o11_ : k0_off11 k = ![0, 128 * (2 * k.val + 3), 0] := (k0_off11_eq k).trans (congrArg (fun n => ![0, n, 0]) (by omega))
theorem o12_ : k0_off12 k = ![1, 128 * (2 * k.val + 3), 0] := (k0_off12_eq k).trans (congrArg (fun n => ![1, n, 0]) (by omega))
end offsets

section step
variable (𝒱 : Variants) (c : Dev nD) (bd : Option 𝒱.V) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (v404 : IVec S128x256 32) (v405 : FVec Ideal S128x128 .f32) (v705 : FVec Ideal S384x128 .bf16) (X1 : BufTy.Contents (Elt Ideal) arg1.view.ty) (X2 : BufTy.Contents (Elt Ideal) arg2.view.ty) (X5 : BufTy.Contents (Elt Ideal) arg5.view.ty) (X11 : BufTy.Contents (Elt Ideal) arg11.view.ty) (X12 : BufTy.Contents (Elt Ideal) arg12.view.ty)

theorem step (hv : v404 = iota .tc S128x256 32 [0] (by decide))
    (h1 : ∀ y, arg1.view.read (Elt Ideal) X1 y = x0 y) (h2 : ∀ y, arg2.view.read (Elt Ideal) X2 y = x1 y) (h5 : ∀ y, arg5.view.read (Elt Ideal) X5 y = x4 y)
    (h11 : ∀ y, arg11.view.read (Elt Ideal) X11 y = KzA x2 y) (h12 : ∀ y, arg12.view.read (Elt Ideal) X12 y = VtA x3 y)
    (k : Fin k0_t1_loop.trips) (s : St (F := Ideal) arg8 arg13 arg14 arg15 arg16 arg17 arg18)
    (hs : Inv x0 x1 x2 x3 x4 arg8 arg13 arg14 arg15 arg16 arg17 arg18 k.val s) :
    Inv x0 x1 x2 x3 x4 arg8 arg13 arg14 arg15 arg16 arg17 arg18 (k.val + 1) (stepAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v404 v405 v705 X1 X2 X5 X11 X12 k.val s) := by
  subst hv
  have hk : k.val < 7 := lt_of_lt_of_eq k.isLt (by decide)
  obtain ⟨s14, s15, s17, s8⟩ := hs
  have e8 := (stepAt_8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) v405 v705 X1 X2 X5 X11 X12 k s).symm
  have e14 := (stepAt_14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) v405 v705 X1 X2 X5 X11 X12 k s).symm
  have e15 := (stepAt_15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) v405 v705 X1 X2 X5 X11 X12 k s).symm
  have e17 := (stepAt_17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (iota .tc S128x256 32 [0] (by decide)) v405 v705 X1 X2 X5 X11 X12 k s).symm
  rw [trip_8] at e8
  rw [trip_14] at e14
  rw [trip_15] at e15
  rw [trip_17] at e17
  refine ⟨fun y => ?_, fun y => ?_, fun a b c hb => ?_, fun a b ha => ?_⟩
  · rw [e14]
    exact read_over _ _ _ _ y (sc_pieces x1 x2 x4 (2 * k.val + 3) _ _ _ _ _ _ _ _ _ _ _ (ld_q x1 _ _ h2 _ _ (2 * k.val + 3) (by omega) (k0_off10_eq k)) (ld_k x2 _ _ h11 _ _ 0 (2 * k.val + 3) (by norm_num) (by omega) (o11_ k)) (ld_k x2 _ _ h11 _ _ 1 (2 * k.val + 3) (by norm_num) (by omega) (o12_ k)) (ld_b x4 _ _ h5 0 (by decide)) (ld_b x4 _ _ h5 1 (by decide)) (ld_b x4 _ _ h5 2 (by decide)) (ld_b x4 _ _ h5 3 (by decide)) (ld_b x4 _ _ h5 4 (by decide)) (ld_b x4 _ _ h5 5 (by decide)) (ld_b x4 _ _ h5 6 (by decide)) (ld_b x4 _ _ h5 7 (by decide))) (Or.inl (sc_cover _ _ _ _ _ _ _ _ _ _ y))
  · rw [e15]
    exact read_over _ _ _ _ y (pr_of x0 x1 x2 x4 (2 * k.val + 2) tile (masks_tile x1 x2 x4 _ (by omega) (by omega)) arg13.view _
      (fun y => read_over _ _ _ _ y (sc_pieces x1 x2 x4 (2 * k.val + 2) _ _ _ _ _ _ _ _ _ _ _ (ld_q x1 _ _ h2 _ _ (2 * k.val + 2) (by omega) (k0_off7_eq k)) (ld_k x2 _ _ h11 _ _ 0 (2 * k.val + 2) (by norm_num) (by omega) (o8_ k)) (ld_k x2 _ _ h11 _ _ 1 (2 * k.val + 2) (by norm_num) (by omega) (o9_ k)) (ld_b x4 _ _ h5 0 (by decide)) (ld_b x4 _ _ h5 1 (by decide)) (ld_b x4 _ _ h5 2 (by decide)) (ld_b x4 _ _ h5 3 (by decide)) (ld_b x4 _ _ h5 4 (by decide)) (ld_b x4 _ _ h5 5 (by decide)) (ld_b x4 _ _ h5 6 (by decide)) (ld_b x4 _ _ h5 7 (by decide))) (Or.inl (sc_cover _ _ _ _ _ _ _ _ _ _ y))) arg1.view X1 h1) (Or.inl (sm_cover _ _ _ _ _ _ _ _ _ _ _ _ _ _ _ _ y))
  · rw [e17]
    exact read_over _ _ _ _ _ (lk_of x0 x1 x2 x4 (2 * k.val + 2) tile (masks_tile x1 x2 x4 _ (by omega) (by omega)) arg13.view _
      (fun y => read_over _ _ _ _ y (sc_pieces x1 x2 x4 (2 * k.val + 2) _ _ _ _ _ _ _ _ _ _ _ (ld_q x1 _ _ h2 _ _ (2 * k.val + 2) (by omega) (k0_off7_eq k)) (ld_k x2 _ _ h11 _ _ 0 (2 * k.val + 2) (by norm_num) (by omega) (o8_ k)) (ld_k x2 _ _ h11 _ _ 1 (2 * k.val + 2) (by norm_num) (by omega) (o9_ k)) (ld_b x4 _ _ h5 0 (by decide)) (ld_b x4 _ _ h5 1 (by decide)) (ld_b x4 _ _ h5 2 (by decide)) (ld_b x4 _ _ h5 3 (by decide)) (ld_b x4 _ _ h5 4 (by decide)) (ld_b x4 _ _ h5 5 (by decide)) (ld_b x4 _ _ h5 6 (by decide)) (ld_b x4 _ _ h5 7 (by decide))) (Or.inl (sc_cover _ _ _ _ _ _ _ _ _ _ y))) arg1.view X1 h1) (Or.inl (lk_cover _ _ _ _ _ _ _ _ _ _ _ _ _ _ _ _ a b c hb))
  · rw [e8]
    have P16 := pr_of x0 x1 x2 x4 (2 * k.val + 1) tile (masks_tile x1 x2 x4 _ (by omega) (by omega)) arg14.view s.2.2.1 s14 arg1.view X1 h1
    have P18 := lk_of x0 x1 x2 x4 (2 * k.val + 1) tile (masks_tile x1 x2 x4 _ (by omega) (by omega)) arg14.view s.2.2.1 s14 arg1.view X1 h1
    refine read_over _ _ _ _ _ (pv_pieces x0 x1 x2 x3 x4 (2 * k.val + 1) (by omega) _ _ _ _ _ _ _ _ (o3_1 k) (o4_1 k) (o5_1 k) (o6_1 k) _ _ _ _ _ _ (vals_apply x3 (2 * k.val + 1) _ _ _ _ _ _ (ld_v x3 _ _ h12 _ _ 0 (2 * k.val + 1 + 0) (by norm_num) (by omega) (o1_1_0 k)) (ld_v x3 _ _ h12 _ _ 0 (2 * k.val + 1 + 1) (by norm_num) (by omega) (o1_1_1 k)) (ld_v x3 _ _ h12 _ _ 0 (2 * k.val + 1 + 2) (by norm_num) (by omega) (o1_1_2 k)) (ld_v x3 _ _ h12 _ _ 1 (2 * k.val + 1 + 0) (by norm_num) (by omega) (o2_1_0 k)) (ld_v x3 _ _ h12 _ _ 1 (2 * k.val + 1 + 1) (by norm_num) (by omega) (o2_1_1 k)) (ld_v x3 _ _ h12 _ _ 1 (2 * k.val + 1 + 2) (by norm_num) (by omega) (o2_1_2 k)))
      (ld_p x0 x1 x2 x4 _ _ _ (fun y => read_over _ _ _ _ y P16 (Or.inl (sm_cover _ _ _ _ _ _ _ _ _ _ _ _ _ _ _ _ y))) 0 (by norm_num) (by decide))
      (ld_l x0 x1 x2 x4 _ _ _ (fun a b c hb => read_over _ _ _ _ _ P18 (Or.inl (lk_cover _ _ _ _ _ _ _ _ _ _ _ _ _ _ _ _ a b c hb))) 0 (by norm_num) (by decide))
      (ld_p x0 x1 x2 x4 _ _ _ (fun y => read_over _ _ _ _ y P16 (Or.inl (sm_cover _ _ _ _ _ _ _ _ _ _ _ _ _ _ _ _ y))) 1 (by norm_num) (by decide))
      (ld_l x0 x1 x2 x4 _ _ _ (fun a b c hb => read_over _ _ _ _ _ P18 (Or.inl (lk_cover _ _ _ _ _ _ _ _ _ _ _ _ _ _ _ _ a b c hb))) 1 (by norm_num) (by decide))
      (pv_pieces x0 x1 x2 x3 x4 (2 * k.val) (by omega) _ _ _ _ _ _ _ _ (o3_2 k) (o4_2 k) (o5_2 k) (o6_2 k) _ _ _ _ _ _ (vals_apply x3 (2 * k.val) _ _ _ _ _ _ (ld_v x3 _ _ h12 _ _ 0 (2 * k.val + 0) (by norm_num) (by omega) (o1_2_0 k)) (ld_v x3 _ _ h12 _ _ 0 (2 * k.val + 1) (by norm_num) (by omega) (o1_2_1 k)) (ld_v x3 _ _ h12 _ _ 0 (2 * k.val + 2) (by norm_num) (by omega) (o1_2_2 k)) (ld_v x3 _ _ h12 _ _ 1 (2 * k.val + 0) (by norm_num) (by omega) (o2_2_0 k)) (ld_v x3 _ _ h12 _ _ 1 (2 * k.val + 1) (by norm_num) (by omega) (o2_2_1 k)) (ld_v x3 _ _ h12 _ _ 1 (2 * k.val + 2) (by norm_num) (by omega) (o2_2_2 k)))
        (ld_p x0 x1 x2 x4 _ _ _ s15 0 (by norm_num) (by decide)) (ld_l x0 x1 x2 x4 _ _ _ s17 0 (by norm_num) (by decide))
        (ld_p x0 x1 x2 x4 _ _ _ s15 1 (by norm_num) (by decide)) (ld_l x0 x1 x2 x4 _ _ _ s17 1 (by norm_num) (by decide)) trivial)) ?_
    by_cases h : a.val < 256 * k.val
    · exact Or.inr (s8 a b h)
    · refine Or.inl (pv_cover (2 * k.val + 1) _ _ _ _ _ _ _ _ (o3_1 k) (o4_1 k) (o5_1 k) (o6_1 k) _ _ _ _ _ _ _ a b ?_)
      rcases (by omega : 128 * (2 * k.val + 1) ≤ a.val ∨ a.val < 128 * (2 * k.val + 1)) with g | g
      · exact Or.inl ⟨g, by omega⟩
      · exact Or.inr (pv_cover (2 * k.val) _ _ _ _ _ _ _ _ (o3_2 k) (o4_2 k) (o5_2 k) (o6_2 k) _ _ _ _ _ _ _ a b (Or.inl ⟨by omega, by omega⟩))

end step
end sem

/-- A whole buffer's contents read back. -/
theorem rdw {κ : Kind} {sp : Space} {s : Shape} {e : EltTy} {m : Memref sig κ sp s e} (h : m.IsWhole) (x : s.Idx → Elt Ideal e) :
    ∀ y, m.view.read (Elt Ideal) (h.unread x) y = x y := fun y => congrFun (h.read_unread x) y

theorem kz_of (x2 : Vec Ideal S2048x128 .bf16) (arg3 : Memref sig .tc .vmem S2048x128 .bf16) (harg3 : arg3.IsWhole) : View.PiecesOf (KzA x2) (iniK arg3 (harg3.unread x2)) := by
  unfold iniK
  have e : View.readAt (Elt Ideal) arg3.view (Rect.unit (s := S2048x128) ![0, 0] S2048x128.size (by decide)).toLoadRect (harg3.unread x2) = x2 := by
    funext y
    obtain ⟨a, b, rfl⟩ : ∃ (a : Fin 2048) (b : Fin 128), y = ix2 a b := ⟨y 0, y 1, eq_ix2 y⟩
    refine (load2 arg3.view _ _ (by decide) rfl a b (by omega) (by omega)).trans ?_
    rw [harg3.read_unread]
    exact congrArg x2 (congr (congrArg ix2 (Fin.ext (Nat.zero_add _))) (Fin.ext (Nat.zero_add _)))
  rw [e]
  exact kz_pieces x2

theorem vt_of (x3 : Vec Ideal S2048x128 .bf16) (arg4 : Memref sig .tc .vmem S2048x128 .bf16) (harg4 : arg4.IsWhole) : View.PiecesOf (VtA x3) (iniV arg4 (harg4.unread x3)) := by
  unfold iniV
  refine vt_pieces x3 _ fun b r c => ?_
  have w : ∀ (n : ℕ) (hn : n ≤ 1920) (inb : ∀ a, (![n, 0] : Fin 2 → ℕ) a + S128x128.size a ≤ S2048x128.size a),
      View.readAt (Elt Ideal) arg4.view (Rect.unit (s := S2048x128) ![n, 0] S128x128.size inb).toLoadRect (harg4.unread x3) (ix2 r c) = at2 (φ := .bf16) x3 (n + r.val) c.val := by
    intro n hn inb
    have er := r.isLt
    refine (load2 arg4.view _ _ inb rfl r c (by omega) (by omega)).trans ?_
    rw [harg4.read_unread]
    refine (eq_at2 (φ := .bf16) x3 _ _).trans ?_
    simp only [Nat.zero_add]
  obtain ⟨n, hn⟩ := b
  match n, hn with
  | 0, _ => exact w 0 (by norm_num) (by decide)
  | 1, _ => exact w 128 (by norm_num) (by decide)
  | 2, _ => exact w 256 (by norm_num) (by decide)
  | 3, _ => exact w 384 (by norm_num) (by decide)
  | 4, _ => exact w 512 (by norm_num) (by decide)
  | 5, _ => exact w 640 (by norm_num) (by decide)
  | 6, _ => exact w 768 (by norm_num) (by decide)
  | 7, _ => exact w 896 (by norm_num) (by decide)
  | 8, _ => exact w 1024 (by norm_num) (by decide)
  | 9, _ => exact w 1152 (by norm_num) (by decide)
  | 10, _ => exact w 1280 (by norm_num) (by decide)
  | 11, _ => exact w 1408 (by norm_num) (by decide)
  | 12, _ => exact w 1536 (by norm_num) (by decide)
  | 13, _ => exact w 1664 (by norm_num) (by decide)
  | 14, _ => exact w 1792 (by norm_num) (by decide)
  | 15, _ => exact w 1920 (by norm_num) (by decide)
  | n + 16, h => exact absurd h (by omega)

section run
variable (x0 : Vec Ideal S8 .f32) (x1 : Vec Ideal S16x512x128 .bf16) (x2 x3 : Vec Ideal S2048x128 .bf16) (x4 : Vec Ideal S8x384x128 .f32)
variable (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (f8 : BufTy.Contents (Elt Ideal) arg8.view.ty) (f16 : BufTy.Contents (Elt Ideal) arg16.view.ty) (f17 : BufTy.Contents (Elt Ideal) arg17.view.ty) (f18 : BufTy.Contents (Elt Ideal) arg18.view.ty)

theorem inv_mid_0 : Inv x0 x1 x2 x3 x4 arg8 arg13 arg14 arg15 arg16 arg17 arg18 0 (ini c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18) := by
  refine ⟨fun y => ?_, fun y => ?_, fun a b c hb => ?_, fun a b ha => absurd ha (by omega)⟩
  · show arg14.view.read (Elt Ideal) (arg14.view.writes (Elt Ideal) arg14.view.junk (ini14 arg2 arg3 arg5 arg11 (harg2.unread x1) (harg3.unread x2) (harg5.unread x4))) y = _
    unfold ini14
    exact read_over _ _ _ _ y (sc_pieces x1 x2 x4 (1) _ _ _ _ _ _ _ _ _ _ _ (ld_q x1 _ _ (rdw harg2 x1) _ _ (1) (by omega) rfl) (ld_k x2 _ _ (fun y => read_over _ _ _ _ y (kz_of x2 arg3 harg3) (Or.inl (kz_cover _ y))) _ _ 0 (1) (by norm_num) (by omega) rfl) (ld_k x2 _ _ (fun y => read_over _ _ _ _ y (kz_of x2 arg3 harg3) (Or.inl (kz_cover _ y))) _ _ 1 (1) (by norm_num) (by omega) rfl) (ld_b x4 _ _ (rdw harg5 x4) 0 (by decide)) (ld_b x4 _ _ (rdw harg5 x4) 1 (by decide)) (ld_b x4 _ _ (rdw harg5 x4) 2 (by decide)) (ld_b x4 _ _ (rdw harg5 x4) 3 (by decide)) (ld_b x4 _ _ (rdw harg5 x4) 4 (by decide)) (ld_b x4 _ _ (rdw harg5 x4) 5 (by decide)) (ld_b x4 _ _ (rdw harg5 x4) 6 (by decide)) (ld_b x4 _ _ (rdw harg5 x4) 7 (by decide))) (Or.inl (sc_cover _ _ _ _ _ _ _ _ _ _ y))
  · show arg15.view.read (Elt Ideal) (arg15.view.writes (Elt Ideal) arg15.view.junk (ini15 arg1 arg2 arg3 arg5 arg11 arg13 (harg1.unread x0) (harg2.unread x1) (harg3.unread x2) (harg5.unread x4))) y = _
    unfold ini15 ini13
    exact read_over _ _ _ _ y (pr_of x0 x1 x2 x4 0 (tileFst _) (masks_fst x1 x2 x4) arg13.view _
      (fun y => read_over _ _ _ _ y (sc_pieces x1 x2 x4 (0) _ _ _ _ _ _ _ _ _ _ _ (ld_q x1 _ _ (rdw harg2 x1) _ _ (0) (by omega) rfl) (ld_k x2 _ _ (fun y => read_over _ _ _ _ y (kz_of x2 arg3 harg3) (Or.inl (kz_cover _ y))) _ _ 0 (0) (by norm_num) (by omega) rfl) (ld_k x2 _ _ (fun y => read_over _ _ _ _ y (kz_of x2 arg3 harg3) (Or.inl (kz_cover _ y))) _ _ 1 (0) (by norm_num) (by omega) rfl) (ld_b x4 _ _ (rdw harg5 x4) 0 (by decide)) (ld_b x4 _ _ (rdw harg5 x4) 1 (by decide)) (ld_b x4 _ _ (rdw harg5 x4) 2 (by decide)) (ld_b x4 _ _ (rdw harg5 x4) 3 (by decide)) (ld_b x4 _ _ (rdw harg5 x4) 4 (by decide)) (ld_b x4 _ _ (rdw harg5 x4) 5 (by decide)) (ld_b x4 _ _ (rdw harg5 x4) 6 (by decide)) (ld_b x4 _ _ (rdw harg5 x4) 7 (by decide))) (Or.inl (sc_cover _ _ _ _ _ _ _ _ _ _ y))) arg1.view _ (rdw harg1 x0)) (Or.inl (sm_cover _ _ _ _ _ _ _ _ _ _ _ _ _ _ _ _ y))
  · show arg17.view.read (Elt Ideal) (arg17.view.writes (Elt Ideal) f17 (ini17 arg1 arg2 arg3 arg5 arg11 arg13 (harg1.unread x0) (harg2.unread x1) (harg3.unread x2) (harg5.unread x4))) (ix3 a b c) = _
    unfold ini17 ini13
    exact read_over _ _ _ _ _ (lk_of x0 x1 x2 x4 0 (tileFst _) (masks_fst x1 x2 x4) arg13.view _
      (fun y => read_over _ _ _ _ y (sc_pieces x1 x2 x4 (0) _ _ _ _ _ _ _ _ _ _ _ (ld_q x1 _ _ (rdw harg2 x1) _ _ (0) (by omega) rfl) (ld_k x2 _ _ (fun y => read_over _ _ _ _ y (kz_of x2 arg3 harg3) (Or.inl (kz_cover _ y))) _ _ 0 (0) (by norm_num) (by omega) rfl) (ld_k x2 _ _ (fun y => read_over _ _ _ _ y (kz_of x2 arg3 harg3) (Or.inl (kz_cover _ y))) _ _ 1 (0) (by norm_num) (by omega) rfl) (ld_b x4 _ _ (rdw harg5 x4) 0 (by decide)) (ld_b x4 _ _ (rdw harg5 x4) 1 (by decide)) (ld_b x4 _ _ (rdw harg5 x4) 2 (by decide)) (ld_b x4 _ _ (rdw harg5 x4) 3 (by decide)) (ld_b x4 _ _ (rdw harg5 x4) 4 (by decide)) (ld_b x4 _ _ (rdw harg5 x4) 5 (by decide)) (ld_b x4 _ _ (rdw harg5 x4) 6 (by decide)) (ld_b x4 _ _ (rdw harg5 x4) 7 (by decide))) (Or.inl (sc_cover _ _ _ _ _ _ _ _ _ _ y))) arg1.view _ (rdw harg1 x0)) (Or.inl (lk_cover _ _ _ _ _ _ _ _ _ _ _ _ _ _ _ _ a b c hb))

theorem inv_mid (k : ℕ) (hk : k ≤ 7) : Inv x0 x1 x2 x3 x4 arg8 arg13 arg14 arg15 arg16 arg17 arg18 k (mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 f8 f16 f17 f18 k) := by
  induction k with
  | zero => exact inv_mid_0 x0 x1 x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f8 f16 f17 f18
  | succ k ih =>
    exact step x0 x1 x2 x3 x4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ rfl (rdw harg1 x0) (rdw harg2 x1) (rdw harg5 x4)
      (fun y => read_over _ _ _ _ y (kz_of x2 arg3 harg3) (Or.inl (kz_cover _ y))) (fun y => read_over _ _ _ _ y (vt_of x3 arg4 harg4) (Or.inl (vt_cover _ y)))
      ⟨k, lt_of_lt_of_eq (show k < 7 by omega) (by decide)⟩ _ (ih (by omega))

/-- The output block read after the epilogue. -/
theorem epi_read (s : St (F := Ideal) arg8 arg13 arg14 arg15 arg16 arg17 arg18) (hs : Inv x0 x1 x2 x3 x4 arg8 arg13 arg14 arg15 arg16 arg17 arg18 7 s) (a : Fin 2048) (b : Fin 512) :
    arg8.view.read (Elt Ideal) (epi arg1 arg4 arg8 arg12 arg14 arg15 arg16 arg17 arg18 (harg1.unread x0) (harg4.unread x3) s.1 s.2.2.1 s.2.2.2.1 s.2.2.2.2.2.1) (ix2 a b) = OutA x0 x1 x2 x3 x4 (ix2 a b) := by
  obtain ⟨s14, s15, s17, s8⟩ := hs
  have h12 : ∀ y, arg12.view.read (Elt Ideal) (arg12.view.writes (Elt Ideal) arg12.view.junk (iniV arg4 (harg4.unread x3))) y = VtA x3 y :=
    fun y => read_over _ _ _ _ y (vt_of x3 arg4 harg4) (Or.inl (vt_cover _ y))
  have P16 := pr_of x0 x1 x2 x4 15 (tileLst _) (masks_lst x1 x2 x4) arg14.view s.2.2.1 s14 arg1.view (harg1.unread x0) (rdw harg1 x0)
  have P18 := lk_of x0 x1 x2 x4 15 (tileLst _) (masks_lst x1 x2 x4) arg14.view s.2.2.1 s14 arg1.view (harg1.unread x0) (rdw harg1 x0)
  unfold epi
  refine read_over _ _ _ _ _ (pv_pieces x0 x1 x2 x3 x4 15 (by omega) _ _ _ _ _ _ _ _ rfl rfl rfl rfl _ _ _ _ _ _ (vals_apply x3 (15) _ _ _ _ _ _ (ld_v x3 _ _ h12 _ _ 0 (15 + 0) (by norm_num) (by omega) rfl) (ld_v x3 _ _ h12 _ _ 0 (15 + 1) (by norm_num) (by omega) rfl) (ld_v x3 _ _ h12 _ _ 0 (15 + 2) (by norm_num) (by omega) rfl) (ld_v x3 _ _ h12 _ _ 1 (15 + 0) (by norm_num) (by omega) rfl) (ld_v x3 _ _ h12 _ _ 1 (15 + 1) (by norm_num) (by omega) rfl) (ld_v x3 _ _ h12 _ _ 1 (15 + 2) (by norm_num) (by omega) rfl))
      (ld_p x0 x1 x2 x4 _ _ _ (fun y => read_over _ _ _ _ y P16 (Or.inl (sm_cover _ _ _ _ _ _ _ _ _ _ _ _ _ _ _ _ y))) 0 (by norm_num) (by decide))
      (ld_l x0 x1 x2 x4 _ _ _ (fun a b c hb => read_over _ _ _ _ _ P18 (Or.inl (lk_cover _ _ _ _ _ _ _ _ _ _ _ _ _ _ _ _ a b c hb))) 0 (by norm_num) (by decide))
      (ld_p x0 x1 x2 x4 _ _ _ (fun y => read_over _ _ _ _ y P16 (Or.inl (sm_cover _ _ _ _ _ _ _ _ _ _ _ _ _ _ _ _ y))) 1 (by norm_num) (by decide))
      (ld_l x0 x1 x2 x4 _ _ _ (fun a b c hb => read_over _ _ _ _ _ P18 (Or.inl (lk_cover _ _ _ _ _ _ _ _ _ _ _ _ _ _ _ _ a b c hb))) 1 (by norm_num) (by decide))
      (pv_pieces x0 x1 x2 x3 x4 14 (by omega) _ _ _ _ _ _ _ _ rfl rfl rfl rfl _ _ _ _ _ _ (vals_apply x3 (14) _ _ _ _ _ _ (ld_v x3 _ _ h12 _ _ 0 (14 + 0) (by norm_num) (by omega) rfl) (ld_v x3 _ _ h12 _ _ 0 (14 + 1) (by norm_num) (by omega) rfl) (ld_v x3 _ _ h12 _ _ 0 (14 + 2) (by norm_num) (by omega) rfl) (ld_v x3 _ _ h12 _ _ 1 (14 + 0) (by norm_num) (by omega) rfl) (ld_v x3 _ _ h12 _ _ 1 (14 + 1) (by norm_num) (by omega) rfl) (ld_v x3 _ _ h12 _ _ 1 (14 + 2) (by norm_num) (by omega) rfl))
        (ld_p x0 x1 x2 x4 _ _ _ s15 0 (by norm_num) (by decide)) (ld_l x0 x1 x2 x4 _ _ _ s17 0 (by norm_num) (by decide))
        (ld_p x0 x1 x2 x4 _ _ _ s15 1 (by norm_num) (by decide)) (ld_l x0 x1 x2 x4 _ _ _ s17 1 (by norm_num) (by decide)) trivial)) ?_
  by_cases h : a.val < 256 * 7
  · exact Or.inr (s8 a b h)
  · have ea := a.isLt
    refine Or.inl (pv_cover 15 _ _ _ _ _ _ _ _ rfl rfl rfl rfl _ _ _ _ _ _ _ a b ?_)
    rcases (by omega : 1920 ≤ a.val ∨ a.val < 1920) with g | g
    · exact Or.inl ⟨g, by omega⟩
    · exact Or.inr (pv_cover 14 _ _ _ _ _ _ _ _ rfl rfl rfl rfl _ _ _ _ _ _ _ a b (Or.inl ⟨by omega, by omega⟩))

end run

/-- The output block after a grid point's run, whatever its buffers held: each head's queries attending over their bands. -/
theorem run_out (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec Ideal S8 .f32) (x1 : Vec Ideal S16x512x128 .bf16) (x2 : Vec Ideal S2048x128 .bf16) (x3 : Vec Ideal S2048x128 .bf16) (x4 : Vec Ideal S8x384x128 .f32) (x5 : Vec Ideal S64x4096 .f32) (x6 : Vec Ideal S256x1024 .f32)  (f8 : BufTy.Contents (Elt Ideal) arg8.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) :
    arg8.view.read (Elt Ideal) ((run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).1 f8 f11 f12 f13 f14 f15 f16 f17 f18) = OutA x0 x1 x2 x3 x4 := by
  funext y
  obtain ⟨a, b, rfl⟩ : ∃ (a : Fin 2048) (b : Fin 512), y = ix2 a b := ⟨y 0, y 1, eq_ix2 y⟩
  rw [run_8]
  exact epi_read x0 x1 x2 x3 x4 arg1 harg1 arg4 harg4 arg8 arg12 arg13 arg14 arg15 arg16 arg17 arg18 _ (inv_mid x0 x1 x2 x3 x4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f8 f16 f17 f18 7 (le_refl 7)) a b

end Cert.KernelIdeal.Attn
-- ==== Proof.AttnFrameIdeal.lean ====
module

public import proofs.«01_k».proof.Proof.AttnInv
public import proofs.«01_k».proof.Proof.Gen.KernelIdeal.Launch
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A buffer stored whole reads as what was stored. -/
theorem whole_stored {κ : Kind} {sp : Space} {e : EltTy} {n0 n1 : ℕ} (v : View sig κ sp ⟨2, ![n0, n1]⟩ e) (f : v.ty.Contents (Elt Ideal))
    (inb : ∀ a, (![0, 0] : Fin 2 → ℕ) a + (![n0, n1] : Fin 2 → ℕ) a ≤ (⟨2, ![n0, n1]⟩ : Shape).size a) (p : (⟨2, ![n0, n1]⟩ : Shape).Idx → Elt Ideal e) :
    v.read (Elt Ideal) (v.writes (Elt Ideal) f [⟨Rect.unit (s := ⟨2, ![n0, n1]⟩) ![0, 0] ![n0, n1] inb, p⟩]) = p := by
  funext y
  obtain ⟨a, b, rfl⟩ : ∃ (a : Fin n0) (b : Fin n1), y = ix2 a b := ⟨y 0, y 1, eq_ix2 y⟩
  have ha := a.isLt; have hb := b.isLt
  have hP : View.PiecesOf (Val := Elt Ideal) p [⟨Rect.unit (s := ⟨2, ![n0, n1]⟩) ![0, 0] ![n0, n1] inb, p⟩] := by
    refine ⟨fun z => ?_, trivial⟩
    obtain ⟨a', b', rfl⟩ : ∃ (a : Fin n0) (b : Fin n1), z = ix2 a b := ⟨z 0, z 1, eq_ix2 z⟩
    refine congrArg p (Eq.symm ?_)
    refine (emb2 inb a' b' (by omega) (by omega)).trans ?_
    congr 1 <;> apply Fin.ext <;> simp
  exact View.read_writes_apply_of_pieces v f p _ hP.mem _ ⟨_, List.mem_cons_self, mem2 inb a b (by omega) (by omega)⟩

/-- A buffer loaded whole is what it holds. -/
theorem whole_loaded {κ : Kind} {sp : Space} {e : EltTy} {n0 n1 : ℕ} (v : View sig κ sp ⟨2, ![n0, n1]⟩ e) (X : v.ty.Contents (Elt Ideal))
    (inb : ∀ a, (![0, 0] : Fin 2 → ℕ) a + (![n0, n1] : Fin 2 → ℕ) a ≤ (⟨2, ![n0, n1]⟩ : Shape).size a) (x : (⟨2, ![n0, n1]⟩ : Shape).Idx → Elt Ideal e) (h : ∀ y, v.read (Elt Ideal) X y = x y) :
    View.readAt (Elt Ideal) v (Rect.unit (s := ⟨2, ![n0, n1]⟩) ![0, 0] ![n0, n1] inb).toLoadRect X = x := by
  funext y
  obtain ⟨a, b, rfl⟩ : ∃ (a : Fin n0) (b : Fin n1), y = ix2 a b := ⟨y 0, y 1, eq_ix2 y⟩
  refine (h _).trans (congrArg x ?_)
  refine (emb2 inb a b (by omega) (by omega)).trans ?_
  congr 1 <;> apply Fin.ext <;> simp

/-- A buffer held at some contents, as the raw contents. -/
theorem owns_ex {sp : Space} {s : Shape} {e : EltTy} (c : Dev nD) (M : Memref sig .tc sp s e) :
    (iprop(∃ d, owns (c : Thread nD τ) M fullShare d) : sProp 𝕄) ⊢ iprop(∃ f, M.view.loc (c : Thread nD τ) ↦[M.view.set]{fullShare} f) := by
  unfold owns
  iintro ⟨%d, %f, -, H⟩
  iexists f; iexact H

set_option maxHeartbeats 1000000 in
/-- The weight block the run leaves in `arg9`: its input block. -/
theorem run_9 (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec Ideal S8 .f32) (x1 : Vec Ideal S16x512x128 .bf16) (x2 : Vec Ideal S2048x128 .bf16) (x3 : Vec Ideal S2048x128 .bf16) (x4 : Vec Ideal S8x384x128 .f32) (x5 : Vec Ideal S64x4096 .f32) (x6 : Vec Ideal S256x1024 .f32)  (f : arg9.view.ty.Contents (Elt Ideal)) :
    arg9.view.read (Elt Ideal) (arg9.view.writes (Elt Ideal) f (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2.1) = x5 := by
  have e : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2.1 = [⟨(Rect.unit (s := S64x4096) ![0, 0] S64x4096.size (by decide)), truncf (F := Ideal) .bf16 (View.readAt (Elt Ideal) arg6.view (Rect.unit (s := S64x4096) ![0, 0] S64x4096.size (by decide)).toLoadRect (harg6.unread x5)) bitsLt_bf16_f32⟩] := by
    unfold run; rfl
  rw [e]
  exact (whole_stored _ _ _ _).trans (whole_loaded _ _ _ x5 (rdw harg6 x5))

set_option maxHeartbeats 1000000 in
/-- The weight block the run leaves in `arg10`: its input block. -/
theorem run_10 (c : Dev nD) (i : grid0.Coords) (arg1 : Memref sig .tc .smem S8 .f32) (harg1 : arg1.IsWhole) (arg2 : Memref sig .tc .vmem S16x512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S8x384x128 .f32) (harg5 : arg5.IsWhole) (arg6 : Memref sig .tc .vmem S64x4096 .f32) (harg6 : arg6.IsWhole) (arg7 : Memref sig .tc .vmem S256x1024 .f32) (harg7 : arg7.IsWhole) (arg8 : Memref sig .tc .vmem S2048x512 .bf16) (harg8 : arg8.IsWhole) (arg9 : Memref sig .tc .vmem S64x4096 .bf16) (harg9 : arg9.IsWhole) (arg10 : Memref sig .tc .vmem S256x1024 .bf16) (harg10 : arg10.IsWhole) (arg11 : Memref sig .tc .vmem S2x2304x128 .bf16) (harg11 : arg11.IsWhole) (arg12 : Memref sig .tc .vmem S2x18x144x128 .bf16) (harg12 : arg12.IsWhole) (arg13 : Memref sig .tc .vmem S2x768x256 .f32) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S2x768x256 .bf16) (harg16 : arg16.IsWhole) (arg17 : Memref sig .tc .vmem S2x8x256 .f32) (harg17 : arg17.IsWhole) (arg18 : Memref sig .tc .vmem S2x8x256 .f32) (harg18 : arg18.IsWhole) (x0 : Vec Ideal S8 .f32) (x1 : Vec Ideal S16x512x128 .bf16) (x2 : Vec Ideal S2048x128 .bf16) (x3 : Vec Ideal S2048x128 .bf16) (x4 : Vec Ideal S8x384x128 .f32) (x5 : Vec Ideal S64x4096 .f32) (x6 : Vec Ideal S256x1024 .f32)  (f : arg10.view.ty.Contents (Elt Ideal)) :
    arg10.view.read (Elt Ideal) (arg10.view.writes (Elt Ideal) f (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2.2.1) = x6 := by
  have e : (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6).2.2.1 = [⟨(Rect.unit (s := S256x1024) ![0, 0] S256x1024.size (by decide)), truncf (F := Ideal) .bf16 (View.readAt (Elt Ideal) arg7.view (Rect.unit (s := S256x1024) ![0, 0] S256x1024.size (by decide)).toLoadRect (harg7.unread x6)) bitsLt_bf16_f32⟩] := by
    unfold run; rfl
  rw [e]
  exact (whole_stored _ _ _ _).trans (whole_loaded _ _ _ x6 (rdw harg7 x6))

variable (m : (ℓ : Loc nD τ sig) → Buf (Elt Ideal) ℓ) (ρ : Dev nD → PrngReg)

abbrev ms0 (t : Fin cfg0.N) : Memref sig .tc .smem S8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x384x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x4096 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .bf16 := win0_9.stage (cfg0.slots t 9)
abbrev hs9 (t : Fin cfg0.N) : (ms9 t).IsWhole := hstage0_9 ((cfg0.slots t 9).cast nbuf0_9)
/-- Scratch buffer 0. -/
abbrev scM0 : Memref sig .tc .vmem S2x2304x128 .bf16 := Memref.whole cc0_scratch0
/-- Scratch buffer 1. -/
abbrev scM1 : Memref sig .tc .vmem S2x18x144x128 .bf16 := Memref.whole cc0_scratch1
/-- Scratch buffer 2. -/
abbrev scM2 : Memref sig .tc .vmem S2x768x256 .f32 := Memref.whole cc0_scratch2
/-- Scratch buffer 3. -/
abbrev scM3 : Memref sig .tc .vmem S2x768x256 .f32 := Memref.whole cc0_scratch3
/-- Scratch buffer 4. -/
abbrev scM4 : Memref sig .tc .vmem S2x768x256 .bf16 := Memref.whole cc0_scratch4
/-- Scratch buffer 5. -/
abbrev scM5 : Memref sig .tc .vmem S2x768x256 .bf16 := Memref.whole cc0_scratch5
/-- Scratch buffer 6. -/
abbrev scM6 : Memref sig .tc .vmem S2x8x256 .f32 := Memref.whole cc0_scratch6
/-- Scratch buffer 7. -/
abbrev scM7 : Memref sig .tc .vmem S2x8x256 .f32 := Memref.whole cc0_scratch7

/-- What the points hand on: the scratch buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The proof data: the arrays as found; after the body each input's buffer at its block, the attention's output at the attention of the blocks, the
    two weights' outputs at their blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OutA (iblk m c 0 t) (iblk m c 1 t) (iblk m c 2 t) (iblk m c 3 t) (iblk m c 4 t)
    | ⟨8, _⟩ => iblk m c 5 t
    | ⟨9, _⟩ => iblk m c 6 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = OutA (iblk m c 0 t) (iblk m c 1 t) (iblk m c 2 t) (iblk m c 3 t) (iblk m c 4 t) := by dsimp only [dats]
theorem after_8 (c : Dev nD) (t : Fin cfg0.N) : (dats m 0 c).after 8 t = iblk m c 5 t := by dsimp only [dats]
theorem after_9 (c : Dev nD) (t : Fin cfg0.N) : (dats m 0 c).after 9 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at a generic point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  simp only [before_0, before_1, before_2, before_3, before_4, before_5, before_6]
  rw [show (dats m 0 c).Φ t.castSucc = Pipeline.ΦA spec0 c from rfl, PhiA_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H7 := (owns_ex c (ms7 t)) $$ [H7]; · iexists _; iexact H7
  icases H7 with ⟨%f7, H7⟩
  ihave HS0 := (owns_ex c scM0) $$ HS0; icases HS0 with ⟨%g0, HS0⟩
  ihave HS1 := (owns_ex c scM1) $$ HS1; icases HS1 with ⟨%g1, HS1⟩
  ihave HS2 := (owns_ex c scM2) $$ HS2; icases HS2 with ⟨%g2, HS2⟩
  ihave HS3 := (owns_ex c scM3) $$ HS3; icases HS3 with ⟨%g3, HS3⟩
  ihave HS4 := (owns_ex c scM4) $$ HS4; icases HS4 with ⟨%g4, HS4⟩
  ihave HS5 := (owns_ex c scM5) $$ HS5; icases HS5 with ⟨%g5, HS5⟩
  ihave HS6 := (owns_ex c scM6) $$ HS6; icases HS6 with ⟨%g6, HS6⟩
  ihave HS7 := (owns_ex c scM7) $$ HS7; icases HS7 with ⟨%g7, HS7⟩
  iapply ((run (F := Ideal) c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _ f7 g0 g1 g2 g3 g4 g5 g6 g7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%e8, H8⟩, ⟨%e9, H9⟩, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; exact run_out ..
  isplitl [H8]
  · unfold owns; iexists _; isplitr; swap; · iexact H8
    ipureintro; exact run_9 ..
  unfold owns; iexists _; isplitr; swap; · iexact H9
  ipureintro; exact run_10 ..

theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every execution ends with every array at what the points left and every counter at zero. -/
theorem run_main : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- After the launch the arguments are as launched and each result is the pipeline's array. -/
theorem run_arrays : θ_run defs (onTc (τ := τ) (main (F := Ideal))) ⟨m, fun _ => 0, ρ⟩ (fun r => ∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_v0_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 7, (h.1 c).1 8, (h.1 c).1 9, ((h.1 c).1 1).trans (((dats m 0 c).arrAt_in 1 rfl _).trans ((A_eq m c 1).trans (V_main_arg0 m c))), ((h.1 c).1 3).trans (((dats m 0 c).arrAt_in 3 rfl _).trans ((A_eq m c 3).trans (V_main_arg1 m c))), ((h.1 c).1 4).trans (((dats m 0 c).arrAt_in 4 rfl _).trans ((A_eq m c 4).trans (V_main_arg2 m c))), ((h.1 c).1 0).trans (((dats m 0 c).arrAt_in 0 rfl _).trans ((A_eq m c 0).trans (V_main_arg3 m c))), ((h.1 c).1 5).trans (((dats m 0 c).arrAt_in 5 rfl _).trans ((A_eq m c 5).trans (V_main_arg4 m c))), ((h.1 c).1 6).trans (((dats m 0 c).arrAt_in 6 rfl _).trans ((A_eq m c 6).trans (V_main_arg5 m c)))⟩) (run_main m ρ)

/-- The frame: from any memory with zero counters every execution ends, the arguments as launched, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2.2.2) (run_arrays m ρ))
    ((θ_run defs _ _).mono (fun _ h => h.2) (run_main m ρ))

end Cert.KernelIdeal.Attn

end
-- ==== Proof.AttnRef.lean ====
module

public import proofs.«01_k».proof.Proof.Gen.ReferenceIdeal.Run
public import proofs.«01_k».proof.Proof.AttnSem

@[expose] public section

set_option maxRecDepth 16384
set_option maxHeartbeats 2000000

noncomputable section

namespace Cert.ReferenceIdeal.Attn

open Cert.ReferenceIdeal Cert.ReferenceIdeal.Gen Cert.ReferenceIdeal.Value
open Cert.KernelIdeal.Attn (at1 at2 at3 eq_at1 eq_at2 eq_at3)
open Idealize.ShloMosaic Idealize.ShloMosaic.Tactic Idealize.ShloMosaic.TcCoe

/-! The reference's own steps, one array after another, each read at an index. Row `n` of a score array is head `n % 8`
of block `n / 8`; the slot head `n % 8` is head `n % 2` of group slot `n % 8 / 2`. -/

/-- The queries, a block's head to a row. -/
def Qr (qt : FVec Ideal S256x512x128 .bf16) : FVec Ideal S2048x64x128 .f32 :=
  shapeCast _ (extf (F := Ideal) .f32 qt bitsLt_bf16_f32) shapeCasts_S256x512x128_S2048x64x128

theorem at1_of {φ : FTy} {a : ℕ} [NeZero a] (X : FVec Ideal ⟨1, ![a]⟩ φ) (i : Fin a) (i' : ℕ) (h : i.val = i') : X (ix1 i) = at1 X i' := by
  subst h; exact eq_at1 X i

theorem at2_of {φ : FTy} {a b : ℕ} [NeZero a] [NeZero b] (X : FVec Ideal ⟨2, ![a, b]⟩ φ) (i : Fin a) (j : Fin b) (i' j' : ℕ) (h : i.val = i')
    (h' : j.val = j') : X (ix2 i j) = at2 X i' j' := by
  subst h; subst h'; exact eq_at2 X i j

theorem at3_of {φ : FTy} {a b c : ℕ} [NeZero a] [NeZero b] [NeZero c] (X : FVec Ideal ⟨3, ![a, b, c]⟩ φ) (i : Fin a) (j : Fin b) (k : Fin c)
    (i' j' k' : ℕ) (h : i.val = i') (h' : j.val = j') (h'' : k.val = k') : X (ix3 i j k) = at3 X i' j' k' := by
  subst h; subst h'; subst h''; exact eq_at3 X i j k

theorem ix4_of {α : Type} {a b c d : ℕ} (X : (⟨4, ![a, b, c, d]⟩ : Shape).Idx → α) (i i' : Fin a) (j j' : Fin b) (k k' : Fin c) (l l' : Fin d)
    (hi : i.val = i'.val) (hj : j.val = j'.val) (hk : k.val = k'.val) (hl : l.val = l'.val) : X (ix4 i j k l) = X (ix4 i' j' k' l') := by
  rw [Fin.ext hi, Fin.ext hj, Fin.ext hk, Fin.ext hl]

theorem Qr_apply (qt : FVec Ideal S256x512x128 .bf16) (n : Fin 2048) (l : Fin 64) (q : Fin 128) :
    Qr qt (ix3 n l q) = at3 qt (n.val / 8) (n.val % 8 * 64 + l.val) q.val := by
  pointwise [Qr]
  exact at3_of qt _ _ _ _ _ _ rfl rfl rfl

/-- The keys' columns. -/
def Kc (pj : FVec Ideal S32768x1280 .bf16) : FVec Ideal S32768x128 .bf16 :=
  extractStridedSlice S32768x128 ![0, 1024] pj slices_S32768x1280_S32768x128_0_1024

/-- The values' columns. -/
def Vc (pj : FVec Ideal S32768x1280 .bf16) : FVec Ideal S32768x128 .bf16 :=
  extractStridedSlice S32768x128 ![0, 1152] pj slices_S32768x1280_S32768x128_0_1152

theorem Kc_apply (pj : FVec Ideal S32768x1280 .bf16) (r : Fin 32768) (l : Fin 128) : Kc pj (ix2 r l) = at2 pj r.val (1024 + l.val) := by
  pointwise [Kc]
  exact at2_of pj _ _ _ _ (by simp only [] <;> omega) (by simp only [] <;> omega)

theorem Vc_apply (pj : FVec Ideal S32768x1280 .bf16) (r : Fin 32768) (l : Fin 128) : Vc pj (ix2 r l) = at2 pj r.val (1152 + l.val) := by
  pointwise [Vc]
  exact at2_of pj _ _ _ _ (by simp only [] <;> omega) (by simp only [] <;> omega)

/-- A sequence to a row, 128 zero rows before it and after it. -/
def Pd0 (a : FVec Ideal S32768x128 .bf16) : FVec Ideal S16x2304x128 .f32 :=
  pad S16x2304x128 ![0, 128, 0] ![0, 128, 0] ![0, 0, 0] (shapeCast S16x2048x128 (extf (F := Ideal) .f32 a bitsLt_bf16_f32) shapeCasts_S32768x128_S16x2048x128) (sitofp (F := Ideal) .f32 (constantI S_ 32 0#32)) pads_S16x2048x128_S16x2304x128_000_1281280_000 h_S_

theorem sitofp_zero : (FloatOps.sitofp FTy.f32 0#32 : Ideal .f32) = (0 : EReal) := by
  show (((0#32 : BitVec 32).toInt : ℝ) : EReal) = 0
  simp

theorem Pd0_apply (a : FVec Ideal S32768x128 .bf16) (s : Fin 16) (r : Fin 2304) (l : Fin 128) :
    Pd0 a (ix3 s r l) = if 128 ≤ r.val ∧ r.val < 2176 then at2 a (2048 * s.val + (r.val - 128)) l.val else 0 := by
  pointwise [Pd0]
  by_cases h : 128 ≤ r.val ∧ r.val < 2176
  · rw [dif_pos ⟨h.1, by omega⟩, if_pos h]
    exact at2_of a _ _ _ _ (by simp only; omega) rfl
  · rw [dif_neg (by omega), if_neg h]
    exact sitofp_zero

/-- The padded sequences in blocks of 128 rows. -/
def Pd (a : FVec Ideal S32768x128 .bf16) : FVec Ideal S16x18x128x128 .f32 :=
  shapeCast S16x18x128x128 (Pd0 a) shapeCasts_S16x2304x128_S16x18x128x128

theorem Pd_apply (a : FVec Ideal S32768x128 .bf16) (s : Fin 16) (k : Fin 18) (r : Fin 128) (l : Fin 128) :
    Pd a (ix4 s k r l) = if 128 ≤ 128 * k.val + r.val ∧ 128 * k.val + r.val < 2176 then at2 a (2048 * s.val + (128 * k.val + r.val - 128)) l.val else 0 := by
  pointwise [Pd]
  rw [Pd0_apply]
  simp only [Nat.mul_comm k.val 128]

/-- Three blocks in a row. -/
def Cc (P : FVec Ideal S16x18x128x128 .f32) : FVec Ideal S16x16x384x128 .f32 :=
  fn_main_v10 (F := Ideal) (extractStridedSlice S16x16x128x128 ![0, 0, 0, 0] P slices_S16x18x128x128_S16x16x128x128_0_0_0_0)
    (extractStridedSlice S16x16x128x128 ![0, 1, 0, 0] P slices_S16x18x128x128_S16x16x128x128_0_1_0_0)
    (extractStridedSlice S16x16x128x128 ![0, 2, 0, 0] P slices_S16x18x128x128_S16x16x128x128_0_2_0_0)

theorem Cc_apply (P : FVec Ideal S16x18x128x128 .f32) (s j : Fin 16) (x : Fin 384) (l : Fin 128) :
    Cc P (ix4 s j x l) = P (ix4 s ⟨j.val + x.val / 128, by omega⟩ ⟨x.val % 128, by omega⟩ l) := by
  pointwise [Cc, fn_main_v10]
  by_cases h : x.val < 128
  · rw [dif_pos h]
    exact ix4_of P _ _ _ _ _ _ _ _ rfl (by simp only; omega) (by simp only; omega) rfl
  · rw [dif_neg h]
    by_cases h' : x.val - 128 < 128
    · rw [dif_pos h']
      exact ix4_of P _ _ _ _ _ _ _ _ rfl (by simp only; omega) (by simp only; omega) rfl
    · rw [dif_neg h']
      exact ix4_of P _ _ _ _ _ _ _ _ rfl (by simp only; omega) (by simp only; omega) rfl

/-- The bands of the keys or of the values, one to a block's head. -/
def Bd (C : FVec Ideal S16x16x384x128 .f32) : FVec Ideal S2048x384x64 .f32 :=
  shapeCast S2048x384x64 (broadcastInDim S256x4x2x384x64 ![0, 1, 2, 3, 4] bcast_S256x1x2x384x64_S256x4x2x384x64_0_1_2_3_4
    (broadcastInDim S256x1x2x384x64 ![0, 2, 3, 4] bcast_S256x2x384x64_S256x1x2x384x64_0_2_3_4
      (transpose S256x2x384x64 [0, 2, 1, 3] (shapeCast S256x384x2x64 C shapeCasts_S16x16x384x128_S256x384x2x64) transposes_S256x384x2x64_S256x2x384x64_0_2_1_3)))
    shapeCasts_S256x4x2x384x64_S2048x384x64

theorem Bd_apply (C : FVec Ideal S16x16x384x128 .f32) (n : Fin 2048) (x : Fin 384) (l : Fin 64) :
    Bd C (ix3 n x l) = C (ix4 ⟨n.val / 128, by omega⟩ ⟨n.val / 8 % 16, by omega⟩ x ⟨n.val % 2 * 64 + l.val, by omega⟩) := by
  pointwise [Bd]
  exact ix4_of C _ _ _ _ _ _ _ _ (by simp only; omega) rfl rfl rfl

/-- The bias, a block's head to a row. -/
def Bi (bs : FVec Ideal S8x384x128 .f32) : FVec Ideal S2048x384x128 .f32 :=
  shapeCast S2048x384x128 (broadcastInDim S256x8x384x128 ![0, 1, 2, 3] bcast_S1x8x384x128_S256x8x384x128_0_1_2_3
    (broadcastInDim S1x8x384x128 ![1, 2, 3] bcast_S8x384x128_S1x8x384x128_1_2_3
      (shapeCast S8x384x128 (transpose S4x2x384x128 [1, 0, 2, 3] (shapeCast S2x4x384x128 bs shapeCasts_S8x384x128_S2x4x384x128) transposes_S2x4x384x128_S4x2x384x128_1_0_2_3)
        shapeCasts_S4x2x384x128_S8x384x128))) shapeCasts_S256x8x384x128_S2048x384x128

theorem Bi_apply (bs : FVec Ideal S8x384x128 .f32) (n : Fin 2048) (x : Fin 384) (q : Fin 128) :
    Bi bs (ix3 n x q) = at3 bs (n.val % 8 / 2 + 4 * (n.val % 2)) x.val q.val := by
  pointwise [Bi]
  exact at3_of bs _ _ _ _ _ _ (by simp only; omega) rfl rfl

/-- The sinks, a block's head to a row. -/
def Sk (sk : FVec Ideal S8 .f32) : FVec Ideal S2048x1x1 .f32 :=
  shapeCast S2048x1x1 (broadcastInDim S256x8 ![0, 1] bcast_S1x8_S256x8_0_1 (broadcastInDim S1x8 ![1] bcast_S8_S1x8_1
    (shapeCast S8 (transpose S4x2 [1, 0] (shapeCast S2x4 sk shapeCasts_S8_S2x4) transposes_S2x4_S4x2_1_0) shapeCasts_S4x2_S8))) shapeCasts_S256x8_S2048x1x1

theorem Sk_apply (sk : FVec Ideal S8 .f32) (n : Fin 2048) (i j : Fin 1) : Sk sk (ix3 n i j) = at1 sk (n.val % 8 / 2 + 4 * (n.val % 2)) := by
  pointwise [Sk]
  exact at1_of sk _ _ (by simp only; omega)

/-- A key's position in the sequence. -/
def Kp : IVec S16x384 32 :=
  addi (broadcastInDim S16x384 ![0, 1] bcast_S16x1_S16x384_0_1
      (subi (muli (broadcastInDim S16x1 ![0] bcast_S16_S16x1_0 (iotaInDim S16 32 0)) (broadcastInDim S16x1 ![] bcast_S_S16x1 (constantI S_ 32 128#32)))
        (broadcastInDim S16x1 ![] bcast_S_S16x1 (constantI S_ 32 128#32))))
    (broadcastInDim S16x384 ![0, 1] bcast_S1x384_S16x384_0_1 (broadcastInDim S1x384 ![1] bcast_S384_S1x384_1 (iotaInDim S384 32 0)))

/-- Which keys of a block's band lie in the sequence. -/
def Ok : IVec S16x384 1 :=
  andi (cmpi .sge Kp (broadcastInDim S16x384 ![] bcast_S_S16x384 (constantI S_ 32 0#32)))
    (cmpi .slt Kp (broadcastInDim S16x384 ![] bcast_S_S16x384 (constantI S_ 32 2048#32)))

/-- The word of a key's position denotes it. -/
theorem band_word (a b : ℕ) (ha : a < 16) (hb : b < 384) :
    (BitVec.ofNat 32 a * 128#32 - 128#32 + BitVec.ofNat 32 b).toInt = 128 * (a : ℤ) - 128 + b := by
  rw [BitVec.toInt_eq_toNat_cond]
  simp only [BitVec.toNat_add, BitVec.toNat_sub, BitVec.toNat_mul, BitVec.toNat_ofNat]
  split <;> omega

theorem Ok_apply (j : Fin 16) (x : Fin 384) : Ok (ix2 j x) = if 128 ≤ 128 * j.val + x.val ∧ 128 * j.val + x.val < 2176 then 1#1 else 0#1 := by
  pointwise [Ok, Kp]
  have hw := band_word j.val x.val j.isLt x.isLt
  show BitVec.ofBool (BitVec.sle 0#32 (BitVec.ofNat 32 j.val * 128#32 - 128#32 + BitVec.ofNat 32 x.val))
    &&& BitVec.ofBool (BitVec.slt (BitVec.ofNat 32 j.val * 128#32 - 128#32 + BitVec.ofNat 32 x.val) 2048#32) = _
  rw [BitVec.sle_eq_decide, BitVec.slt_eq_decide, hw, show (0#32 : BitVec 32).toInt = 0 from rfl, show (2048#32 : BitVec 32).toInt = 2048 from rfl]
  by_cases h1 : 128 ≤ 128 * j.val + x.val
  · by_cases h2 : 128 * j.val + x.val < 2176
    · rw [decide_eq_true (by omega), decide_eq_true (by omega), if_pos ⟨h1, h2⟩]; rfl
    · rw [decide_eq_true (by omega), decide_eq_false (by omega), if_neg (by omega)]; rfl
  · rw [decide_eq_false (by omega), if_neg (by omega)]
    exact BitVec.zero_and

/-- The same, a block's head to a row. -/
def Mk : IVec S2048x384x1 1 :=
  shapeCast S2048x384x1 (broadcastInDim S16x16x8x384x1 ![0, 1, 2, 3, 4] bcast_S1x16x1x384x1_S16x16x8x384x1_0_1_2_3_4
    (broadcastInDim S1x16x1x384x1 ![1, 3] bcast_S16x384_S1x16x1x384x1_1_3 Ok)) shapeCasts_S16x16x8x384x1_S2048x384x1

theorem Mk_apply (n : Fin 2048) (x : Fin 384) (i : Fin 1) : Mk (ix3 n x i) = Ok (ix2 ⟨n.val / 8 % 16, by omega⟩ x) := by
  pointwise [Mk]

end Cert.ReferenceIdeal.Attn
end
-- ==== Proof.AttnRef2.lean ====
module

public import proofs.«01_k».proof.Proof.AttnRef
public import proofs.«01_k».proof.Proof.AttnInv

@[expose] public section

set_option maxRecDepth 16384
set_option maxHeartbeats 2000000

noncomputable section

namespace Cert.ReferenceIdeal.Attn

open Cert.ReferenceIdeal Cert.ReferenceIdeal.Gen Cert.ReferenceIdeal.Value
open Cert.KernelIdeal.Attn (at1 at2 at3 eq_at1 eq_at2 eq_at3)
open Idealize.ShloMosaic Idealize.ShloMosaic.Tactic Idealize.ShloMosaic.TcCoe

/-- The scores against the keys `K`, before the bias. -/
def S0 (K : FVec Ideal S2048x384x64 .f32) (Q : FVec Ideal S2048x64x128 .f32) : FVec Ideal S2048x384x128 .f32 :=
  Host.dotGeneral dot_S2048x384x64_S2048x64x128_S2048x384x128_2_1_1_2_0_0 none K Q

theorem S0_apply (K : FVec Ideal S2048x384x64 .f32) (Q : FVec Ideal S2048x64x128 .f32) (n : Fin 2048) (x : Fin 384) (q : Fin 128) :
    S0 K Q (ix3 n x q) = ∑ l : Fin 64, K (ix3 n x l) * Q (ix3 n l q) := by
  pointwise [S0]

theorem two_eq : Ideal.ofBits FTy.f32 0x40000000#32 = ((2 : ℝ) : EReal) := by
  simp [Ideal.ofBits, Ideal.ieee]
  rw [← EReal.coe_mul]
  norm_num

/-- The scores in base e. -/
def S1 (A B : FVec Ideal S2048x384x128 .f32) : FVec Ideal S2048x384x128 .f32 :=
  mulf (addf A B) (broadcastInDim S2048x384x128 ![] bcast_S_S2048x384x128 (Host.log (constant (F := Ideal) S_ .f32 0x40000000#32)))

theorem S1_apply (A B : FVec Ideal S2048x384x128 .f32) (n : Fin 2048) (x : Fin 384) (q : Fin 128) :
    S1 A B (ix3 n x q) = (A (ix3 n x q) + B (ix3 n x q)) * ((Real.log 2 : ℝ) : EReal) := by
  pointwise [S1]
  rw [two_eq, Ideal.log_coe, if_neg (by norm_num)]

/-- The scores, masked. -/
def S2 (M : IVec S2048x384x1 1) (A : FVec Ideal S2048x384x128 .f32) : FVec Ideal S2048x384x128 .f32 :=
  select (broadcastInDim S2048x384x128 ![0, 1, 2] bcast_S2048x384x1_S2048x384x128_0_1_2 M) A
    (broadcastInDim S2048x384x128 ![] bcast_S_S2048x384x128 (id (constant (F := Ideal) S_ .f32 0xFF800000#32)))

theorem S2_apply (M : IVec S2048x384x1 1) (A : FVec Ideal S2048x384x128 .f32) (n : Fin 2048) (x : Fin 384) (q : Fin 128) :
    S2 M A (ix3 n x q) = if M (ix3 n x 0) = 1#1 then A (ix3 n x q) else ⊥ := by
  pointwise [S2]
  rw [show id (constant (F := Ideal) S_ .f32 0xFF800000#32) ix0 = (⊥ : EReal) from Cert.KernelIdeal.Attn.ninf_eq]
  rfl

/-- The greatest of the middle axis, from a starting value. -/
theorem reduce_max {n0 n1 n2 : ℕ} {u : Shape} (A : FVec Ideal ⟨3, ![n0, n1, n2]⟩ .f32) (c : FVec Ideal u .f32)
    (h : (⟨3, ![n0, n1, n2]⟩ : Shape).ReducesTo [1] ⟨2, ![n0, n2]⟩) (hu : 0 < u.numel) (i : Fin n0) (k : Fin n2) :
    Host.reduce FloatOps.maximumf A c h hu (ix2 i k) = Finset.fold max (c (Shape.Idx.first hu)) (fun x : Fin n1 => A (ix3 i x k)) Finset.univ :=
  (Host.reduce_eq_fold (max : EReal → EReal → EReal) A c h hu (ix2 i k)).trans (Shape.ReducesTo.fold_fiber_r3_a1 h (ix2 i k) max _ A)

/-- The greatest of a query's scores. -/
def Mx0 (A : FVec Ideal S2048x384x128 .f32) : FVec Ideal S2048x128 .f32 :=
  Host.reduce FloatOps.maximumf A (constant (F := Ideal) S_ .f32 0xFF800000#32) reducesTo_S2048x384x128_S2048x128_d1 h_S_

theorem Mx0_apply (A : FVec Ideal S2048x384x128 .f32) (n : Fin 2048) (q : Fin 128) :
    Mx0 A (ix2 n q) = Finset.fold max (⊥ : EReal) (fun x : Fin 384 => A (ix3 n x q)) Finset.univ := by
  unfold Mx0
  refine (reduce_max (u := S_) A _ reducesTo_S2048x384x128_S2048x128_d1 h_S_ n q).trans ?_
  rw [show constant (F := Ideal) S_ .f32 0xFF800000#32 (Shape.Idx.first h_S_) = (⊥ : EReal) from Cert.KernelIdeal.Attn.ninf_eq]

theorem greater_apply {t : Shape} (X Y : FVec Ideal t .f32) (y : t.Idx) : maximumf X Y y = max (X y) (Y y) := rfl

theorem over_heads (A : FVec Ideal S2048x128 .f32) (n : Fin 2048) (i : Fin 1) (q : Fin 128) :
    broadcastInDim S2048x1x128 ![0, 2] bcast_S2048x128_S2048x1x128_0_2 A (ix3 n i q) = A (ix2 n q) := by
  pointwise []

theorem over_queries (B : FVec Ideal S2048x1x1 .f32) (n : Fin 2048) (i : Fin 1) (q : Fin 128) :
    broadcastInDim S2048x1x128 ![0, 1, 2] bcast_S2048x1x1_S2048x1x128_0_1_2 B (ix3 n i q) = B (ix3 n 0 0) := by
  pointwise []

/-- The greatest of a query's scores and its sink. -/
def Mx (A : FVec Ideal S2048x384x128 .f32) (B : FVec Ideal S2048x1x1 .f32) : FVec Ideal S2048x1x128 .f32 :=
  maximumf (broadcastInDim S2048x1x128 ![0, 2] bcast_S2048x128_S2048x1x128_0_2 (Mx0 A))
    (broadcastInDim S2048x1x128 ![0, 1, 2] bcast_S2048x1x1_S2048x1x128_0_1_2 B)

theorem Mx_apply (A : FVec Ideal S2048x384x128 .f32) (B : FVec Ideal S2048x1x1 .f32) (n : Fin 2048) (i : Fin 1) (q : Fin 128) :
    Mx A B (ix3 n i q) = max (Finset.fold max (⊥ : EReal) (fun x : Fin 384 => A (ix3 n x q)) Finset.univ) (B (ix3 n 0 0)) := by
  unfold Mx
  rw [greater_apply, over_heads, over_queries, Mx0_apply]

/-- The unnormalised probabilities. -/
def Pr (A : FVec Ideal S2048x384x128 .f32) (M : FVec Ideal S2048x1x128 .f32) : FVec Ideal S2048x384x128 .f32 :=
  Host.exp (subf A (broadcastInDim S2048x384x128 ![0, 1, 2] bcast_S2048x1x128_S2048x384x128_0_1_2 M))

theorem Pr_apply (A : FVec Ideal S2048x384x128 .f32) (M : FVec Ideal S2048x1x128 .f32) (n : Fin 2048) (x : Fin 384) (q : Fin 128) :
    Pr A M (ix3 n x q) = Ideal.exp (A (ix3 n x q) - M (ix3 n 0 q)) := by
  pointwise [Pr]

/-- The reciprocals of the softmax's denominators. -/
def Rc (P : FVec Ideal S2048x384x128 .f32) (M : FVec Ideal S2048x1x128 .f32) (B : FVec Ideal S2048x1x1 .f32) : FVec Ideal S2048x1x128 .f32 :=
  Host.divf (broadcastInDim S2048x1x128 ![] bcast_S_S2048x1x128 (constant (F := Ideal) S_ .f32 0x3F800000#32))
    (addf (broadcastInDim S2048x1x128 ![0, 2] bcast_S2048x128_S2048x1x128_0_2
        (Host.reduceAdd P (constant (F := Ideal) S_ .f32 0x00000000#32) reducesTo_S2048x384x128_S2048x128_d1 h_S_))
      (Host.exp (subf (broadcastInDim S2048x1x128 ![0, 1, 2] bcast_S2048x1x1_S2048x1x128_0_1_2 B) M)))

theorem Rc_apply (P : FVec Ideal S2048x384x128 .f32) (M : FVec Ideal S2048x1x128 .f32) (B : FVec Ideal S2048x1x1 .f32) (n : Fin 2048) (i : Fin 1) (q : Fin 128) :
    Rc P M B (ix3 n i q) = Ideal.div 1 ((∑ x : Fin 384, P (ix3 n x q)) + Ideal.exp (B (ix3 n 0 0) - M (ix3 n i q))) := by
  pointwise [Rc]

/-- The outputs, a block's head to a row. -/
def Ov (P : FVec Ideal S2048x384x128 .f32) (R : FVec Ideal S2048x1x128 .f32) (V : FVec Ideal S2048x384x64 .f32) : FVec Ideal S2048x128x64 .f32 :=
  Host.dotGeneral dot_S2048x384x128_S2048x384x64_S2048x128x64_1_1_2_2_0_0 none
    (mulf P (broadcastInDim S2048x384x128 ![0, 1, 2] bcast_S2048x1x128_S2048x384x128_0_1_2 R)) V

theorem Ov_apply (P : FVec Ideal S2048x384x128 .f32) (R : FVec Ideal S2048x1x128 .f32) (V : FVec Ideal S2048x384x64 .f32) (n : Fin 2048) (q : Fin 128) (d : Fin 64) :
    Ov P R V (ix3 n q d) = ∑ x : Fin 384, P (ix3 n x q) * R (ix3 n 0 q) * V (ix3 n x d) := by
  pointwise [Ov]

/-- The outputs, a token to a row. -/
def Fl (O : FVec Ideal S2048x128x64 .f32) : FVec Ideal S32768x512 .bf16 :=
  truncf (F := Ideal) .bf16 (shapeCast S32768x512 (transpose S256x128x8x64 [0, 2, 1, 3] (shapeCast S256x8x128x64 O shapeCasts_S2048x128x64_S256x8x128x64)
    transposes_S256x8x128x64_S256x128x8x64_0_2_1_3) shapeCasts_S256x128x8x64_S32768x512) bitsLt_bf16_f32

theorem Fl_apply (O : FVec Ideal S2048x128x64 .f32) (r : Fin 32768) (e : Fin 512) :
    Fl O (ix2 r e) = O (ix3 ⟨r.val / 128 * 8 + e.val / 64, by omega⟩ ⟨r.val % 128, by omega⟩ ⟨e.val % 64, by omega⟩) := by
  pointwise [Fl]

section all
variable (qt : FVec Ideal S256x512x128 .bf16) (pj : FVec Ideal S32768x1280 .bf16) (bs : FVec Ideal S8x384x128 .f32) (sk : FVec Ideal S8 .f32)

/-- The reference's scores. -/
def Rs : FVec Ideal S2048x384x128 .f32 := S2 Mk (S1 (S0 (Bd (Cc (Pd (Kc pj)))) (Qr qt)) (Bi bs))
/-- The reference's maxima. -/
def Rm : FVec Ideal S2048x1x128 .f32 := Mx (Rs qt pj bs) (Sk sk)
/-- The reference's unnormalised probabilities. -/
def Rp : FVec Ideal S2048x384x128 .f32 := Pr (Rs qt pj bs) (Rm qt pj bs sk)
/-- The reference's first result. -/
def Ra : FVec Ideal S32768x512 .bf16 :=
  Fl (Ov (Rp qt pj bs sk) (Rc (Rp qt pj bs sk) (Rm qt pj bs sk) (Sk sk)) (Bd (Cc (Pd (Vc pj)))))

end all

/-- The reference's run ends with `Ra` of its arguments. -/
theorem res_eq (m : (ℓ : Loc nD τ sig) → Buf (Elt Ideal) ℓ) (c : Dev nD) :
    res_out0 m c = Ra (m ((c.tc : Thread nD τ).loc main_arg0)) (m ((c.tc : Thread nD τ).loc main_arg1)) (m ((c.tc : Thread nD τ).loc main_arg2)) (m ((c.tc : Thread nD τ).loc main_arg3)) := by
  rfl

end Cert.ReferenceIdeal.Attn
end
-- ==== Proof.AttnMath.lean ====
module

public import proofs.«01_k».proof.Proof.AttnInv

@[expose] public section

noncomputable section

namespace Cert.KernelIdeal.Attn

open Idealize.ShloMosaic

/-! The two forms of one query's softmax over the extended reals: in base 2 with the reciprocal taken last, and in base e
with the reciprocal on each probability. -/

theorem log2_pos : (0 : ℝ) < Real.log 2 := Real.log_pos (by norm_num)

theorem ln2_nonneg : (0 : EReal) ≤ ((Real.log 2 : ℝ) : EReal) := by exact_mod_cast log2_pos.le

/-- A power of 2 is an exponential. -/
theorem exp2_eq (a : EReal) : Ideal.exp2 a = Ideal.exp (a * ((Real.log 2 : ℝ) : EReal)) := by
  induction a with
  | bot => rw [EReal.bot_mul_coe_of_pos log2_pos, Ideal.exp2_bot, Ideal.exp_bot]
  | top => rw [EReal.top_mul_coe_of_pos log2_pos, Ideal.exp2_top, Ideal.exp_top]
  | coe r =>
    rw [← EReal.coe_mul, Ideal.exp2_coe, Ideal.exp_coe]
    congr 1
    rw [show Real.rpow 2 r = (2 : ℝ) ^ r from rfl, Real.rpow_def_of_pos (by norm_num), mul_comm]

theorem max_ln2 (a b : EReal) : max a b * ((Real.log 2 : ℝ) : EReal) = max (a * ((Real.log 2 : ℝ) : EReal)) (b * ((Real.log 2 : ℝ) : EReal)) :=
  Monotone.map_max (f := fun z : EReal => z * ((Real.log 2 : ℝ) : EReal)) fun _ _ h => mul_le_mul_of_nonneg_right h ln2_nonneg

theorem sub_ln2 (a b : EReal) : (a - b) * ((Real.log 2 : ℝ) : EReal) = a * ((Real.log 2 : ℝ) : EReal) - b * ((Real.log 2 : ℝ) : EReal) := by
  rw [sub_eq_add_neg, EReal.right_distrib_of_nonneg_of_ne_top ln2_nonneg (EReal.coe_ne_top _), neg_mul, ← sub_eq_add_neg]

theorem fold_ln2 {n : ℕ} (s : Fin n → EReal) :
    Finset.fold max (⊥ : EReal) (fun x => s x * ((Real.log 2 : ℝ) : EReal)) Finset.univ
      = Finset.fold max (⊥ : EReal) s Finset.univ * ((Real.log 2 : ℝ) : EReal) := by
  have h := Finset.fold_hom (op := (max : EReal → EReal → EReal)) (op' := (max : EReal → EReal → EReal)) (b := (⊥ : EReal)) (f := s)
    (s := Finset.univ) (m := fun z : EReal => z * ((Real.log 2 : ℝ) : EReal)) max_ln2
  rw [← h, EReal.bot_mul_coe_of_pos log2_pos]

theorem exp2_nonneg (a : EReal) : 0 ≤ Ideal.exp2 a := by
  induction a with
  | bot => rw [Ideal.exp2_bot]
  | top => rw [Ideal.exp2_top]; exact le_top
  | coe r => rw [Ideal.exp2_coe]; exact_mod_cast (Real.rpow_nonneg (by norm_num) r)

theorem sum_mul_right {n : ℕ} (f : Fin n → EReal) (c : EReal) (h0 : 0 ≤ c) (h1 : c ≠ ⊤) : (∑ x, f x) * c = ∑ x, f x * c := by
  classical
  induction (Finset.univ : Finset (Fin n)) using Finset.induction_on with
  | empty => rw [Finset.sum_empty, Finset.sum_empty, zero_mul]
  | insert a s ha ih => rw [Finset.sum_insert ha, Finset.sum_insert ha, EReal.right_distrib_of_nonneg_of_ne_top h0 h1, ih]

theorem inv_nonneg' (D : EReal) (h : 0 ≤ D) : 0 ≤ D⁻¹ := EReal.inv_nonneg_of_nonneg h

theorem inv_ne_top (D : EReal) : D⁻¹ ≠ ⊤ := by
  induction D with
  | bot => simp
  | top => simp
  | coe r => rw [← EReal.coe_inv]; exact EReal.coe_ne_top _

/-- The reciprocal of a denominator may be taken on the sum or on each of its terms. -/
theorem recip_each {n : ℕ} (w p : Fin n → EReal) (l : EReal) (hp : ∀ x, 0 ≤ p x) (hl : 0 ≤ l) :
    (∑ x, w x * p x) * Ideal.div 1 ((∑ x, p x) + l) = ∑ x, p x * Ideal.div 1 ((∑ x, p x) + l) * w x := by
  by_cases hD : (∑ x, p x) + l = 0
  · have h0 : ∀ x, p x = 0 := by
      have hs : 0 ≤ ∑ x, p x := Finset.sum_nonneg fun x _ => hp x
      have hz : ∑ x, p x = 0 := le_antisymm (by rw [← hD]; exact le_add_of_nonneg_right hl) hs
      intro x
      exact (Finset.sum_eq_zero_iff_of_nonneg (fun x _ => hp x)).1 hz x (Finset.mem_univ x)
    simp only [h0, mul_zero, zero_mul, Finset.sum_const_zero]
  · have hDn : 0 ≤ (∑ x, p x) + l := add_nonneg (Finset.sum_nonneg fun x _ => hp x) hl
    have hd : Ideal.div 1 ((∑ x, p x) + l) = ((∑ x, p x) + l)⁻¹ := by
      rw [Ideal.div, if_neg hD, one_mul]
    rw [hd, sum_mul_right _ _ (inv_nonneg' _ hDn) (inv_ne_top _)]
    exact Finset.sum_congr rfl fun x _ => by rw [mul_comm (w x) (p x), mul_right_comm]

/-- One query's output in the two forms. -/
theorem softmax_eq {n : ℕ} (s w : Fin n → EReal) (t : EReal) :
    (∑ x, w x * Ideal.exp2 (s x - max (Finset.fold max (⊥ : EReal) s Finset.univ) (t * (((Real.log 2)⁻¹ : ℝ) : EReal))))
        * Ideal.div 1 ((∑ x, Ideal.exp2 (s x - max (Finset.fold max (⊥ : EReal) s Finset.univ) (t * (((Real.log 2)⁻¹ : ℝ) : EReal))))
          + Ideal.exp2 (t * (((Real.log 2)⁻¹ : ℝ) : EReal) - max (Finset.fold max (⊥ : EReal) s Finset.univ) (t * (((Real.log 2)⁻¹ : ℝ) : EReal))))
      = ∑ x, Ideal.exp (s x * ((Real.log 2 : ℝ) : EReal) - max (Finset.fold max (⊥ : EReal) (fun x => s x * ((Real.log 2 : ℝ) : EReal)) Finset.univ) t)
          * Ideal.div 1 ((∑ x, Ideal.exp (s x * ((Real.log 2 : ℝ) : EReal) - max (Finset.fold max (⊥ : EReal) (fun x => s x * ((Real.log 2 : ℝ) : EReal)) Finset.univ) t))
            + Ideal.exp (t - max (Finset.fold max (⊥ : EReal) (fun x => s x * ((Real.log 2 : ℝ) : EReal)) Finset.univ) t)) * w x := by
  have ht : t * (((Real.log 2)⁻¹ : ℝ) : EReal) * ((Real.log 2 : ℝ) : EReal) = t := by
    rw [mul_assoc, ← EReal.coe_mul, inv_mul_cancel₀ log2_pos.ne', EReal.coe_one, mul_one]
  have hm : max (Finset.fold max (⊥ : EReal) (fun x => s x * ((Real.log 2 : ℝ) : EReal)) Finset.univ) t
      = max (Finset.fold max (⊥ : EReal) s Finset.univ) (t * (((Real.log 2)⁻¹ : ℝ) : EReal)) * ((Real.log 2 : ℝ) : EReal) := by
    rw [max_ln2, ht, fold_ln2]
  have hl : Ideal.exp (t - max (Finset.fold max (⊥ : EReal) (fun x => s x * ((Real.log 2 : ℝ) : EReal)) Finset.univ) t)
      = Ideal.exp2 (t * (((Real.log 2)⁻¹ : ℝ) : EReal) - max (Finset.fold max (⊥ : EReal) s Finset.univ) (t * (((Real.log 2)⁻¹ : ℝ) : EReal))) := by
    rw [exp2_eq, sub_ln2, ht, hm]
  have hx : ∀ x, Ideal.exp (s x * ((Real.log 2 : ℝ) : EReal) - max (Finset.fold max (⊥ : EReal) (fun x => s x * ((Real.log 2 : ℝ) : EReal)) Finset.univ) t)
      = Ideal.exp2 (s x - max (Finset.fold max (⊥ : EReal) s Finset.univ) (t * (((Real.log 2)⁻¹ : ℝ) : EReal))) := fun x => by
    rw [exp2_eq, sub_ln2, hm]
  simp only [hx, hl]
  exact recip_each w _ _ (fun x => exp2_nonneg _) (exp2_nonneg _)

/-- A sum over two groups of 384. -/
theorem sum_groups (f : ℕ → ℕ → EReal) :
    ∑ k : Fin 768, f (k.val / 384) (k.val % 384) = (∑ x : Fin 384, f 0 x.val) + ∑ x : Fin 384, f 1 x.val := by
  rw [Fin.sum_univ_two_halves 384 384 rfl]
  refine congrArg₂ (· + ·) (Finset.sum_congr rfl fun x _ => ?_) (Finset.sum_congr rfl fun x _ => ?_)
  · have h := x.isLt
    simp only
    rw [Nat.div_eq_of_lt h, Nat.mod_eq_of_lt h]
  · have h := x.isLt
    simp only
    rw [show (384 + x.val) / 384 = 1 by omega, show (384 + x.val) % 384 = x.val by omega]

/-- Of a sum over the lanes of two heads, the lanes of one. -/
theorem sum_lanes (kv : ℕ) (hkv : kv < 2) (f : ℕ → EReal) (h0 : ∀ l, l < 128 → l / 64 ≠ kv → f l = 0) :
    ∑ l : Fin 128, f l.val = ∑ l : Fin 64, f (kv * 64 + l.val) := by
  rw [Fin.sum_univ_two_halves 64 64 rfl]
  obtain rfl | rfl : kv = 0 ∨ kv = 1 := by omega
  · have hz : ∑ x : Fin 64, f (64 + x.val) = 0 :=
      Finset.sum_eq_zero fun x _ => h0 _ (by have := x.isLt; omega) (by have := x.isLt; omega)
    simp only [hz, add_zero, zero_mul, zero_add]
  · have hz : ∑ x : Fin 64, f x.val = 0 :=
      Finset.sum_eq_zero fun x _ => h0 _ (by have := x.isLt; omega) (by have := x.isLt; omega)
    simp only [hz, zero_add, one_mul]

end Cert.KernelIdeal.Attn
end
-- ==== Proof.AttnRef3.lean ====
module

public import proofs.«01_k».proof.Proof.AttnRef2
public import proofs.«01_k».proof.Proof.AttnMath

@[expose] public section

set_option maxRecDepth 16384

noncomputable section

namespace Cert.ReferenceIdeal.Attn

open Cert.ReferenceIdeal Cert.ReferenceIdeal.Gen Cert.ReferenceIdeal.Value
open Cert.KernelIdeal.Attn (at1 at2 at3 eq_at1 eq_at2 eq_at3)
open Idealize.ShloMosaic Idealize.ShloMosaic.Tactic Idealize.ShloMosaic.TcCoe

/-! The reference's first result at an index, in the entries of its arguments. -/

/-- Row `r` of sequence `s`, padded by 128 rows of zeros before it and after it; the columns begin at `off`. -/
def kpad (pj : FVec Ideal S32768x1280 .bf16) (off s r l : ℕ) : EReal :=
  if 128 ≤ r ∧ r < 2176 then at2 pj (2048 * s + (r - 128)) (off + l) else 0

theorem at2_Kc (pj : FVec Ideal S32768x1280 .bf16) (i l : ℕ) (hi : i < 32768) (hl : l < 128) : at2 (Kc pj) i l = at2 pj i (1024 + l) :=
  (eq_at2 (Kc pj) ⟨i, hi⟩ ⟨l, hl⟩).symm.trans (Kc_apply pj ⟨i, hi⟩ ⟨l, hl⟩)

theorem at2_Vc (pj : FVec Ideal S32768x1280 .bf16) (i l : ℕ) (hi : i < 32768) (hl : l < 128) : at2 (Vc pj) i l = at2 pj i (1152 + l) :=
  (eq_at2 (Vc pj) ⟨i, hi⟩ ⟨l, hl⟩).symm.trans (Vc_apply pj ⟨i, hi⟩ ⟨l, hl⟩)

theorem band_row (a : FVec Ideal S32768x128 .bf16) (n : Fin 2048) (x : Fin 384) (l : Fin 64) :
    Bd (Cc (Pd a)) (ix3 n x l) = if 128 ≤ 128 * (n.val / 8 % 16) + x.val ∧ 128 * (n.val / 8 % 16) + x.val < 2176
      then at2 a (2048 * (n.val / 128) + (128 * (n.val / 8 % 16) + x.val - 128)) (n.val % 2 * 64 + l.val) else 0 := by
  rw [Bd_apply, Cc_apply, Pd_apply]
  simp only
  rw [show 128 * (n.val / 8 % 16 + x.val / 128) + x.val % 128 = 128 * (n.val / 8 % 16) + x.val by omega]

theorem keys_apply (pj : FVec Ideal S32768x1280 .bf16) (n : Fin 2048) (x : Fin 384) (l : Fin 64) :
    Bd (Cc (Pd (Kc pj))) (ix3 n x l) = kpad pj 1024 (n.val / 128) (128 * (n.val / 8 % 16) + x.val) (n.val % 2 * 64 + l.val) := by
  rw [band_row, kpad]
  by_cases h : 128 ≤ 128 * (n.val / 8 % 16) + x.val ∧ 128 * (n.val / 8 % 16) + x.val < 2176
  · rw [if_pos h, if_pos h, at2_Kc _ _ _ (by have := n.isLt; omega) (by have := l.isLt; omega)]
  · rw [if_neg h, if_neg h]

theorem values_apply (pj : FVec Ideal S32768x1280 .bf16) (n : Fin 2048) (x : Fin 384) (l : Fin 64) :
    Bd (Cc (Pd (Vc pj))) (ix3 n x l) = kpad pj 1152 (n.val / 128) (128 * (n.val / 8 % 16) + x.val) (n.val % 2 * 64 + l.val) := by
  rw [band_row, kpad]
  by_cases h : 128 ≤ 128 * (n.val / 8 % 16) + x.val ∧ 128 * (n.val / 8 % 16) + x.val < 2176
  · rw [if_pos h, if_pos h, at2_Vc _ _ _ (by have := n.isLt; omega) (by have := l.isLt; omega)]
  · rw [if_neg h, if_neg h]

section all
variable (qt : FVec Ideal S256x512x128 .bf16) (pj : FVec Ideal S32768x1280 .bf16) (bs : FVec Ideal S8x384x128 .f32) (sk : FVec Ideal S8 .f32)

/-- The masked score, in base 2, of query `q` of block `j` of sequence `t` against key `x` of its band, for head `kv` of group slot `g`. -/
def rsc (t j g kv q x : ℕ) : EReal :=
  if 128 ≤ 128 * j + x ∧ 128 * j + x < 2176 then
    (∑ l : Fin 64, kpad pj 1024 t (128 * j + x) (kv * 64 + l.val) * at3 qt (16 * t + j) (128 * g + (kv * 64 + l.val)) q) + at3 bs (g + 4 * kv) x q
  else ⊥

theorem Rs_apply (t j g kv q x : ℕ) (ht : t < 16) (hj : j < 16) (hg : g < 4) (hk : kv < 2) (hq : q < 128) (hx : x < 384)
    (n : Fin 2048) (hn : n.val = (16 * t + j) * 8 + (2 * g + kv)) :
    Rs qt pj bs (ix3 n (⟨x, hx⟩ : Fin 384) (⟨q, hq⟩ : Fin 128)) = rsc qt pj bs t j g kv q x * ((Real.log 2 : ℝ) : EReal) := by
  have h1 : n.val / 128 = t := by omega
  have h2 : n.val / 8 % 16 = j := by omega
  have h3 : n.val % 2 = kv := by omega
  have h4 : n.val % 8 / 2 = g := by omega
  have h5 : n.val / 8 = 16 * t + j := by omega
  have h6 : n.val % 8 = 2 * g + kv := by omega
  rw [Rs, S2_apply, Mk_apply, Ok_apply, rsc]
  simp only [h2]
  by_cases h : 128 ≤ 128 * j + x ∧ 128 * j + x < 2176
  · rw [if_pos h, if_pos rfl, if_pos h, S1_apply, S0_apply, Bi_apply]
    simp only [h3, h4]
    refine congrArg (fun z => (z + at3 bs (g + 4 * kv) x q) * ((Real.log 2 : ℝ) : EReal)) (Finset.sum_congr rfl fun l _ => ?_)
    rw [keys_apply, Qr_apply]
    simp only [h1, h2, h3]
    simp only [h5, h6]
    rw [show (2 * g + kv) * 64 + l.val = 128 * g + (kv * 64 + l.val) by omega]
  · rw [if_neg h, if_neg (by decide), if_neg h, EReal.bot_mul_coe_of_pos Cert.KernelIdeal.Attn.log2_pos]

/-- The reference's first result at row `r`, column `e`. -/
theorem Ra_apply (t j g kv q d : ℕ) (ht : t < 16) (hj : j < 16) (hg : g < 4) (hk : kv < 2) (hq : q < 128) (hd : d < 64)
    (r : Fin 32768) (e : Fin 512) (hr : r.val = (16 * t + j) * 128 + q) (he : e.val = (2 * g + kv) * 64 + d) :
    Ra qt pj bs sk (ix2 r e) =
      ∑ x : Fin 384, Ideal.exp (rsc qt pj bs t j g kv q x.val * ((Real.log 2 : ℝ) : EReal)
            - max (Finset.fold max (⊥ : EReal) (fun x : Fin 384 => rsc qt pj bs t j g kv q x.val * ((Real.log 2 : ℝ) : EReal)) Finset.univ) (at1 sk (g + 4 * kv)))
          * Ideal.div 1 ((∑ x : Fin 384, Ideal.exp (rsc qt pj bs t j g kv q x.val * ((Real.log 2 : ℝ) : EReal)
              - max (Finset.fold max (⊥ : EReal) (fun x : Fin 384 => rsc qt pj bs t j g kv q x.val * ((Real.log 2 : ℝ) : EReal)) Finset.univ) (at1 sk (g + 4 * kv))))
            + Ideal.exp (at1 sk (g + 4 * kv) - max (Finset.fold max (⊥ : EReal) (fun x : Fin 384 => rsc qt pj bs t j g kv q x.val * ((Real.log 2 : ℝ) : EReal)) Finset.univ) (at1 sk (g + 4 * kv))))
          * kpad pj 1152 t (128 * j + x.val) (kv * 64 + d) := by
  obtain ⟨n, hn⟩ : ∃ n : Fin 2048, n.val = (16 * t + j) * 8 + (2 * g + kv) := ⟨⟨(16 * t + j) * 8 + (2 * g + kv), by omega⟩, rfl⟩
  have h1 : n.val / 128 = t := by omega
  have h2 : n.val / 8 % 16 = j := by omega
  have h3 : n.val % 2 = kv := by omega
  have h4 : n.val % 8 / 2 = g := by omega
  have hS : ∀ x : Fin 384, Rs qt pj bs (ix3 n x (⟨q, hq⟩ : Fin 128)) = rsc qt pj bs t j g kv q x.val * ((Real.log 2 : ℝ) : EReal) := fun x =>
    Rs_apply qt pj bs t j g kv q x.val ht hj hg hk hq x.isLt n hn
  have hM : ∀ i : Fin 1, Rm qt pj bs sk (ix3 n i (⟨q, hq⟩ : Fin 128))
      = max (Finset.fold max (⊥ : EReal) (fun x : Fin 384 => rsc qt pj bs t j g kv q x.val * ((Real.log 2 : ℝ) : EReal)) Finset.univ) (at1 sk (g + 4 * kv)) := fun i => by
    rw [Rm, Mx_apply, Sk_apply, h3, h4]
    simp only [hS]
  have hP : ∀ x : Fin 384, Rp qt pj bs sk (ix3 n x (⟨q, hq⟩ : Fin 128)) = Ideal.exp (rsc qt pj bs t j g kv q x.val * ((Real.log 2 : ℝ) : EReal)
      - max (Finset.fold max (⊥ : EReal) (fun x : Fin 384 => rsc qt pj bs t j g kv q x.val * ((Real.log 2 : ℝ) : EReal)) Finset.univ) (at1 sk (g + 4 * kv))) := fun x => by
    rw [Rp, Pr_apply, hS, hM]
  have hn' : (⟨r.val / 128 * 8 + e.val / 64, by omega⟩ : Fin 2048) = n := Fin.ext (by show r.val / 128 * 8 + e.val / 64 = n.val; omega)
  have hq' : (⟨r.val % 128, by omega⟩ : Fin 128) = ⟨q, hq⟩ := Fin.ext (by show r.val % 128 = q; omega)
  have hd' : (⟨e.val % 64, by omega⟩ : Fin 64) = ⟨d, hd⟩ := Fin.ext (by show e.val % 64 = d; omega)
  rw [Ra, Fl_apply, hn', hq', hd', Ov_apply]
  refine Finset.sum_congr rfl fun x _ => ?_
  rw [Rc_apply, hP, hM, Sk_apply, values_apply, h1, h2, h3, h4]
  simp only [hP]

end all

end Cert.ReferenceIdeal.Attn
end
-- ==== Proof.AttnBlocks.lean ====
module

public import proofs.«01_k».proof.Proof.AttnFrameIdeal
public import proofs.«01_k».proof.Proof.AttnRef3

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

/-! The attention's blocks as parts of its arguments, and its three results. -/

theorem idx0 : ∀ t : Fin cfg0.N, (cfg0.win 0).index t = ![0] := by decide +kernel
theorem idx1 : ∀ t : Fin cfg0.N, (cfg0.win 1).index t = ![t.val, 0, 0] := by decide +kernel
theorem idx2 : ∀ t : Fin cfg0.N, (cfg0.win 2).index t = ![t.val, 8] := by decide +kernel
theorem idx3 : ∀ t : Fin cfg0.N, (cfg0.win 3).index t = ![t.val, 9] := by decide +kernel
theorem idx4 : ∀ t : Fin cfg0.N, (cfg0.win 4).index t = ![0, 0, 0] := by decide +kernel
theorem idx5 : ∀ t : Fin cfg0.N, (cfg0.win 5).index t = ![t.val, 0] := by decide +kernel
theorem idx6 : ∀ t : Fin cfg0.N, (cfg0.win 6).index t = ![t.val, 0] := by decide +kernel
theorem idx7 : ∀ t : Fin cfg0.N, (cfg0.win 7).index t = ![t.val, 0] := by decide +kernel
theorem idx8 : ∀ t : Fin cfg0.N, (cfg0.win 8).index t = ![t.val, 0] := by decide +kernel
theorem idx9 : ∀ t : Fin cfg0.N, (cfg0.win 9).index t = ![t.val, 0] := by decide +kernel

variable (m : (ℓ : Loc nD τ sig) → Buf (Elt Ideal) ℓ) (c : Dev nD) (t : Fin cfg0.N)

theorem read_sink (h : ℕ) (hh : h < 8) :
    at1 (φ := .f32) (iblk m c 0 t) h = at1 (φ := .f32) (m ((c : Thread nD τ).loc main_arg3)) h := by
  refine congrArg (m ((c : Thread nD τ).loc main_arg3)) ?_
  blk_ext [iblk, idx0 t]

theorem read_queries (j l q : ℕ) (hj : j < 16) (hl : l < 512) (hq : q < 128) :
    at3 (φ := .bf16) (iblk m c 1 t) j l q = at3 (φ := .bf16) (m ((c : Thread nD τ).loc main_arg0)) (16 * t.val + j) l q := by
  have ht : t.val < 16 := t.isLt
  rw [at3, at3, show Fin.ofNat 16 j = ⟨j, hj⟩ from Fin.ext (Nat.mod_eq_of_lt hj), show Fin.ofNat 512 l = ⟨l, hl⟩ from Fin.ext (Nat.mod_eq_of_lt hl),
    show Fin.ofNat 128 q = ⟨q, hq⟩ from Fin.ext (Nat.mod_eq_of_lt hq),
    show Fin.ofNat 256 (16 * t.val + j) = ⟨16 * t.val + j, by omega⟩ from Fin.ext (Nat.mod_eq_of_lt (by omega))]
  refine congrArg (m ((c : Thread nD τ).loc main_arg0)) ?_
  blk_ext [iblk, idx1 t]

theorem read_keys (r l : ℕ) (hr : r < 2048) (hl : l < 128) :
    at2 (φ := .bf16) (iblk m c 2 t) r l = at2 (φ := .bf16) (m ((c : Thread nD τ).loc main_arg1)) (2048 * t.val + r) (1024 + l) := by
  have ht : t.val < 16 := t.isLt
  rw [at2, at2, show Fin.ofNat 2048 r = ⟨r, hr⟩ from Fin.ext (Nat.mod_eq_of_lt hr), show Fin.ofNat 128 l = ⟨l, hl⟩ from Fin.ext (Nat.mod_eq_of_lt hl),
    show Fin.ofNat 32768 (2048 * t.val + r) = ⟨2048 * t.val + r, by omega⟩ from Fin.ext (Nat.mod_eq_of_lt (by omega)),
    show Fin.ofNat 1280 (1024 + l) = ⟨1024 + l, by omega⟩ from Fin.ext (Nat.mod_eq_of_lt (by omega))]
  refine congrArg (m ((c : Thread nD τ).loc main_arg1)) ?_
  blk_ext [iblk, idx2 t]

theorem read_values (r l : ℕ) (hr : r < 2048) (hl : l < 128) :
    at2 (φ := .bf16) (iblk m c 3 t) r l = at2 (φ := .bf16) (m ((c : Thread nD τ).loc main_arg1)) (2048 * t.val + r) (1152 + l) := by
  have ht : t.val < 16 := t.isLt
  rw [at2, at2, show Fin.ofNat 2048 r = ⟨r, hr⟩ from Fin.ext (Nat.mod_eq_of_lt hr), show Fin.ofNat 128 l = ⟨l, hl⟩ from Fin.ext (Nat.mod_eq_of_lt hl),
    show Fin.ofNat 32768 (2048 * t.val + r) = ⟨2048 * t.val + r, by omega⟩ from Fin.ext (Nat.mod_eq_of_lt (by omega)),
    show Fin.ofNat 1280 (1152 + l) = ⟨1152 + l, by omega⟩ from Fin.ext (Nat.mod_eq_of_lt (by omega))]
  refine congrArg (m ((c : Thread nD τ).loc main_arg1)) ?_
  blk_ext [iblk, idx3 t]

theorem read_bias (h x q : ℕ) (hh : h < 8) (hx : x < 384) (hq : q < 128) :
    at3 (φ := .f32) (iblk m c 4 t) h x q = at3 (φ := .f32) (m ((c : Thread nD τ).loc main_arg2)) h x q := by
  refine congrArg (m ((c : Thread nD τ).loc main_arg2)) ?_
  blk_ext [iblk, idx4 t]

/-- The first result's blocks are those of any array that agrees with them entry by entry. -/
theorem arr7 (G : FVec Ideal S32768x512 .bf16)
    (h : ∀ (t : Fin cfg0.N) (a : Fin 2048) (b : Fin 512) (ha : t.val * 2048 + a.val < 32768),
      OutA (iblk m c 0 t) (iblk m c 1 t) (iblk m c 2 t) (iblk m c 3 t) (iblk m c 4 t) (ix2 a b) = G (ix2 ⟨t.val * 2048 + a.val, ha⟩ b)) :
    (dats m 0 c).arrAt 7 cfg0.N = G := by
  refine (dats m 0 c).arrAt_eq_of_covers 7 _ (by decide +kernel) fun t hf y => ?_
  blk_simp
  rw [after_7]
  have ht : t.val < 16 := t.isLt
  idx_vars y
  have := y0.isLt
  rw [h t y0 y1 (by omega)]
  refine congrArg G ?_
  blk_ext [idx7 t]

theorem arr8 : (dats m 0 c).arrAt 8 cfg0.N = (fun i => m ((c : Thread nD τ).loc main_arg4) i) := by
  refine (dats m 0 c).arrAt_eq_of_covers 8 _ (by decide +kernel) fun t hf y => ?_
  blk_simp
  rw [after_8]
  refine congrArg (m ((c : Thread nD τ).loc main_arg4)) ?_
  blk_ext [iblk, idx5 t, idx8 t]

theorem arr9 : (dats m 0 c).arrAt 9 cfg0.N = (fun i => m ((c : Thread nD τ).loc main_arg5) i) := by
  refine (dats m 0 c).arrAt_eq_of_covers 9 _ (by decide +kernel) fun t hf y => ?_
  blk_simp
  rw [after_9]
  refine congrArg (m ((c : Thread nD τ).loc main_arg5)) ?_
  blk_ext [iblk, idx6 t, idx9 t]

end Cert.KernelIdeal.Attn
end
-- ==== Proof.AttnAlg.lean ====
module

public import proofs.«01_k».proof.Proof.AttnBlocks
public import proofs.«01_k».proof.Proof.AttnMath

@[expose] public section

set_option maxRecDepth 16384

noncomputable section

namespace Cert.KernelIdeal.Attn

open Cert.KernelIdeal Cert.KernelIdeal.Gen
open Cert.ReferenceIdeal.Attn (kpad rsc Ra Ra_apply)
open Idealize.ShloMosaic Idealize.ShloMosaic.TcCoe Idealize.ShloMosaic.Tactic
open Idealize.SL Idealize.SL.Sem

/-! One output of the attention kernel is the reference's. -/

variable (x0 : FVec Ideal S8 .f32) (x1 : FVec Ideal S16x512x128 .bf16) (x2 x3 : FVec Ideal S2048x128 .bf16) (x4 : FVec Ideal S8x384x128 .f32)
variable (qt : FVec Ideal S256x512x128 .bf16) (pj : FVec Ideal S32768x1280 .bf16) (bs : FVec Ideal S8x384x128 .f32) (sk : FVec Ideal S8 .f32)

theorem pad_eq (x : FVec Ideal S2048x128 .bf16) (off t : ℕ)
    (hx : ∀ r l : ℕ, r < 2048 → l < 128 → at2 x r l = at2 pj (2048 * t + r) (off + l)) (kv r l : ℕ) (hl : l < 128) :
    pad x kv r l = if l / 64 = kv then kpad pj off t r l else 0 := by
  unfold pad kpad
  by_cases h : l / 64 = kv
  · by_cases h2 : 128 ≤ r ∧ r < 2176
    · rw [if_pos ⟨h2.1, h2.2, h⟩, if_pos h, if_pos h2, hx _ _ (by omega) hl]
    · rw [if_neg (fun q => h2 ⟨q.1, q.2.1⟩), if_pos h, if_neg h2]
  · rw [if_neg (fun q => h q.2.2), if_neg h]

variable (t : ℕ)
  (h0 : ∀ h : ℕ, h < 8 → at1 x0 h = at1 sk h)
  (h1 : ∀ j l q : ℕ, j < 16 → l < 512 → q < 128 → at3 x1 j l q = at3 qt (16 * t + j) l q)
  (h2 : ∀ r l : ℕ, r < 2048 → l < 128 → at2 x2 r l = at2 pj (2048 * t + r) (1024 + l))
  (h3 : ∀ r l : ℕ, r < 2048 → l < 128 → at2 x3 r l = at2 pj (2048 * t + r) (1152 + l))
  (h4 : ∀ h x q : ℕ, h < 8 → x < 384 → q < 128 → at3 x4 h x q = at3 bs h x q)

include h1 h2 h4 in
theorem scm_eq (j g kv q x : ℕ) (hj : j < 16) (hg : g < 4) (hk : kv < 2) (hq : q < 128) (hx : x < 384) :
    scm x1 x2 x4 j g kv q x = rsc qt pj bs t j g kv q x := by
  unfold scm rsc sc
  rw [h4 _ _ _ (by omega) hx hq]
  refine if_congr Iff.rfl (congrArg (· + at3 bs (g + 4 * kv) x q) ?_) rfl
  refine (sum_lanes kv hk (fun l => pad x2 kv (128 * j + x) l * at3 x1 j (128 * g + l) q) ?_).trans ?_
  · intro l hl hne
    show pad x2 kv (128 * j + x) l * _ = 0
    rw [pad_eq pj x2 1024 t h2 _ _ _ hl, if_neg hne, zero_mul]
  · refine Finset.sum_congr rfl fun l _ => ?_
    have := l.isLt
    show pad x2 kv (128 * j + x) (kv * 64 + l.val) * _ = _
    rw [pad_eq pj x2 1024 t h2 _ _ _ (by omega), if_pos (by omega), h1 _ _ _ hj (by omega) hq]

include h0 in
theorem snk_eq (g kv : ℕ) (hg : g < 4) (hk : kv < 2) : snk x0 g kv = at1 sk (g + 4 * kv) * (((Real.log 2)⁻¹ : ℝ) : EReal) := by
  unfold snk
  rw [h0 _ (by omega)]
  exact congrArg (at1 sk (g + 4 * kv) * ·) (IdealRules.named_const.ideal_named_scalar _ _ _ _ rfl)

/-- Of a sum over the keys of both groups, the part of one group alone, the other's terms being zero. -/
theorem sum_group (f : ℕ → ℕ → EReal) (kv : ℕ) (hk : kv < 2) (hf : ∀ k x : ℕ, x < 384 → k ≠ kv → f k x = 0) :
    ∑ k : Fin 768, f (k.val / 384) (k.val % 384) = ∑ x : Fin 384, f kv x.val := by
  rw [sum_groups]
  obtain rfl | rfl : kv = 0 ∨ kv = 1 := by omega
  · rw [Finset.sum_eq_zero (s := Finset.univ) (f := fun x : Fin 384 => f 1 x.val) fun x _ => hf 1 _ x.isLt (by decide), add_zero]
  · rw [Finset.sum_eq_zero (s := Finset.univ) (f := fun x : Fin 384 => f 0 x.val) fun x _ => hf 0 _ x.isLt (by decide), zero_add]

include h0 h1 h2 h3 h4 in
theorem outv_eq (j g kv q d : ℕ) (ht : t < 16) (hj : j < 16) (hg : g < 4) (hk : kv < 2) (hq : q < 128) (hd : d < 64)
    (r : Fin 32768) (e : Fin 512) (hr : r.val = (16 * t + j) * 128 + q) (he : e.val = (2 * g + kv) * 64 + d) :
    outv x0 x1 x2 x3 x4 j g (kv * 64 + d) q = Ra qt pj bs sk (ix2 r e) := by
  have hsc : ∀ x : ℕ, x < 384 → scm x1 x2 x4 j g kv q x = rsc qt pj bs t j g kv q x := fun x hx =>
    scm_eq x1 x2 x4 qt pj bs t h1 h2 h4 j g kv q x hj hg hk hq hx
  have hmx : mx x0 x1 x2 x4 j g kv q = max (Finset.fold max (⊥ : EReal) (fun x : Fin 384 => rsc qt pj bs t j g kv q x.val) Finset.univ)
      (at1 sk (g + 4 * kv) * (((Real.log 2)⁻¹ : ℝ) : EReal)) := by
    unfold mx
    rw [ninf_eq, snk_eq x0 sk h0 g kv hg hk, show (fun x : Fin 384 => scm x1 x2 x4 j g kv q x.val) = fun x : Fin 384 => rsc qt pj bs t j g kv q x.val from
      funext fun x => hsc _ x.isLt]
  have hde : (kv * 64 + d) / 64 = kv := by omega
  rw [Ra_apply qt pj bs sk t j g kv q d ht hj hg hk hq hd r e hr he,
    ← softmax_eq (fun x : Fin 384 => rsc qt pj bs t j g kv q x.val) (fun x : Fin 384 => kpad pj 1152 t (128 * j + x.val) (kv * 64 + d)) (at1 sk (g + 4 * kv)),
    ← hmx]
  unfold outv
  rw [hde]
  rw [sum_group (fun k x => va x3 k (128 * j + x) (kv * 64 + d) * pr x0 x1 x2 x4 j g k q x) kv hk,
    sum_group (fun k x => va x3 k (128 * j + x) (128 + kv) * pr x0 x1 x2 x4 j g k q x) kv hk]
  · unfold lk
    rw [snk_eq x0 sk h0 g kv hg hk]
    refine congrArg₂ (· * ·) (Finset.sum_congr rfl fun x _ => ?_) (congrArg (fun z => Ideal.div 1 (z + _)) (Finset.sum_congr rfl fun x _ => ?_))
    · have := x.isLt
      rw [va, if_pos (by omega), pad_eq pj x3 1152 t h3 _ _ _ (by omega), if_pos hde, pr, hsc _ x.isLt]
    · rw [va, if_neg (by omega), if_pos (by omega), one_mul, pr, hsc _ x.isLt]
  · intro k x hx hne
    rw [va, if_neg (by omega), if_neg (by omega), zero_mul]
  · intro k x hx hne
    rw [va, if_pos (by omega), pad_eq pj x3 1152 t h3 _ _ _ (by omega), if_neg (by omega), zero_mul]

end Cert.KernelIdeal.Attn
end
-- ==== Proof.FfnTerm.lean ====
module

public import proofs.«01_k».proof.Proof.Gen.Kernel2Ideal.Value
public import proofs.«01_k».proof.Proof.AttnReads

@[expose] public section

set_option maxRecDepth 16384
set_option maxHeartbeats 4000000

noncomputable section

namespace Cert.Kernel2Ideal.Ffn

open Cert.Kernel2Ideal Cert.Kernel2Ideal.Gen
open Idealize.ShloMosaic Idealize.ShloMosaic.TcCoe Idealize.ShloMosaic.Tactic
open Idealize.ShloMosaic.Pipeline (Dat Cfg Window cellOf)

variable {F : FTy → Type} [FloatOps F] [Named F]

section pieces

variable (V : View sig .tc .vmem S1024x1024 .f32) (xa xb : Vec F S512x1024 .f32) (aa ab : Vec F S512x512 .bf16) (wa wb : Vec F S512x1024 .bf16)
  (ma mb : Vec F S512x512 .bf16) (g : Vec F S1x1024 .f32) (u0 u1 u2 u3 d0 d1 d2 d3 : Vec F S1024x1024 .bf16) (gf : Vec F S1x1024 .f32)

/-- The rows of the first half of a block. -/
def R0 : Rect S1024x1024 := Rect.unit ![0, 0] S512x1024.size (by decide)

/-- The rows of the second half of a block. -/
def R1 : Rect S1024x1024 := Rect.unit ![512, 0] S512x1024.size (by decide)

/-- What the first half's rows hold after the output projection. -/
def Xa : FVec F S512x1024 .f32 := k0_pay37 xa aa wa ma wb

/-- What the second half's rows hold after the output projection. -/
def Xb : FVec F S512x1024 .f32 := k0_pay79 xb ab wa mb wb

/-- The second half's rows, normalised. -/
def Nb : FVec F S512x1024 .bf16 := k0_pay80 xb ab wa mb wb g

/-- The output block's pieces, last stored first: up to the first half's projection. -/
def L1 : List (View.Piece (Elt F) S1024x1024 .f32) := [⟨Rect.unit ![0, 0] S512x1024.size (by decide), k0_pay37 xa aa wa ma wb⟩]

/-- The pieces up to the second half's projection. -/
def L3 : List (View.Piece (Elt F) S1024x1024 .f32) :=
  ⟨Rect.unit ![512, 0] S512x1024.size (by decide), k0_pay79 xb ab wa mb wb⟩ ::
  ⟨Rect.unit ![0, 0] S512x1024.size (by decide), k0_pay39 (k0_pay37 xa aa wa ma wb) g u0 (V.readCov (L1 xa aa wa wb ma) (Rect.unit (s := S1024x1024) ![0, 0] S512x1024.size (by decide)).toLoadRect) d0⟩ :: L1 xa aa wa wb ma

/-- The pieces after the first half's second quarter. -/
def L4 : List (View.Piece (Elt F) S1024x1024 .f32) :=
  ⟨Rect.unit ![0, 0] S512x1024.size (by decide), k0_pay81 (k0_pay38 (k0_pay37 xa aa wa ma wb) g) u1 (V.readCov (L3 V xa xb aa ab wa wb ma mb g u0 d0) (Rect.unit (s := S1024x1024) ![0, 0] S512x1024.size (by decide)).toLoadRect) d1⟩ :: L3 V xa xb aa ab wa wb ma mb g u0 d0

/-- The pieces after the second half's first quarter. -/
def L5 : List (View.Piece (Elt F) S1024x1024 .f32) :=
  ⟨Rect.unit ![512, 0] S512x1024.size (by decide), k0_pay82 (k0_pay80 xb ab wa mb wb g) u0 (V.readCov (L4 V xa xb aa ab wa wb ma mb g u0 u1 d0 d1) (Rect.unit (s := S1024x1024) ![512, 0] S512x1024.size (by decide)).toLoadRect) d0⟩ :: L4 V xa xb aa ab wa wb ma mb g u0 u1 d0 d1

/-- The pieces after the first half's third quarter. -/
def L6 : List (View.Piece (Elt F) S1024x1024 .f32) :=
  ⟨Rect.unit ![0, 0] S512x1024.size (by decide), k0_pay85 (k0_pay83 (k0_pay38 (k0_pay37 xa aa wa ma wb) g) u2) (k0_pay84 (V.readCov (L5 V xa xb aa ab wa wb ma mb g u0 u1 d0 d1) (Rect.unit (s := S1024x1024) ![0, 0] S512x1024.size (by decide)).toLoadRect)) d2⟩ :: L5 V xa xb aa ab wa wb ma mb g u0 u1 d0 d1

/-- The pieces after the second half's second quarter. -/
def L7 : List (View.Piece (Elt F) S1024x1024 .f32) :=
  ⟨Rect.unit ![512, 0] S512x1024.size (by decide), k0_pay86 (k0_pay80 xb ab wa mb wb g) u1 (V.readCov (L6 V xa xb aa ab wa wb ma mb g u0 u1 u2 d0 d1 d2) (Rect.unit (s := S1024x1024) ![512, 0] S512x1024.size (by decide)).toLoadRect) d1⟩ :: L6 V xa xb aa ab wa wb ma mb g u0 u1 u2 d0 d1 d2

/-- The pieces after the first half's last quarter. -/
def L8 : List (View.Piece (Elt F) S1024x1024 .f32) :=
  ⟨Rect.unit ![0, 0] S512x1024.size (by decide), k0_pay87 (k0_pay38 (k0_pay37 xa aa wa ma wb) g) u3 (V.readCov (L7 V xa xb aa ab wa wb ma mb g u0 u1 u2 d0 d1 d2) (Rect.unit (s := S1024x1024) ![0, 0] S512x1024.size (by decide)).toLoadRect) d3⟩ :: L7 V xa xb aa ab wa wb ma mb g u0 u1 u2 d0 d1 d2

/-- The pieces after the second half's third quarter. -/
def L9 : List (View.Piece (Elt F) S1024x1024 .f32) :=
  ⟨Rect.unit ![512, 0] S512x1024.size (by decide), k0_pay88 (k0_pay80 xb ab wa mb wb g) u2 (V.readCov (L8 V xa xb aa ab wa wb ma mb g u0 u1 u2 u3 d0 d1 d2 d3) (Rect.unit (s := S1024x1024) ![512, 0] S512x1024.size (by decide)).toLoadRect) d2⟩ :: L8 V xa xb aa ab wa wb ma mb g u0 u1 u2 u3 d0 d1 d2 d3

/-- The pieces after the first half's last norm. -/
def L10 : List (View.Piece (Elt F) S1024x1024 .f32) :=
  ⟨Rect.unit ![0, 0] S512x1024.size (by decide), k0_pay89 (V.readCov (L9 V xa xb aa ab wa wb ma mb g u0 u1 u2 u3 d0 d1 d2 d3) (Rect.unit (s := S1024x1024) ![0, 0] S512x1024.size (by decide)).toLoadRect) gf⟩ :: L9 V xa xb aa ab wa wb ma mb g u0 u1 u2 u3 d0 d1 d2 d3

/-- The pieces after the second half's last quarter. -/
def L11 : List (View.Piece (Elt F) S1024x1024 .f32) :=
  ⟨Rect.unit ![512, 0] S512x1024.size (by decide), k0_pay91 (k0_pay90 (k0_pay80 xb ab wa mb wb g) u3) (V.readCov (L10 V xa xb aa ab wa wb ma mb g u0 u1 u2 u3 d0 d1 d2 d3 gf) (Rect.unit (s := S1024x1024) ![512, 0] S512x1024.size (by decide)).toLoadRect) d3⟩ :: L10 V xa xb aa ab wa wb ma mb g u0 u1 u2 u3 d0 d1 d2 d3 gf

/-- All the pieces. -/
def L12 : List (View.Piece (Elt F) S1024x1024 .f32) :=
  ⟨Rect.unit ![512, 0] S512x1024.size (by decide), k0_pay1 (k0_pay92 (V.readCov (L11 V xa xb aa ab wa wb ma mb g u0 u1 u2 u3 d0 d1 d2 d3 gf) (Rect.unit (s := S1024x1024) ![512, 0] S512x1024.size (by decide)).toLoadRect)) gf (k0_pay93 (V.readCov (L11 V xa xb aa ab wa wb ma mb g u0 u1 u2 u3 d0 d1 d2 d3 gf) (Rect.unit (s := S1024x1024) ![512, 0] S512x1024.size (by decide)).toLoadRect))⟩ :: L11 V xa xb aa ab wa wb ma mb g u0 u1 u2 u3 d0 d1 d2 d3 gf

end pieces

section tiles

variable {arg2 : Memref sig .tc .vmem S4x8x128x128 .f32} {arg3 : Memref sig .tc .vmem S1024x512 .bf16} {arg4 : Memref sig .tc .vmem S1x512 .f32}
  (x1 : arg2.view.ty.Contents (Elt F)) (x2 : arg3.view.ty.Contents (Elt F)) (x3 : arg4.view.ty.Contents (Elt F))

/-- One gated, normalised block of the mLSTM's states. -/
def tile (o1 : Fin 4 → ℕ) (i1 : ∀ a, o1 a + S1x1x128x128.size a ≤ S4x8x128x128.size a) (o3 : Fin 2 → ℕ) (i3 : ∀ a, o3 a + S1x128.size a ≤ S1x512.size a)
    (o2 : Fin 2 → ℕ) (i2 : ∀ a, o2 a + S128x128.size a ≤ S1024x512.size a) : FVec F S128x128 .bf16 :=
  k0_pay32 (View.readAt (Elt F) arg2.view (Rect.unit (s := S4x8x128x128) o1 S1x1x128x128.size i1).toLoadRect x1)
    (View.readAt (Elt F) arg4.view (Rect.unit (s := S1x512) o3 S1x128.size i3).toLoadRect x3)
    (View.readAt (Elt F) arg3.view (Rect.unit (s := S1024x512) o2 S128x128.size i2).toLoadRect x2)

/-- The first half's blocks, last stored first. -/
def mlA : List (View.Piece (Elt F) S1024x512 .bf16) :=
  [⟨Rect.unit ![384, 384] S128x128.size (by decide), tile x1 x2 x3 ![3, 3, 0, 0] (by decide) ![0, 384] (by decide) ![384, 384] (by decide)⟩,
   ⟨Rect.unit ![256, 384] S128x128.size (by decide), tile x1 x2 x3 ![3, 2, 0, 0] (by decide) ![0, 384] (by decide) ![256, 384] (by decide)⟩,
   ⟨Rect.unit ![128, 384] S128x128.size (by decide), tile x1 x2 x3 ![3, 1, 0, 0] (by decide) ![0, 384] (by decide) ![128, 384] (by decide)⟩,
   ⟨Rect.unit ![0, 384] S128x128.size (by decide), tile x1 x2 x3 ![3, 0, 0, 0] (by decide) ![0, 384] (by decide) ![0, 384] (by decide)⟩,
   ⟨Rect.unit ![384, 256] S128x128.size (by decide), tile x1 x2 x3 ![2, 3, 0, 0] (by decide) ![0, 256] (by decide) ![384, 256] (by decide)⟩,
   ⟨Rect.unit ![256, 256] S128x128.size (by decide), tile x1 x2 x3 ![2, 2, 0, 0] (by decide) ![0, 256] (by decide) ![256, 256] (by decide)⟩,
   ⟨Rect.unit ![128, 256] S128x128.size (by decide), tile x1 x2 x3 ![2, 1, 0, 0] (by decide) ![0, 256] (by decide) ![128, 256] (by decide)⟩,
   ⟨Rect.unit ![0, 256] S128x128.size (by decide), tile x1 x2 x3 ![2, 0, 0, 0] (by decide) ![0, 256] (by decide) ![0, 256] (by decide)⟩,
   ⟨Rect.unit ![384, 128] S128x128.size (by decide), tile x1 x2 x3 ![1, 3, 0, 0] (by decide) ![0, 128] (by decide) ![384, 128] (by decide)⟩,
   ⟨Rect.unit ![256, 128] S128x128.size (by decide), tile x1 x2 x3 ![1, 2, 0, 0] (by decide) ![0, 128] (by decide) ![256, 128] (by decide)⟩,
   ⟨Rect.unit ![128, 128] S128x128.size (by decide), tile x1 x2 x3 ![1, 1, 0, 0] (by decide) ![0, 128] (by decide) ![128, 128] (by decide)⟩,
   ⟨Rect.unit ![0, 128] S128x128.size (by decide), tile x1 x2 x3 ![1, 0, 0, 0] (by decide) ![0, 128] (by decide) ![0, 128] (by decide)⟩,
   ⟨Rect.unit ![384, 0] S128x128.size (by decide), tile x1 x2 x3 ![0, 3, 0, 0] (by decide) ![0, 0] (by decide) ![384, 0] (by decide)⟩,
   ⟨Rect.unit ![256, 0] S128x128.size (by decide), tile x1 x2 x3 ![0, 2, 0, 0] (by decide) ![0, 0] (by decide) ![256, 0] (by decide)⟩,
   ⟨Rect.unit ![128, 0] S128x128.size (by decide), tile x1 x2 x3 ![0, 1, 0, 0] (by decide) ![0, 0] (by decide) ![128, 0] (by decide)⟩,
   ⟨Rect.unit ![0, 0] S128x128.size (by decide), tile x1 x2 x3 ![0, 0, 0, 0] (by decide) ![0, 0] (by decide) ![0, 0] (by decide)⟩]

/-- Both halves' blocks, last stored first. -/
def mlB : List (View.Piece (Elt F) S1024x512 .bf16) :=
  ⟨Rect.unit ![896, 384] S128x128.size (by decide), tile x1 x2 x3 ![3, 7, 0, 0] (by decide) ![0, 384] (by decide) ![896, 384] (by decide)⟩ ::
   ⟨Rect.unit ![768, 384] S128x128.size (by decide), tile x1 x2 x3 ![3, 6, 0, 0] (by decide) ![0, 384] (by decide) ![768, 384] (by decide)⟩ ::
   ⟨Rect.unit ![640, 384] S128x128.size (by decide), tile x1 x2 x3 ![3, 5, 0, 0] (by decide) ![0, 384] (by decide) ![640, 384] (by decide)⟩ ::
   ⟨Rect.unit ![512, 384] S128x128.size (by decide), tile x1 x2 x3 ![3, 4, 0, 0] (by decide) ![0, 384] (by decide) ![512, 384] (by decide)⟩ ::
   ⟨Rect.unit ![896, 256] S128x128.size (by decide), tile x1 x2 x3 ![2, 7, 0, 0] (by decide) ![0, 256] (by decide) ![896, 256] (by decide)⟩ ::
   ⟨Rect.unit ![768, 256] S128x128.size (by decide), tile x1 x2 x3 ![2, 6, 0, 0] (by decide) ![0, 256] (by decide) ![768, 256] (by decide)⟩ ::
   ⟨Rect.unit ![640, 256] S128x128.size (by decide), tile x1 x2 x3 ![2, 5, 0, 0] (by decide) ![0, 256] (by decide) ![640, 256] (by decide)⟩ ::
   ⟨Rect.unit ![512, 256] S128x128.size (by decide), tile x1 x2 x3 ![2, 4, 0, 0] (by decide) ![0, 256] (by decide) ![512, 256] (by decide)⟩ ::
   ⟨Rect.unit ![896, 128] S128x128.size (by decide), tile x1 x2 x3 ![1, 7, 0, 0] (by decide) ![0, 128] (by decide) ![896, 128] (by decide)⟩ ::
   ⟨Rect.unit ![768, 128] S128x128.size (by decide), tile x1 x2 x3 ![1, 6, 0, 0] (by decide) ![0, 128] (by decide) ![768, 128] (by decide)⟩ ::
   ⟨Rect.unit ![640, 128] S128x128.size (by decide), tile x1 x2 x3 ![1, 5, 0, 0] (by decide) ![0, 128] (by decide) ![640, 128] (by decide)⟩ ::
   ⟨Rect.unit ![512, 128] S128x128.size (by decide), tile x1 x2 x3 ![1, 4, 0, 0] (by decide) ![0, 128] (by decide) ![512, 128] (by decide)⟩ ::
   ⟨Rect.unit ![896, 0] S128x128.size (by decide), tile x1 x2 x3 ![0, 7, 0, 0] (by decide) ![0, 0] (by decide) ![896, 0] (by decide)⟩ ::
   ⟨Rect.unit ![768, 0] S128x128.size (by decide), tile x1 x2 x3 ![0, 6, 0, 0] (by decide) ![0, 0] (by decide) ![768, 0] (by decide)⟩ ::
   ⟨Rect.unit ![640, 0] S128x128.size (by decide), tile x1 x2 x3 ![0, 5, 0, 0] (by decide) ![0, 0] (by decide) ![640, 0] (by decide)⟩ ::
   ⟨Rect.unit ![512, 0] S128x128.size (by decide), tile x1 x2 x3 ![0, 4, 0, 0] (by decide) ![0, 0] (by decide) ![512, 0] (by decide)⟩ ::
   mlA x1 x2 x3

end tiles

/-- What one grid point stores in the output block. -/
theorem stored (c : Dev nD) (i : grid0.Coords) (arg1 : Memref sig .tc .vmem S1024x512 .bf16) (harg1 : arg1.IsWhole) (arg2 : Memref sig .tc .vmem S4x8x128x128 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x512 .bf16) (harg12 : arg12.IsWhole)
    (x0 : Vec F S1024x512 .bf16) (x1 : Vec F S4x8x128x128 .f32) (x2 : Vec F S1024x512 .bf16) (x3 : Vec F S1x512 .f32) (x4 : Vec F S1024x1024 .f32) (x5 : Vec F S1024x1024 .bf16) (x6 : Vec F S1x1024 .f32) (x7 : Vec F S1024x4096 .bf16) (x8 : Vec F S4096x1024 .bf16) (x9 : Vec F S1x1024 .f32) :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1 = L12 arg11.view (View.readAt (Elt F) arg5.view (Rect.unit (s := S1024x1024) ![0, 0] S512x1024.size (by decide)).toLoadRect (harg5.unread x4)) (View.readAt (Elt F) arg5.view (Rect.unit (s := S1024x1024) ![512, 0] S512x1024.size (by decide)).toLoadRect (harg5.unread x4)) (View.readAt (Elt F) arg1.view (Rect.unit (s := S1024x512) ![0, 0] S512x512.size (by decide)).toLoadRect (harg1.unread x0)) (View.readAt (Elt F) arg1.view (Rect.unit (s := S1024x512) ![512, 0] S512x512.size (by decide)).toLoadRect (harg1.unread x0)) (View.readAt (Elt F) arg6.view (Rect.unit (s := S1024x1024) ![0, 0] S512x1024.size (by decide)).toLoadRect (harg6.unread x5)) (View.readAt (Elt F) arg6.view (Rect.unit (s := S1024x1024) ![512, 0] S512x1024.size (by decide)).toLoadRect (harg6.unread x5))
      (arg12.view.readCov (mlA (harg2.unread x1) (harg3.unread x2) (harg4.unread x3)) (Rect.unit (s := S1024x512) ![0, 0] S512x512.size (by decide)).toLoadRect) (arg12.view.readCov (mlB (harg2.unread x1) (harg3.unread x2) (harg4.unread x3)) (Rect.unit (s := S1024x512) ![512, 0] S512x512.size (by decide)).toLoadRect) (View.readAt (Elt F) arg7.view (Rect.unit (s := S1x1024) ![0, 0] S1x1024.size (by decide)).toLoadRect (harg7.unread x6)) (View.readAt (Elt F) arg8.view (Rect.unit (s := S1024x4096) ![0, 0] S1024x1024.size (by decide)).toLoadRect (harg8.unread x7)) (View.readAt (Elt F) arg8.view (Rect.unit (s := S1024x4096) ![0, 1024] S1024x1024.size (by decide)).toLoadRect (harg8.unread x7)) (View.readAt (Elt F) arg8.view (Rect.unit (s := S1024x4096) ![0, 2048] S1024x1024.size (by decide)).toLoadRect (harg8.unread x7)) (View.readAt (Elt F) arg8.view (Rect.unit (s := S1024x4096) ![0, 3072] S1024x1024.size (by decide)).toLoadRect (harg8.unread x7)) (View.readAt (Elt F) arg9.view (Rect.unit (s := S4096x1024) ![0, 0] S1024x1024.size (by decide)).toLoadRect (harg9.unread x8)) (View.readAt (Elt F) arg9.view (Rect.unit (s := S4096x1024) ![1024, 0] S1024x1024.size (by decide)).toLoadRect (harg9.unread x8)) (View.readAt (Elt F) arg9.view (Rect.unit (s := S4096x1024) ![2048, 0] S1024x1024.size (by decide)).toLoadRect (harg9.unread x8)) (View.readAt (Elt F) arg9.view (Rect.unit (s := S4096x1024) ![3072, 0] S1024x1024.size (by decide)).toLoadRect (harg9.unread x8)) (View.readAt (Elt F) arg10.view (Rect.unit (s := S1x1024) ![0, 0] S1x1024.size (by decide)).toLoadRect (harg10.unread x9)) := rfl

end Cert.Kernel2Ideal.Ffn
-- ==== Proof.FfnChain.lean ====
module

public import proofs.«01_k».proof.Proof.FfnTerm

@[expose] public section

set_option maxRecDepth 16384
set_option maxHeartbeats 4000000

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F] [Named F]

section chain

variable (V : View sig .tc .vmem S1024x1024 .f32) (xa xb : Vec F S512x1024 .f32) (aa ab : Vec F S512x512 .bf16) (wa wb : Vec F S512x1024 .bf16)
  (ma mb : Vec F S512x512 .bf16) (g : Vec F S1x1024 .f32) (u0 u1 u2 u3 d0 d1 d2 d3 : Vec F S1024x1024 .bf16) (gf : Vec F S1x1024 .f32)

/-- Half a block's rows after the first quarter of the feed-forward part, from what they held after the output
    projection. -/
def Y0 (X : FVec F S512x1024 .f32) : FVec F S512x1024 .f32 := k0_pay81 (k0_pay38 X g) u0 X d0

/-- The same after the second quarter. -/
def Y1 (X : FVec F S512x1024 .f32) : FVec F S512x1024 .f32 := k0_pay81 (k0_pay38 X g) u1 (Y0 g u0 d0 X) d1

/-- The same after the third quarter. -/
def Y2 (X : FVec F S512x1024 .f32) : FVec F S512x1024 .f32 := k0_pay81 (k0_pay38 X g) u2 (Y1 g u0 u1 d0 d1 X) d2

/-- The same after the last quarter. -/
def Y3 (X : FVec F S512x1024 .f32) : FVec F S512x1024 .f32 := k0_pay81 (k0_pay38 X g) u3 (Y2 g u0 u1 u2 d0 d1 d2 X) d3

theorem a1 : V.readCov (L1 xa aa wa wb ma) (Rect.unit (s := S1024x1024) ![0, 0] S512x1024.size (by decide)).toLoadRect = (k0_pay37 xa aa wa ma wb) :=
  View.readCov_cons_toLoadRect _ _ _ _

theorem a3 : V.readCov (L3 V xa xb aa ab wa wb ma mb g u0 d0) (Rect.unit (s := S1024x1024) ![0, 0] S512x1024.size (by decide)).toLoadRect = Y0 g u0 d0 (k0_pay37 xa aa wa ma wb) :=
  (View.readCov_skip _ _ _ _ _ (by decide)).trans ((View.readCov_cons_toLoadRect _ _ _ _).trans (by rw [a1] <;> rfl))

theorem b3 : V.readCov (L3 V xa xb aa ab wa wb ma mb g u0 d0) (Rect.unit (s := S1024x1024) ![512, 0] S512x1024.size (by decide)).toLoadRect = (k0_pay37 xb ab wa mb wb) :=
  View.readCov_cons_toLoadRect _ _ _ _

theorem a4 : V.readCov (L4 V xa xb aa ab wa wb ma mb g u0 u1 d0 d1) (Rect.unit (s := S1024x1024) ![0, 0] S512x1024.size (by decide)).toLoadRect = Y1 g u0 u1 d0 d1 (k0_pay37 xa aa wa ma wb) :=
  (View.readCov_cons_toLoadRect _ _ _ _).trans (by rw [a3] <;> rfl)

theorem b4 : V.readCov (L4 V xa xb aa ab wa wb ma mb g u0 u1 d0 d1) (Rect.unit (s := S1024x1024) ![512, 0] S512x1024.size (by decide)).toLoadRect = (k0_pay37 xb ab wa mb wb) :=
  (View.readCov_skip _ _ _ _ _ (by decide)).trans (b3 V xa xb aa ab wa wb ma mb g u0 d0)

theorem a5 : V.readCov (L5 V xa xb aa ab wa wb ma mb g u0 u1 d0 d1) (Rect.unit (s := S1024x1024) ![0, 0] S512x1024.size (by decide)).toLoadRect = Y1 g u0 u1 d0 d1 (k0_pay37 xa aa wa ma wb) :=
  (View.readCov_skip _ _ _ _ _ (by decide)).trans (a4 V xa xb aa ab wa wb ma mb g u0 u1 d0 d1)

theorem b5 : V.readCov (L5 V xa xb aa ab wa wb ma mb g u0 u1 d0 d1) (Rect.unit (s := S1024x1024) ![512, 0] S512x1024.size (by decide)).toLoadRect = Y0 g u0 d0 (k0_pay37 xb ab wa mb wb) :=
  (View.readCov_cons_toLoadRect _ _ _ _).trans (by rw [b4] <;> rfl)

theorem a6 : V.readCov (L6 V xa xb aa ab wa wb ma mb g u0 u1 u2 d0 d1 d2) (Rect.unit (s := S1024x1024) ![0, 0] S512x1024.size (by decide)).toLoadRect = Y2 g u0 u1 u2 d0 d1 d2 (k0_pay37 xa aa wa ma wb) :=
  (View.readCov_cons_toLoadRect _ _ _ _).trans (by rw [a5] <;> rfl)

theorem b6 : V.readCov (L6 V xa xb aa ab wa wb ma mb g u0 u1 u2 d0 d1 d2) (Rect.unit (s := S1024x1024) ![512, 0] S512x1024.size (by decide)).toLoadRect = Y0 g u0 d0 (k0_pay37 xb ab wa mb wb) :=
  (View.readCov_skip _ _ _ _ _ (by decide)).trans (b5 V xa xb aa ab wa wb ma mb g u0 u1 d0 d1)

theorem a7 : V.readCov (L7 V xa xb aa ab wa wb ma mb g u0 u1 u2 d0 d1 d2) (Rect.unit (s := S1024x1024) ![0, 0] S512x1024.size (by decide)).toLoadRect = Y2 g u0 u1 u2 d0 d1 d2 (k0_pay37 xa aa wa ma wb) :=
  (View.readCov_skip _ _ _ _ _ (by decide)).trans (a6 V xa xb aa ab wa wb ma mb g u0 u1 u2 d0 d1 d2)

theorem b7 : V.readCov (L7 V xa xb aa ab wa wb ma mb g u0 u1 u2 d0 d1 d2) (Rect.unit (s := S1024x1024) ![512, 0] S512x1024.size (by decide)).toLoadRect = Y1 g u0 u1 d0 d1 (k0_pay37 xb ab wa mb wb) :=
  (View.readCov_cons_toLoadRect _ _ _ _).trans (by rw [b6] <;> rfl)

theorem a8 : V.readCov (L8 V xa xb aa ab wa wb ma mb g u0 u1 u2 u3 d0 d1 d2 d3) (Rect.unit (s := S1024x1024) ![0, 0] S512x1024.size (by decide)).toLoadRect = Y3 g u0 u1 u2 u3 d0 d1 d2 d3 (k0_pay37 xa aa wa ma wb) :=
  (View.readCov_cons_toLoadRect _ _ _ _).trans (by rw [a7] <;> rfl)

theorem b8 : V.readCov (L8 V xa xb aa ab wa wb ma mb g u0 u1 u2 u3 d0 d1 d2 d3) (Rect.unit (s := S1024x1024) ![512, 0] S512x1024.size (by decide)).toLoadRect = Y1 g u0 u1 d0 d1 (k0_pay37 xb ab wa mb wb) :=
  (View.readCov_skip _ _ _ _ _ (by decide)).trans (b7 V xa xb aa ab wa wb ma mb g u0 u1 u2 d0 d1 d2)

theorem a9 : V.readCov (L9 V xa xb aa ab wa wb ma mb g u0 u1 u2 u3 d0 d1 d2 d3) (Rect.unit (s := S1024x1024) ![0, 0] S512x1024.size (by decide)).toLoadRect = Y3 g u0 u1 u2 u3 d0 d1 d2 d3 (k0_pay37 xa aa wa ma wb) :=
  (View.readCov_skip _ _ _ _ _ (by decide)).trans (a8 V xa xb aa ab wa wb ma mb g u0 u1 u2 u3 d0 d1 d2 d3)

theorem b9 : V.readCov (L9 V xa xb aa ab wa wb ma mb g u0 u1 u2 u3 d0 d1 d2 d3) (Rect.unit (s := S1024x1024) ![512, 0] S512x1024.size (by decide)).toLoadRect = Y2 g u0 u1 u2 d0 d1 d2 (k0_pay37 xb ab wa mb wb) :=
  (View.readCov_cons_toLoadRect _ _ _ _).trans (by rw [b8] <;> rfl)

theorem a10 : V.readCov (L10 V xa xb aa ab wa wb ma mb g u0 u1 u2 u3 d0 d1 d2 d3 gf) (Rect.unit (s := S1024x1024) ![0, 0] S512x1024.size (by decide)).toLoadRect = k0_pay89 (Y3 g u0 u1 u2 u3 d0 d1 d2 d3 (k0_pay37 xa aa wa ma wb)) gf :=
  (View.readCov_cons_toLoadRect _ _ _ _).trans (by rw [a9] <;> rfl)

theorem b10 : V.readCov (L10 V xa xb aa ab wa wb ma mb g u0 u1 u2 u3 d0 d1 d2 d3 gf) (Rect.unit (s := S1024x1024) ![512, 0] S512x1024.size (by decide)).toLoadRect = Y2 g u0 u1 u2 d0 d1 d2 (k0_pay37 xb ab wa mb wb) :=
  (View.readCov_skip _ _ _ _ _ (by decide)).trans (b9 V xa xb aa ab wa wb ma mb g u0 u1 u2 u3 d0 d1 d2 d3)

theorem a11 : V.readCov (L11 V xa xb aa ab wa wb ma mb g u0 u1 u2 u3 d0 d1 d2 d3 gf) (Rect.unit (s := S1024x1024) ![0, 0] S512x1024.size (by decide)).toLoadRect = k0_pay89 (Y3 g u0 u1 u2 u3 d0 d1 d2 d3 (k0_pay37 xa aa wa ma wb)) gf :=
  (View.readCov_skip _ _ _ _ _ (by decide)).trans (a10 V xa xb aa ab wa wb ma mb g u0 u1 u2 u3 d0 d1 d2 d3 gf)

theorem b11 : V.readCov (L11 V xa xb aa ab wa wb ma mb g u0 u1 u2 u3 d0 d1 d2 d3 gf) (Rect.unit (s := S1024x1024) ![512, 0] S512x1024.size (by decide)).toLoadRect = Y3 g u0 u1 u2 u3 d0 d1 d2 d3 (k0_pay37 xb ab wa mb wb) :=
  (View.readCov_cons_toLoadRect _ _ _ _).trans (by rw [b10] <;> rfl)

theorem a12 : V.readCov (L12 V xa xb aa ab wa wb ma mb g u0 u1 u2 u3 d0 d1 d2 d3 gf) (Rect.unit (s := S1024x1024) ![0, 0] S512x1024.size (by decide)).toLoadRect = k0_pay89 (Y3 g u0 u1 u2 u3 d0 d1 d2 d3 (k0_pay37 xa aa wa ma wb)) gf :=
  (View.readCov_skip _ _ _ _ _ (by decide)).trans (a11 V xa xb aa ab wa wb ma mb g u0 u1 u2 u3 d0 d1 d2 d3 gf)

theorem b12 : V.readCov (L12 V xa xb aa ab wa wb ma mb g u0 u1 u2 u3 d0 d1 d2 d3 gf) (Rect.unit (s := S1024x1024) ![512, 0] S512x1024.size (by decide)).toLoadRect = k0_pay89 (Y3 g u0 u1 u2 u3 d0 d1 d2 d3 (k0_pay37 xb ab wa mb wb)) gf :=
  (View.readCov_cons_toLoadRect _ _ _ _).trans (by rw [b11] <;> rfl)

end chain

end Cert.Kernel2Ideal.Ffn
-- ==== Proof.FfnSem.lean ====
module

public import proofs.«01_k».proof.Proof.FfnChain

@[expose] public section

set_option maxRecDepth 16384

noncomputable section

namespace Cert.Kernel2Ideal.Ffn

open Cert.Kernel2Ideal Cert.Kernel2Ideal.Gen
open Idealize.ShloMosaic Idealize.ShloMosaic.Tactic

/-! One row of the output as a function of that row of the inputs and of the weights. -/

/-- Entry `d` of the head that entry `k` is of. -/
def hd (k : Fin 512) (d : Fin 128) : Fin 512 := ⟨128 * (k.val / 128) + d.val, by omega⟩

/-- The first 512 entries of 1024. -/
def lo (k : Fin 512) : Fin 1024 := ⟨k.val, by omega⟩

/-- The last 512 entries of 1024. -/
def hi (k : Fin 512) : Fin 1024 := ⟨512 + k.val, by omega⟩

/-- Entry `k` of quarter `c` of the hidden units. -/
def qt (c : Fin 4) (k : Fin 1024) : Fin 4096 := ⟨1024 * c.val + k.val, by omega⟩

/-- The norms' epsilon. -/
def eps : EReal := Ideal.ofBits FTy.f32 0x358637BD#32

/-- The mLSTM's states, each head normalised, times the gate's sigmoid. -/
def mlv (H g O : Fin 512 → EReal) (k : Fin 512) : EReal :=
  H k * Ideal.rsqrt (Ideal.div (∑ d : Fin 128, H (hd k d) * H (hd k d)) (Ideal.ofBits FTy.f32 0x43000000#32) + eps) * g k
    * Ideal.div 1 (1 + Ideal.exp (0 - O k))

/-- The residual plus the projection of the attention's output and the mLSTM's. -/
def xv (X : Fin 1024 → EReal) (A M : Fin 512 → EReal) (W : Fin 1024 → Fin 1024 → EReal) (n : Fin 1024) : EReal :=
  X n + (∑ k : Fin 512, A k * W (lo k) n) + ∑ k : Fin 512, M k * W (hi k) n

/-- A row normalised. -/
def nrm (f g : Fin 1024 → EReal) (n : Fin 1024) : EReal :=
  f n * Ideal.rsqrt (Ideal.div (∑ k : Fin 1024, f k * f k) (Ideal.ofBits FTy.f32 0x44800000#32) + eps) * g n

/-- A hidden unit, rectified and squared. -/
def av (h : Fin 1024 → EReal) (U : Fin 1024 → Fin 4096 → EReal) (j : Fin 4096) : EReal :=
  max (∑ k : Fin 1024, h k * U k j) 0 * max (∑ k : Fin 1024, h k * U k j) 0

/-- What one quarter of the hidden units adds. -/
def qv (h : Fin 1024 → EReal) (U : Fin 1024 → Fin 4096 → EReal) (D : Fin 4096 → Fin 1024 → EReal) (c : Fin 4) (n : Fin 1024) : EReal :=
  ∑ k : Fin 1024, av h U (qt c k) * D (qt c k) n

/-- A row with the feed-forward part added. -/
def yv (x h : Fin 1024 → EReal) (U : Fin 1024 → Fin 4096 → EReal) (D : Fin 4096 → Fin 1024 → EReal) (n : Fin 1024) : EReal :=
  x n + qv h U D 0 n + qv h U D 1 n + qv h U D 2 n + qv h U D 3 n

/-- The row of the output. -/
def ov (A H O : Fin 512 → EReal) (X : Fin 1024 → EReal) (ng : Fin 512 → EReal) (W : Fin 1024 → Fin 1024 → EReal) (g2 : Fin 1024 → EReal)
    (U : Fin 1024 → Fin 4096 → EReal) (D : Fin 4096 → Fin 1024 → EReal) (gf : Fin 1024 → EReal) : Fin 1024 → EReal :=
  nrm (yv (xv X A (mlv H ng O) W) (nrm (xv X A (mlv H ng O) W) g2) U D) gf

theorem pay37_apply (x : Vec Ideal S512x1024 .f32) (a m : Vec Ideal S512x512 .bf16) (wa wb : Vec Ideal S512x1024 .bf16) (r : Fin 512) (n : Fin 1024) :
    k0_pay37 x a wa m wb (ix2 r n) = x (ix2 r n) + (∑ k : Fin 512, a (ix2 r k) * wa (ix2 k n)) + ∑ k : Fin 512, m (ix2 r k) * wb (ix2 k n) := by
  pointwise [k0_pay37]

theorem pay38_apply (x : Vec Ideal S512x1024 .f32) (g : Vec Ideal S1x1024 .f32) (r : Fin 512) (n : Fin 1024) :
    k0_pay38 x g (ix2 r n) = nrm (fun k => x (ix2 r k)) (fun k => g (ix2 0 k)) n := by
  pointwise [k0_pay38]
  rfl

theorem pay89_apply (x : Vec Ideal S512x1024 .f32) (g : Vec Ideal S1x1024 .f32) (r : Fin 512) (n : Fin 1024) :
    k0_pay89 (F := Ideal) x g (ix2 r n) = nrm (fun k => x (ix2 r k)) (fun k => g (ix2 0 k)) n := by
  pointwise [k0_pay89]
  rfl

theorem pay32_apply (h : Vec Ideal S1x1x128x128 .f32) (g : Vec Ideal S1x128 .f32) (o : Vec Ideal S128x128 .bf16) (r n : Fin 128) :
    k0_pay32 h g o (ix2 r n) = h (ix4 0 0 n r)
      * Ideal.rsqrt (Ideal.div (∑ d : Fin 128, h (ix4 0 0 d r) * h (ix4 0 0 d r)) (Ideal.ofBits FTy.f32 0x43000000#32) + eps) * g (ix2 0 n)
      * Ideal.div 1 (1 + Ideal.exp (0 - o (ix2 r n))) := by
  pointwise [k0_pay32]
  rfl

/-- The hidden units of half a block. -/
def hid (h : Vec Ideal S512x1024 .bf16) (u : Vec Ideal S1024x1024 .bf16) : FVec Ideal S512x1024 .f32 :=
  matmul (φ₁ := .bf16) (φ₂ := .bf16) dot_S512x1024_S1024x1024_S512x1024_1_0_0_1_n_n none h u (constant S512x1024 .f32 0x00000000#32)

theorem hid_apply (h : Vec Ideal S512x1024 .bf16) (u : Vec Ideal S1024x1024 .bf16) (r : Fin 512) (n : Fin 1024) :
    hid h u (ix2 r n) = ∑ k : Fin 1024, h (ix2 r k) * u (ix2 k n) := by
  pointwise [hid]

/-- The hidden units of half a block, rectified and squared. -/
def act (h : Vec Ideal S512x1024 .bf16) (u : Vec Ideal S1024x1024 .bf16) : FVec Ideal S512x1024 .bf16 :=
  truncf .bf16 (mulf (maximumf (hid h u) (broadcast S512x1024 (Scalar.ofBits .f32 0x00000000#32 : Ideal .f32)))
    (maximumf (hid h u) (broadcast S512x1024 (Scalar.ofBits .f32 0x00000000#32 : Ideal .f32)))) bitsLt_bf16_f32

theorem zero_eq : Ideal.ofBits FTy.f32 0x00000000#32 = (0 : EReal) := by simp [Ideal.ofBits, Ideal.ieee]

theorem act_apply (h : Vec Ideal S512x1024 .bf16) (u : Vec Ideal S1024x1024 .bf16) (r : Fin 512) (n : Fin 1024) :
    act h u (ix2 r n) = max (∑ k : Fin 1024, h (ix2 r k) * u (ix2 k n)) 0 * max (∑ k : Fin 1024, h (ix2 r k) * u (ix2 k n)) 0 := by
  rw [← hid_apply h u r n, ← zero_eq]
  rfl

/-- Half a block's rows with a quarter of the feed-forward part added. -/
def accum (x : Vec Ideal S512x1024 .f32) (a : Vec Ideal S512x1024 .bf16) (d : Vec Ideal S1024x1024 .bf16) : FVec Ideal S512x1024 .f32 :=
  addf (shapeCast S512x1024 x shapeCasts_S512x1024_S512x1024)
    (matmul (φ₁ := .bf16) (φ₂ := .bf16) dot_S512x1024_S1024x1024_S512x1024_1_0_0_1_n_n none a d (constant S512x1024 .f32 0x00000000#32))

theorem accum_apply (x : Vec Ideal S512x1024 .f32) (a : Vec Ideal S512x1024 .bf16) (d : Vec Ideal S1024x1024 .bf16) (r : Fin 512) (n : Fin 1024) :
    accum x a d (ix2 r n) = x (ix2 r n) + ∑ k : Fin 1024, a (ix2 r k) * d (ix2 k n) := by
  pointwise [accum]

theorem pay81_eq (h : Vec Ideal S512x1024 .bf16) (u : Vec Ideal S1024x1024 .bf16) (x : Vec Ideal S512x1024 .f32) (d : Vec Ideal S1024x1024 .bf16) :
    k0_pay81 h u x d = accum x (act h u) d := rfl

theorem pay81_apply (h : Vec Ideal S512x1024 .bf16) (u : Vec Ideal S1024x1024 .bf16) (x : Vec Ideal S512x1024 .f32) (d : Vec Ideal S1024x1024 .bf16)
    (U : Fin 1024 → Fin 4096 → EReal) (D : Fin 4096 → Fin 1024 → EReal) (c : Fin 4) (hu : ∀ k j, u (ix2 k j) = U k (qt c j))
    (hd : ∀ j n, d (ix2 j n) = D (qt c j) n) (r : Fin 512) (n : Fin 1024) :
    k0_pay81 h u x d (ix2 r n) = x (ix2 r n) + qv (fun k => h (ix2 r k)) U D c n := by
  rw [pay81_eq, accum_apply]
  simp only [act_apply, hu, hd, qv, av]

/-- A row of half a block's output. -/
theorem half_apply (x : Vec Ideal S512x1024 .f32) (a m : Vec Ideal S512x512 .bf16) (wa wb : Vec Ideal S512x1024 .bf16) (g : Vec Ideal S1x1024 .f32)
    (u0 u1 u2 u3 d0 d1 d2 d3 : Vec Ideal S1024x1024 .bf16) (gf : Vec Ideal S1x1024 .f32)
    (X : Fin 1024 → EReal) (A M : Fin 512 → EReal) (W : Fin 1024 → Fin 1024 → EReal) (U : Fin 1024 → Fin 4096 → EReal) (D : Fin 4096 → Fin 1024 → EReal)
    (r : Fin 512) (n : Fin 1024) (hx : ∀ n, x (ix2 r n) = X n) (ha : ∀ k, a (ix2 r k) = A k) (hm : ∀ k, m (ix2 r k) = M k)
    (hwa : ∀ k n, wa (ix2 k n) = W (lo k) n) (hwb : ∀ k n, wb (ix2 k n) = W (hi k) n)
    (hu0 : ∀ k j, u0 (ix2 k j) = U k (qt 0 j)) (hu1 : ∀ k j, u1 (ix2 k j) = U k (qt 1 j)) (hu2 : ∀ k j, u2 (ix2 k j) = U k (qt 2 j)) (hu3 : ∀ k j, u3 (ix2 k j) = U k (qt 3 j))
    (hd0 : ∀ j n, d0 (ix2 j n) = D (qt 0 j) n) (hd1 : ∀ j n, d1 (ix2 j n) = D (qt 1 j) n) (hd2 : ∀ j n, d2 (ix2 j n) = D (qt 2 j) n) (hd3 : ∀ j n, d3 (ix2 j n) = D (qt 3 j) n) :
    k0_pay89 (F := Ideal) (Y3 g u0 u1 u2 u3 d0 d1 d2 d3 (k0_pay37 x a wa m wb)) gf (ix2 r n)
      = nrm (yv (xv X A M W) (nrm (xv X A M W) (fun k => g (ix2 0 k))) U D) (fun k => gf (ix2 0 k)) n := by
  have ex : ∀ n, k0_pay37 x a wa m wb (ix2 r n) = xv X A M W n := by
    intro n
    rw [pay37_apply]
    simp only [hx, ha, hm, hwa, hwb, xv]
  have eh : ∀ n, k0_pay38 (k0_pay37 x a wa m wb) g (ix2 r n) = nrm (xv X A M W) (fun k => g (ix2 0 k)) n := by
    intro n
    rw [pay38_apply]
    simp only [ex]
  have ey : ∀ n, Y3 g u0 u1 u2 u3 d0 d1 d2 d3 (k0_pay37 x a wa m wb) (ix2 r n) = yv (xv X A M W) (nrm (xv X A M W) (fun k => g (ix2 0 k))) U D n := by
    intro n
    unfold Y3
    rw [pay81_apply _ _ _ _ U D 3 hu3 hd3]
    unfold Y2
    rw [pay81_apply _ _ _ _ U D 2 hu2 hd2]
    unfold Y1
    rw [pay81_apply _ _ _ _ U D 1 hu1 hd1]
    unfold Y0
    rw [pay81_apply _ _ _ _ U D 0 hu0 hd0]
    simp only [ex, eh]
    rfl
  rw [pay89_apply]
  simp only [ey]

end Cert.Kernel2Ideal.Ffn
-- ==== Proof.FfnTiles.lean ====
module

public import proofs.«01_k».proof.Proof.FfnSem

@[expose] public section

set_option maxRecDepth 16384
set_option maxHeartbeats 2000000

noncomputable section

namespace Cert.Kernel2Ideal.Ffn

open Cert.Kernel2Ideal Cert.Kernel2Ideal.Gen
open Cert.KernelIdeal.Attn (emb2 emb4 mem2)
open Idealize.ShloMosaic Idealize.ShloMosaic.TcCoe Idealize.ShloMosaic.Tactic

/-- A load of a rank-2 box, at an index. -/
theorem load2 {κ : Kind} {sp : Space} {e : EltTy} {n0 n1 m0 m1 : ℕ} (o0 o1 : ℕ) (v : View sig κ sp ⟨2, ![n0, n1]⟩ e) (X : v.ty.Contents (Elt Ideal)) (off : Fin 2 → ℕ)
    (inb : ∀ a, off a + (![m0, m1] : Fin 2 → ℕ) a ≤ (⟨2, ![n0, n1]⟩ : Shape).size a) (ho : off = ![o0, o1])
    (a : Fin m0) (b : Fin m1) (ha : o0 + a.val < n0) (hb : o1 + b.val < n1) :
    View.readAt (Elt Ideal) v (Rect.unit (s := ⟨2, ![n0, n1]⟩) off ![m0, m1] inb).toLoadRect X (ix2 a b)
      = v.read (Elt Ideal) X (ix2 (⟨o0 + a.val, ha⟩ : Fin n0) (⟨o1 + b.val, hb⟩ : Fin n1)) := by
  subst ho
  exact congrArg (v.read (Elt Ideal) X) (emb2 inb a b ha hb)

/-- A load of a rank-4 box, at an index. -/
theorem load4 {κ : Kind} {sp : Space} {e : EltTy} {n0 n1 n2 n3 m0 m1 m2 m3 : ℕ} (o0 o1 o2 o3 : ℕ) (v : View sig κ sp ⟨4, ![n0, n1, n2, n3]⟩ e) (X : v.ty.Contents (Elt Ideal)) (off : Fin 4 → ℕ)
    (inb : ∀ a, off a + (![m0, m1, m2, m3] : Fin 4 → ℕ) a ≤ (⟨4, ![n0, n1, n2, n3]⟩ : Shape).size a) (ho : off = ![o0, o1, o2, o3])
    (a : Fin m0) (b : Fin m1) (c : Fin m2) (d : Fin m3) (ha : o0 + a.val < n0) (hb : o1 + b.val < n1) (hc : o2 + c.val < n2) (hd : o3 + d.val < n3) :
    View.readAt (Elt Ideal) v (Rect.unit (s := ⟨4, ![n0, n1, n2, n3]⟩) off ![m0, m1, m2, m3] inb).toLoadRect X (ix4 a b c d)
      = v.read (Elt Ideal) X (ix4 (⟨o0 + a.val, ha⟩ : Fin n0) (⟨o1 + b.val, hb⟩ : Fin n1) (⟨o2 + c.val, hc⟩ : Fin n2) (⟨o3 + d.val, hd⟩ : Fin n3)) := by
  subst ho
  exact congrArg (v.read (Elt Ideal) X) (emb4 inb a b c d ha hb hc hd)

/-- A row of the states of a block, a head after another. -/
def hrow (x : Vec Ideal S4x8x128x128 .f32) (r : Fin 1024) (k : Fin 512) : EReal :=
  x (ix4 (⟨k.val / 128, by omega⟩ : Fin 4) (⟨r.val / 128, by omega⟩ : Fin 8) (⟨k.val % 128, by omega⟩ : Fin 128) (⟨r.val % 128, by omega⟩ : Fin 128))

theorem hrow_of (x : Vec Ideal S4x8x128x128 .f32) (r : Fin 1024) (k : Fin 512) (i : Fin 4) (j : Fin 8) (d e : Fin 128) (hi : i.val = k.val / 128)
    (hj : j.val = r.val / 128) (hd : d.val = k.val % 128) (he : e.val = r.val % 128) : x (ix4 i j d e) = hrow x r k := by
  unfold hrow
  rw [show i = (⟨k.val / 128, by omega⟩ : Fin 4) from Fin.ext hi, show j = (⟨r.val / 128, by omega⟩ : Fin 8) from Fin.ext hj,
    show d = (⟨k.val % 128, by omega⟩ : Fin 128) from Fin.ext hd, show e = (⟨r.val % 128, by omega⟩ : Fin 128) from Fin.ext he]

section tiles

variable {arg2 : Memref sig .tc .vmem S4x8x128x128 .f32} {arg3 : Memref sig .tc .vmem S1024x512 .bf16} {arg4 : Memref sig .tc .vmem S1x512 .f32}
  (x1 : arg2.view.ty.Contents (Elt Ideal)) (x2 : arg3.view.ty.Contents (Elt Ideal)) (x3 : arg4.view.ty.Contents (Elt Ideal))

/-- The gated, normalised states of a block. -/
def MlA (y : S1024x512.Idx) : EReal :=
  mlv (hrow (arg2.view.read (Elt Ideal) x1) (y 0)) (fun k => arg4.view.read (Elt Ideal) x3 (ix2 0 k)) (fun k => arg3.view.read (Elt Ideal) x2 (ix2 (y 0) k)) (y 1)

theorem w (hh cc o0 o1 : ℕ) (h4 : hh < 4) (h8 : cc < 8) (e0 : o0 = 128 * cc) (e1 : o1 = 128 * hh)
    (i1 : ∀ a, (![hh, cc, 0, 0] : Fin 4 → ℕ) a + S1x1x128x128.size a ≤ S4x8x128x128.size a) (i3 : ∀ a, (![0, o1] : Fin 2 → ℕ) a + S1x128.size a ≤ S1x512.size a)
    (i2 : ∀ a, (![o0, o1] : Fin 2 → ℕ) a + S128x128.size a ≤ S1024x512.size a) (inb : ∀ a, (![o0, o1] : Fin 2 → ℕ) a + S128x128.size a ≤ S1024x512.size a)
    (x : S128x128.Idx) :
    tile x1 x2 x3 ![hh, cc, 0, 0] i1 ![0, o1] i3 ![o0, o1] i2 x = MlA x1 x2 x3 ((Rect.unit (s := S1024x512) ![o0, o1] S128x128.size inb).emb x) := by
  obtain ⟨a, b, rfl⟩ : ∃ (a : Fin 128) (b : Fin 128), x = ix2 a b := ⟨x 0, x 1, eq_ix2 x⟩
  subst e0 e1
  have ea := a.isLt; have eb := b.isLt
  rw [emb2 (n0 := 1024) (n1 := 512) _ _ _ (by omega) (by omega)]
  simp only [MlA, ix2_0, ix2_1]
  unfold tile
  rw [pay32_apply]
  have e4 : ∀ d e : Fin 128, View.readAt (Elt Ideal) arg2.view (Rect.unit (s := S4x8x128x128) ![hh, cc, 0, 0] S1x1x128x128.size i1).toLoadRect x1 (ix4 0 0 d e)
      = hrow (arg2.view.read (Elt Ideal) x1) (⟨128 * cc + e.val, by omega⟩ : Fin 1024) (⟨128 * hh + d.val, by omega⟩ : Fin 512) := by
    intro d e
    refine (load4 (n0 := 4) (n1 := 8) (n2 := 128) (n3 := 128) (m0 := 1) (m1 := 1) (m2 := 128) (m3 := 128) hh cc 0 0 arg2.view x1 _ i1 rfl 0 0 d e
      (by simp only [Fin.val_zero]; omega) (by simp only [Fin.val_zero]; omega) (by omega) (by omega)).trans ?_
    exact hrow_of _ _ _ _ _ _ _ (by simp only [Fin.val_zero]; omega) (by simp only [Fin.val_zero]; omega) (by simp only []; omega) (by simp only []; omega)
  have e3 : View.readAt (Elt Ideal) arg4.view (Rect.unit (s := S1x512) ![0, 128 * hh] S1x128.size i3).toLoadRect x3 (ix2 0 b)
      = arg4.view.read (Elt Ideal) x3 (ix2 0 (⟨128 * hh + b.val, by omega⟩ : Fin 512)) :=
    load2 (n0 := 1) (n1 := 512) (m0 := 1) (m1 := 128) 0 (128 * hh) arg4.view x3 _ i3 rfl 0 b (by norm_num) (by omega)
  have e2 : View.readAt (Elt Ideal) arg3.view (Rect.unit (s := S1024x512) ![128 * cc, 128 * hh] S128x128.size i2).toLoadRect x2 (ix2 a b)
      = arg3.view.read (Elt Ideal) x2 (ix2 (⟨128 * cc + a.val, by omega⟩ : Fin 1024) (⟨128 * hh + b.val, by omega⟩ : Fin 512)) :=
    load2 (n0 := 1024) (n1 := 512) (m0 := 128) (m1 := 128) (128 * cc) (128 * hh) arg3.view x2 _ i2 rfl a b (by omega) (by omega)
  rw [e2, e3]
  simp only [e4]
  have eh : ∀ d : Fin 128, hd (⟨128 * hh + b.val, by omega⟩ : Fin 512) d = (⟨128 * hh + d.val, by omega⟩ : Fin 512) := by
    intro d; apply Fin.ext; simp only [hd]; omega
  simp only [mlv, eh]

theorem mlA_pieces : View.PiecesOf (Val := Elt Ideal) (e := .bf16) (MlA x1 x2 x3) (mlA x1 x2 x3) := by
  unfold mlA
  exact ⟨w x1 x2 x3 3 3 384 384 (by norm_num) (by norm_num) rfl rfl (by decide) (by decide) (by decide) (by decide),
    w x1 x2 x3 3 2 256 384 (by norm_num) (by norm_num) rfl rfl (by decide) (by decide) (by decide) (by decide),
    w x1 x2 x3 3 1 128 384 (by norm_num) (by norm_num) rfl rfl (by decide) (by decide) (by decide) (by decide),
    w x1 x2 x3 3 0 0 384 (by norm_num) (by norm_num) rfl rfl (by decide) (by decide) (by decide) (by decide),
    w x1 x2 x3 2 3 384 256 (by norm_num) (by norm_num) rfl rfl (by decide) (by decide) (by decide) (by decide),
    w x1 x2 x3 2 2 256 256 (by norm_num) (by norm_num) rfl rfl (by decide) (by decide) (by decide) (by decide),
    w x1 x2 x3 2 1 128 256 (by norm_num) (by norm_num) rfl rfl (by decide) (by decide) (by decide) (by decide),
    w x1 x2 x3 2 0 0 256 (by norm_num) (by norm_num) rfl rfl (by decide) (by decide) (by decide) (by decide),
    w x1 x2 x3 1 3 384 128 (by norm_num) (by norm_num) rfl rfl (by decide) (by decide) (by decide) (by decide),
    w x1 x2 x3 1 2 256 128 (by norm_num) (by norm_num) rfl rfl (by decide) (by decide) (by decide) (by decide),
    w x1 x2 x3 1 1 128 128 (by norm_num) (by norm_num) rfl rfl (by decide) (by decide) (by decide) (by decide),
    w x1 x2 x3 1 0 0 128 (by norm_num) (by norm_num) rfl rfl (by decide) (by decide) (by decide) (by decide),
    w x1 x2 x3 0 3 384 0 (by norm_num) (by norm_num) rfl rfl (by decide) (by decide) (by decide) (by decide),
    w x1 x2 x3 0 2 256 0 (by norm_num) (by norm_num) rfl rfl (by decide) (by decide) (by decide) (by decide),
    w x1 x2 x3 0 1 128 0 (by norm_num) (by norm_num) rfl rfl (by decide) (by decide) (by decide) (by decide),
    w x1 x2 x3 0 0 0 0 (by norm_num) (by norm_num) rfl rfl (by decide) (by decide) (by decide) (by decide), trivial⟩

theorem mlB_pieces : View.PiecesOf (Val := Elt Ideal) (e := .bf16) (MlA x1 x2 x3) (mlB x1 x2 x3) := by
  unfold mlB
  exact ⟨w x1 x2 x3 3 7 896 384 (by norm_num) (by norm_num) rfl rfl (by decide) (by decide) (by decide) (by decide),
    w x1 x2 x3 3 6 768 384 (by norm_num) (by norm_num) rfl rfl (by decide) (by decide) (by decide) (by decide),
    w x1 x2 x3 3 5 640 384 (by norm_num) (by norm_num) rfl rfl (by decide) (by decide) (by decide) (by decide),
    w x1 x2 x3 3 4 512 384 (by norm_num) (by norm_num) rfl rfl (by decide) (by decide) (by decide) (by decide),
    w x1 x2 x3 2 7 896 256 (by norm_num) (by norm_num) rfl rfl (by decide) (by decide) (by decide) (by decide),
    w x1 x2 x3 2 6 768 256 (by norm_num) (by norm_num) rfl rfl (by decide) (by decide) (by decide) (by decide),
    w x1 x2 x3 2 5 640 256 (by norm_num) (by norm_num) rfl rfl (by decide) (by decide) (by decide) (by decide),
    w x1 x2 x3 2 4 512 256 (by norm_num) (by norm_num) rfl rfl (by decide) (by decide) (by decide) (by decide),
    w x1 x2 x3 1 7 896 128 (by norm_num) (by norm_num) rfl rfl (by decide) (by decide) (by decide) (by decide),
    w x1 x2 x3 1 6 768 128 (by norm_num) (by norm_num) rfl rfl (by decide) (by decide) (by decide) (by decide),
    w x1 x2 x3 1 5 640 128 (by norm_num) (by norm_num) rfl rfl (by decide) (by decide) (by decide) (by decide),
    w x1 x2 x3 1 4 512 128 (by norm_num) (by norm_num) rfl rfl (by decide) (by decide) (by decide) (by decide),
    w x1 x2 x3 0 7 896 0 (by norm_num) (by norm_num) rfl rfl (by decide) (by decide) (by decide) (by decide),
    w x1 x2 x3 0 6 768 0 (by norm_num) (by norm_num) rfl rfl (by decide) (by decide) (by decide) (by decide),
    w x1 x2 x3 0 5 640 0 (by norm_num) (by norm_num) rfl rfl (by decide) (by decide) (by decide) (by decide),
    w x1 x2 x3 0 4 512 0 (by norm_num) (by norm_num) rfl rfl (by decide) (by decide) (by decide) (by decide), mlA_pieces x1 x2 x3⟩

theorem mlA_covers (a : Fin 1024) (b : Fin 512) (h : 0 ≤ a.val ∧ a.val < 512) : ∃ p ∈ mlA x1 x2 x3, (ix2 a b : S1024x512.Idx) ∈ p.1.set := by
  have hb := b.isLt
  match hc : a.val / 128, hh : b.val / 128 with
  | 0, 0 => exact ⟨_, .tail _ (.tail _ (.tail _ (.tail _ (.tail _ (.tail _ (.tail _ (.tail _ (.tail _ (.tail _ (.tail _ (.tail _ (.tail _ (.tail _ (.tail _ (.head _))))))))))))))), mem2 (n0 := 1024) (n1 := 512) (m0 := 128) (m1 := 128) (o0 := 0) (o1 := 0) (by decide) a b (by omega) (by omega)⟩
  | 1, 0 => exact ⟨_, .tail _ (.tail _ (.tail _ (.tail _ (.tail _ (.tail _ (.tail _ (.tail _ (.tail _ (.tail _ (.tail _ (.tail _ (.tail _ (.tail _ (.head _)))))))))))))), mem2 (n0 := 1024) (n1 := 512) (m0 := 128) (m1 := 128) (o0 := 128) (o1 := 0) (by decide) a b (by omega) (by omega)⟩
  | 2, 0 => exact ⟨_, .tail _ (.tail _ (.tail _ (.tail _ (.tail _ (.tail _ (.tail _ (.tail _ (.tail _ (.tail _ (.tail _ (.tail _ (.tail _ (.head _))))))))))))), mem2 (n0 := 1024) (n1 := 512) (m0 := 128) (m1 := 128) (o0 := 256) (o1 := 0) (by decide) a b (by omega) (by omega)⟩
  | 3, 0 => exact ⟨_, .tail _ (.tail _ (.tail _ (.tail _ (.tail _ (.tail _ (.tail _ (.tail _ (.tail _ (.tail _ (.tail _ (.tail _ (.head _)))))))))))), mem2 (n0 := 1024) (n1 := 512) (m0 := 128) (m1 := 128) (o0 := 384) (o1 := 0) (by decide) a b (by omega) (by omega)⟩
  | 0, 1 => exact ⟨_, .tail _ (.tail _ (.tail _ (.tail _ (.tail _ (.tail _ (.tail _ (.tail _ (.tail _ (.tail _ (.tail _ (.head _))))))))))), mem2 (n0 := 1024) (n1 := 512) (m0 := 128) (m1 := 128) (o0 := 0) (o1 := 128) (by decide) a b (by omega) (by omega)⟩
  | 1, 1 => exact ⟨_, .tail _ (.tail _ (.tail _ (.tail _ (.tail _ (.tail _ (.tail _ (.tail _ (.tail _ (.tail _ (.head _)))))))))), mem2 (n0 := 1024) (n1 := 512) (m0 := 128) (m1 := 128) (o0 := 128) (o1 := 128) (by decide) a b (by omega) (by omega)⟩
  | 2, 1 => exact ⟨_, .tail _ (.tail _ (.tail _ (.tail _ (.tail _ (.tail _ (.tail _ (.tail _ (.tail _ (.head _))))))))), mem2 (n0 := 1024) (n1 := 512) (m0 := 128) (m1 := 128) (o0 := 256) (o1 := 128) (by decide) a b (by omega) (by omega)⟩
  | 3, 1 => exact ⟨_, .tail _ (.tail _ (.tail _ (.tail _ (.tail _ (.tail _ (.tail _ (.tail _ (.head _)))))))), mem2 (n0 := 1024) (n1 := 512) (m0 := 128) (m1 := 128) (o0 := 384) (o1 := 128) (by decide) a b (by omega) (by omega)⟩
  | 0, 2 => exact ⟨_, .tail _ (.tail _ (.tail _ (.tail _ (.tail _ (.tail _ (.tail _ (.head _))))))), mem2 (n0 := 1024) (n1 := 512) (m0 := 128) (m1 := 128) (o0 := 0) (o1 := 256) (by decide) a b (by omega) (by omega)⟩
  | 1, 2 => exact ⟨_, .tail _ (.tail _ (.tail _ (.tail _ (.tail _ (.tail _ (.head _)))))), mem2 (n0 := 1024) (n1 := 512) (m0 := 128) (m1 := 128) (o0 := 128) (o1 := 256) (by decide) a b (by omega) (by omega)⟩
  | 2, 2 => exact ⟨_, .tail _ (.tail _ (.tail _ (.tail _ (.tail _ (.head _))))), mem2 (n0 := 1024) (n1 := 512) (m0 := 128) (m1 := 128) (o0 := 256) (o1 := 256) (by decide) a b (by omega) (by omega)⟩
  | 3, 2 => exact ⟨_, .tail _ (.tail _ (.tail _ (.tail _ (.head _)))), mem2 (n0 := 1024) (n1 := 512) (m0 := 128) (m1 := 128) (o0 := 384) (o1 := 256) (by decide) a b (by omega) (by omega)⟩
  | 0, 3 => exact ⟨_, .tail _ (.tail _ (.tail _ (.head _))), mem2 (n0 := 1024) (n1 := 512) (m0 := 128) (m1 := 128) (o0 := 0) (o1 := 384) (by decide) a b (by omega) (by omega)⟩
  | 1, 3 => exact ⟨_, .tail _ (.tail _ (.head _)), mem2 (n0 := 1024) (n1 := 512) (m0 := 128) (m1 := 128) (o0 := 128) (o1 := 384) (by decide) a b (by omega) (by omega)⟩
  | 2, 3 => exact ⟨_, .tail _ (.head _), mem2 (n0 := 1024) (n1 := 512) (m0 := 128) (m1 := 128) (o0 := 256) (o1 := 384) (by decide) a b (by omega) (by omega)⟩
  | 3, 3 => exact ⟨_, .head _, mem2 (n0 := 1024) (n1 := 512) (m0 := 128) (m1 := 128) (o0 := 384) (o1 := 384) (by decide) a b (by omega) (by omega)⟩
  | n + 4, _ => omega
  | 0, n + 4 => omega
  | 1, n + 4 => omega
  | 2, n + 4 => omega
  | 3, n + 4 => omega

theorem mlB_covers (a : Fin 1024) (b : Fin 512) (h : 512 ≤ a.val ∧ a.val < 1024) : ∃ p ∈ mlB x1 x2 x3, (ix2 a b : S1024x512.Idx) ∈ p.1.set := by
  have hb := b.isLt
  match hc : a.val / 128, hh : b.val / 128 with
  | 4, 0 => exact ⟨_, .tail _ (.tail _ (.tail _ (.tail _ (.tail _ (.tail _ (.tail _ (.tail _ (.tail _ (.tail _ (.tail _ (.tail _ (.tail _ (.tail _ (.tail _ (.head _))))))))))))))), mem2 (n0 := 1024) (n1 := 512) (m0 := 128) (m1 := 128) (o0 := 512) (o1 := 0) (by decide) a b (by omega) (by omega)⟩
  | 5, 0 => exact ⟨_, .tail _ (.tail _ (.tail _ (.tail _ (.tail _ (.tail _ (.tail _ (.tail _ (.tail _ (.tail _ (.tail _ (.tail _ (.tail _ (.tail _ (.head _)))))))))))))), mem2 (n0 := 1024) (n1 := 512) (m0 := 128) (m1 := 128) (o0 := 640) (o1 := 0) (by decide) a b (by omega) (by omega)⟩
  | 6, 0 => exact ⟨_, .tail _ (.tail _ (.tail _ (.tail _ (.tail _ (.tail _ (.tail _ (.tail _ (.tail _ (.tail _ (.tail _ (.tail _ (.tail _ (.head _))))))))))))), mem2 (n0 := 1024) (n1 := 512) (m0 := 128) (m1 := 128) (o0 := 768) (o1 := 0) (by decide) a b (by omega) (by omega)⟩
  | 7, 0 => exact ⟨_, .tail _ (.tail _ (.tail _ (.tail _ (.tail _ (.tail _ (.tail _ (.tail _ (.tail _ (.tail _ (.tail _ (.tail _ (.head _)))))))))))), mem2 (n0 := 1024) (n1 := 512) (m0 := 128) (m1 := 128) (o0 := 896) (o1 := 0) (by decide) a b (by omega) (by omega)⟩
  | 4, 1 => exact ⟨_, .tail _ (.tail _ (.tail _ (.tail _ (.tail _ (.tail _ (.tail _ (.tail _ (.tail _ (.tail _ (.tail _ (.head _))))))))))), mem2 (n0 := 1024) (n1 := 512) (m0 := 128) (m1 := 128) (o0 := 512) (o1 := 128) (by decide) a b (by omega) (by omega)⟩
  | 5, 1 => exact ⟨_, .tail _ (.tail _ (.tail _ (.tail _ (.tail _ (.tail _ (.tail _ (.tail _ (.tail _ (.tail _ (.head _)))))))))), mem2 (n0 := 1024) (n1 := 512) (m0 := 128) (m1 := 128) (o0 := 640) (o1 := 128) (by decide) a b (by omega) (by omega)⟩
  | 6, 1 => exact ⟨_, .tail _ (.tail _ (.tail _ (.tail _ (.tail _ (.tail _ (.tail _ (.tail _ (.tail _ (.head _))))))))), mem2 (n0 := 1024) (n1 := 512) (m0 := 128) (m1 := 128) (o0 := 768) (o1 := 128) (by decide) a b (by omega) (by omega)⟩
  | 7, 1 => exact ⟨_, .tail _ (.tail _ (.tail _ (.tail _ (.tail _ (.tail _ (.tail _ (.tail _ (.head _)))))))), mem2 (n0 := 1024) (n1 := 512) (m0 := 128) (m1 := 128) (o0 := 896) (o1 := 128) (by decide) a b (by omega) (by omega)⟩
  | 4, 2 => exact ⟨_, .tail _ (.tail _ (.tail _ (.tail _ (.tail _ (.tail _ (.tail _ (.head _))))))), mem2 (n0 := 1024) (n1 := 512) (m0 := 128) (m1 := 128) (o0 := 512) (o1 := 256) (by decide) a b (by omega) (by omega)⟩
  | 5, 2 => exact ⟨_, .tail _ (.tail _ (.tail _ (.tail _ (.tail _ (.tail _ (.head _)))))), mem2 (n0 := 1024) (n1 := 512) (m0 := 128) (m1 := 128) (o0 := 640) (o1 := 256) (by decide) a b (by omega) (by omega)⟩
  | 6, 2 => exact ⟨_, .tail _ (.tail _ (.tail _ (.tail _ (.tail _ (.head _))))), mem2 (n0 := 1024) (n1 := 512) (m0 := 128) (m1 := 128) (o0 := 768) (o1 := 256) (by decide) a b (by omega) (by omega)⟩
  | 7, 2 => exact ⟨_, .tail _ (.tail _ (.tail _ (.tail _ (.head _)))), mem2 (n0 := 1024) (n1 := 512) (m0 := 128) (m1 := 128) (o0 := 896) (o1 := 256) (by decide) a b (by omega) (by omega)⟩
  | 4, 3 => exact ⟨_, .tail _ (.tail _ (.tail _ (.head _))), mem2 (n0 := 1024) (n1 := 512) (m0 := 128) (m1 := 128) (o0 := 512) (o1 := 384) (by decide) a b (by omega) (by omega)⟩
  | 5, 3 => exact ⟨_, .tail _ (.tail _ (.head _)), mem2 (n0 := 1024) (n1 := 512) (m0 := 128) (m1 := 128) (o0 := 640) (o1 := 384) (by decide) a b (by omega) (by omega)⟩
  | 6, 3 => exact ⟨_, .tail _ (.head _), mem2 (n0 := 1024) (n1 := 512) (m0 := 128) (m1 := 128) (o0 := 768) (o1 := 384) (by decide) a b (by omega) (by omega)⟩
  | 7, 3 => exact ⟨_, .head _, mem2 (n0 := 1024) (n1 := 512) (m0 := 128) (m1 := 128) (o0 := 896) (o1 := 384) (by decide) a b (by omega) (by omega)⟩
  | 0, _ => omega
  | 1, _ => omega
  | 2, _ => omega
  | 3, _ => omega
  | n + 8, _ => omega
  | 4, n + 4 => omega
  | 5, n + 4 => omega
  | 6, n + 4 => omega
  | 7, n + 4 => omega

theorem readA (V : View sig .tc .vmem S1024x512 .bf16) (a b : Fin 512) :
    V.readCov (mlA x1 x2 x3) (Rect.unit (s := S1024x512) ![0, 0] S512x512.size (by decide)).toLoadRect (ix2 a b)
      = MlA x1 x2 x3 (ix2 (⟨a.val, by omega⟩ : Fin 1024) b) := by
  rw [View.readCov_eq_canon']
  have e : (Rect.unit (s := S1024x512) ![0, 0] S512x512.size (by decide)).toLoadRect.idx (ix2 a b) = ix2 (⟨a.val, by omega⟩ : Fin 1024) b := by
    refine (emb2 (n0 := 1024) (n1 := 512) (m0 := 512) (m1 := 512) (o0 := 0) (o1 := 0) (by decide) a b (by omega) (by omega)).trans ?_
    simp only [Nat.zero_add, Fin.eta]
  refine (congrArg (View.canon (mlA x1 x2 x3)) e).trans ?_
  have := View.canon_append_of_piecesOf (Val := Elt Ideal) (MlA x1 x2 x3) [] (mlA x1 x2 x3) (mlA_pieces x1 x2 x3) (ix2 (⟨a.val, by omega⟩ : Fin 1024) b)
    (mlA_covers x1 x2 x3 _ b (by simp only []; omega))
  rwa [List.append_nil] at this

theorem readB (V : View sig .tc .vmem S1024x512 .bf16) (a b : Fin 512) :
    V.readCov (mlB x1 x2 x3) (Rect.unit (s := S1024x512) ![512, 0] S512x512.size (by decide)).toLoadRect (ix2 a b)
      = MlA x1 x2 x3 (ix2 (⟨512 + a.val, by omega⟩ : Fin 1024) b) := by
  rw [View.readCov_eq_canon']
  have e : (Rect.unit (s := S1024x512) ![512, 0] S512x512.size (by decide)).toLoadRect.idx (ix2 a b) = ix2 (⟨512 + a.val, by omega⟩ : Fin 1024) b := by
    refine (emb2 (n0 := 1024) (n1 := 512) (m0 := 512) (m1 := 512) (o0 := 512) (o1 := 0) (by decide) a b (by omega) (by omega)).trans ?_
    simp only [Nat.zero_add, Fin.eta]
  refine (congrArg (View.canon (mlB x1 x2 x3)) e).trans ?_
  have := View.canon_append_of_piecesOf (Val := Elt Ideal) (MlA x1 x2 x3) [] (mlB x1 x2 x3) (mlB_pieces x1 x2 x3) (ix2 (⟨512 + a.val, by omega⟩ : Fin 1024) b)
    (mlB_covers x1 x2 x3 _ b (by simp only []; omega))
  rwa [List.append_nil] at this

end tiles

end Cert.Kernel2Ideal.Ffn
-- ==== Proof.FfnOut.lean ====
module

public import proofs.«01_k».proof.Proof.FfnTiles

@[expose] public section

set_option maxRecDepth 16384
set_option maxHeartbeats 2000000

noncomputable section

namespace Cert.Kernel2Ideal.Ffn

open Cert.Kernel2Ideal Cert.Kernel2Ideal.Gen
open Cert.KernelIdeal.Attn (emb2)
open Idealize.ShloMosaic Idealize.ShloMosaic.TcCoe Idealize.ShloMosaic.Tactic

/-- A load of a box of a whole buffer that holds `x`, at an index. -/
theorem ld2 {sp : Space} {e : EltTy} {n0 n1 m0 m1 : ℕ} (o0 o1 : ℕ) (A : Memref sig .tc sp ⟨2, ![n0, n1]⟩ e) (h : A.IsWhole) (x : Vec Ideal ⟨2, ![n0, n1]⟩ e) (off : Fin 2 → ℕ)
    (inb : ∀ a, off a + (![m0, m1] : Fin 2 → ℕ) a ≤ (⟨2, ![n0, n1]⟩ : Shape).size a) (ho : off = ![o0, o1])
    (a : Fin m0) (b : Fin m1) (a' : Fin n0) (b' : Fin n1) (ha : a'.val = o0 + a.val) (hb : b'.val = o1 + b.val) :
    View.readAt (Elt Ideal) A.view (Rect.unit (s := ⟨2, ![n0, n1]⟩) off ![m0, m1] inb).toLoadRect (h.unread x) (ix2 a b) = x (ix2 a' b') := by
  refine (load2 o0 o1 A.view (h.unread x) off inb ho a b (by omega) (by omega)).trans ?_
  rw [h.read_unread]
  exact congrArg x (congrArg₂ ix2 (Fin.ext ha.symm) (Fin.ext hb.symm))

theorem first_half (c : Dev nD) (i : grid0.Coords) (arg1 : Memref sig .tc .vmem S1024x512 .bf16) (harg1 : arg1.IsWhole) (arg2 : Memref sig .tc .vmem S4x8x128x128 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x512 .bf16) (harg12 : arg12.IsWhole)
    (x0 : Vec Ideal S1024x512 .bf16) (x1 : Vec Ideal S4x8x128x128 .f32) (x2 : Vec Ideal S1024x512 .bf16) (x3 : Vec Ideal S1x512 .f32) (x4 : Vec Ideal S1024x1024 .f32) (x5 : Vec Ideal S1024x1024 .bf16) (x6 : Vec Ideal S1x1024 .f32) (x7 : Vec Ideal S1024x4096 .bf16) (x8 : Vec Ideal S4096x1024 .bf16) (x9 : Vec Ideal S1x1024 .f32) (a : Fin 512) (b : Fin 1024) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 (⟨0 + a.val, by omega⟩ : Fin 1024) b) = ov (fun k => x0 (ix2 (⟨0 + a.val, by omega⟩ : Fin 1024) k)) (hrow x1 (⟨0 + a.val, by omega⟩ : Fin 1024))
      (fun k => x2 (ix2 (⟨0 + a.val, by omega⟩ : Fin 1024) k)) (fun n => x4 (ix2 (⟨0 + a.val, by omega⟩ : Fin 1024) n)) (fun k => x3 (ix2 0 k)) (fun k n => x5 (ix2 k n)) (fun k => x6 (ix2 0 k))
      (fun k j => x7 (ix2 k j)) (fun j n => x8 (ix2 j n)) (fun k => x9 (ix2 0 k)) b := by
  unfold out0_A_10
  rw [stored, View.read_writes_junk_eq_canon]
  have e : (Rect.unit (s := S1024x1024) ![0, 0] S512x1024.size (by decide)).toLoadRect.idx (ix2 a b) = ix2 (⟨0 + a.val, by omega⟩ : Fin 1024) b := by
    refine (emb2 (n0 := 1024) (n1 := 1024) (m0 := 512) (m1 := 1024) (o0 := 0) (o1 := 0) (by decide) a b (by omega) (by omega)).trans ?_
    simp only [Nat.zero_add, Fin.eta]
  rw [← e]
  refine (congrFun (View.readCov_eq_canon' arg11.view _ (Rect.unit (s := S1024x1024) ![0, 0] S512x1024.size (by decide)).toLoadRect) (ix2 a b)).symm.trans ?_
  rw [a12]
  refine (half_apply _ _ _ _ _ _ _ _ _ _ _ _ _ _ _ (fun n => x4 (ix2 (⟨0 + a.val, by omega⟩ : Fin 1024) n)) (fun k => x0 (ix2 (⟨0 + a.val, by omega⟩ : Fin 1024) k))
    (mlv (hrow x1 (⟨0 + a.val, by omega⟩ : Fin 1024)) (fun k => x3 (ix2 0 k)) (fun k => x2 (ix2 (⟨0 + a.val, by omega⟩ : Fin 1024) k)))
    (fun k n => x5 (ix2 k n)) (fun k j => x7 (ix2 k j)) (fun j n => x8 (ix2 j n)) a b ?_ ?_ ?_ ?_ ?_ ?_ ?_ ?_ ?_ ?_ ?_ ?_ ?_).trans ?_
  · exact fun n => ld2 (m0 := 512) (m1 := 1024) 0 0 arg5 harg5 x4 _ (by decide) rfl a n _ _ rfl (Nat.zero_add _).symm
  · exact fun k => ld2 (m0 := 512) (m1 := 512) 0 0 arg1 harg1 x0 _ (by decide) rfl a k _ _ rfl (Nat.zero_add _).symm
  · intro k
    rw [readA]
    simp only [MlA, ix2_0, ix2_1, harg2.read_unread, harg3.read_unread, harg4.read_unread, Nat.zero_add]
  · exact fun k n => ld2 (m0 := 512) (m1 := 1024) 0 0 arg6 harg6 x5 _ (by decide) rfl k n _ _ (Nat.zero_add _).symm (Nat.zero_add _).symm
  · exact fun k n => ld2 (m0 := 512) (m1 := 1024) 512 0 arg6 harg6 x5 _ (by decide) rfl k n _ _ rfl (Nat.zero_add _).symm
  · exact fun k j => ld2 (m0 := 1024) (m1 := 1024) 0 0 arg8 harg8 x7 _ (by decide) rfl k j _ _ (Nat.zero_add _).symm rfl
  · exact fun k j => ld2 (m0 := 1024) (m1 := 1024) 0 1024 arg8 harg8 x7 _ (by decide) rfl k j _ _ (Nat.zero_add _).symm rfl
  · exact fun k j => ld2 (m0 := 1024) (m1 := 1024) 0 2048 arg8 harg8 x7 _ (by decide) rfl k j _ _ (Nat.zero_add _).symm rfl
  · exact fun k j => ld2 (m0 := 1024) (m1 := 1024) 0 3072 arg8 harg8 x7 _ (by decide) rfl k j _ _ (Nat.zero_add _).symm rfl
  · exact fun j n => ld2 (m0 := 1024) (m1 := 1024) 0 0 arg9 harg9 x8 _ (by decide) rfl j n _ _ rfl (Nat.zero_add _).symm
  · exact fun j n => ld2 (m0 := 1024) (m1 := 1024) 1024 0 arg9 harg9 x8 _ (by decide) rfl j n _ _ rfl (Nat.zero_add _).symm
  · exact fun j n => ld2 (m0 := 1024) (m1 := 1024) 2048 0 arg9 harg9 x8 _ (by decide) rfl j n _ _ rfl (Nat.zero_add _).symm
  · exact fun j n => ld2 (m0 := 1024) (m1 := 1024) 3072 0 arg9 harg9 x8 _ (by decide) rfl j n _ _ rfl (Nat.zero_add _).symm
  · unfold ov
    congr 2
    · congr 1
      funext k
      exact ld2 (m0 := 1) (m1 := 1024) 0 0 arg7 harg7 x6 _ (by decide) rfl 0 k _ _ rfl (Nat.zero_add _).symm
    · funext k
      exact ld2 (m0 := 1) (m1 := 1024) 0 0 arg10 harg10 x9 _ (by decide) rfl 0 k _ _ rfl (Nat.zero_add _).symm

theorem second_half (c : Dev nD) (i : grid0.Coords) (arg1 : Memref sig .tc .vmem S1024x512 .bf16) (harg1 : arg1.IsWhole) (arg2 : Memref sig .tc .vmem S4x8x128x128 .f32) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x512 .bf16) (harg12 : arg12.IsWhole)
    (x0 : Vec Ideal S1024x512 .bf16) (x1 : Vec Ideal S4x8x128x128 .f32) (x2 : Vec Ideal S1024x512 .bf16) (x3 : Vec Ideal S1x512 .f32) (x4 : Vec Ideal S1024x1024 .f32) (x5 : Vec Ideal S1024x1024 .bf16) (x6 : Vec Ideal S1x1024 .f32) (x7 : Vec Ideal S1024x4096 .bf16) (x8 : Vec Ideal S4096x1024 .bf16) (x9 : Vec Ideal S1x1024 .f32) (a : Fin 512) (b : Fin 1024) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 (⟨512 + a.val, by omega⟩ : Fin 1024) b) = ov (fun k => x0 (ix2 (⟨512 + a.val, by omega⟩ : Fin 1024) k)) (hrow x1 (⟨512 + a.val, by omega⟩ : Fin 1024))
      (fun k => x2 (ix2 (⟨512 + a.val, by omega⟩ : Fin 1024) k)) (fun n => x4 (ix2 (⟨512 + a.val, by omega⟩ : Fin 1024) n)) (fun k => x3 (ix2 0 k)) (fun k n => x5 (ix2 k n)) (fun k => x6 (ix2 0 k))
      (fun k j => x7 (ix2 k j)) (fun j n => x8 (ix2 j n)) (fun k => x9 (ix2 0 k)) b := by
  unfold out0_A_10
  rw [stored, View.read_writes_junk_eq_canon]
  have e : (Rect.unit (s := S1024x1024) ![512, 0] S512x1024.size (by decide)).toLoadRect.idx (ix2 a b) = ix2 (⟨512 + a.val, by omega⟩ : Fin 1024) b := by
    refine (emb2 (n0 := 1024) (n1 := 1024) (m0 := 512) (m1 := 1024) (o0 := 512) (o1 := 0) (by decide) a b (by omega) (by omega)).trans ?_
    simp only [Nat.zero_add, Fin.eta]
  rw [← e]
  refine (congrFun (View.readCov_eq_canon' arg11.view _ (Rect.unit (s := S1024x1024) ![512, 0] S512x1024.size (by decide)).toLoadRect) (ix2 a b)).symm.trans ?_
  rw [b12]
  refine (half_apply _ _ _ _ _ _ _ _ _ _ _ _ _ _ _ (fun n => x4 (ix2 (⟨512 + a.val, by omega⟩ : Fin 1024) n)) (fun k => x0 (ix2 (⟨512 + a.val, by omega⟩ : Fin 1024) k))
    (mlv (hrow x1 (⟨512 + a.val, by omega⟩ : Fin 1024)) (fun k => x3 (ix2 0 k)) (fun k => x2 (ix2 (⟨512 + a.val, by omega⟩ : Fin 1024) k)))
    (fun k n => x5 (ix2 k n)) (fun k j => x7 (ix2 k j)) (fun j n => x8 (ix2 j n)) a b ?_ ?_ ?_ ?_ ?_ ?_ ?_ ?_ ?_ ?_ ?_ ?_ ?_).trans ?_
  · exact fun n => ld2 (m0 := 512) (m1 := 1024) 512 0 arg5 harg5 x4 _ (by decide) rfl a n _ _ rfl (Nat.zero_add _).symm
  · exact fun k => ld2 (m0 := 512) (m1 := 512) 512 0 arg1 harg1 x0 _ (by decide) rfl a k _ _ rfl (Nat.zero_add _).symm
  · intro k
    rw [readB]
    simp only [MlA, ix2_0, ix2_1, harg2.read_unread, harg3.read_unread, harg4.read_unread, Nat.zero_add]
  · exact fun k n => ld2 (m0 := 512) (m1 := 1024) 0 0 arg6 harg6 x5 _ (by decide) rfl k n _ _ (Nat.zero_add _).symm (Nat.zero_add _).symm
  · exact fun k n => ld2 (m0 := 512) (m1 := 1024) 512 0 arg6 harg6 x5 _ (by decide) rfl k n _ _ rfl (Nat.zero_add _).symm
  · exact fun k j => ld2 (m0 := 1024) (m1 := 1024) 0 0 arg8 harg8 x7 _ (by decide) rfl k j _ _ (Nat.zero_add _).symm rfl
  · exact fun k j => ld2 (m0 := 1024) (m1 := 1024) 0 1024 arg8 harg8 x7 _ (by decide) rfl k j _ _ (Nat.zero_add _).symm rfl
  · exact fun k j => ld2 (m0 := 1024) (m1 := 1024) 0 2048 arg8 harg8 x7 _ (by decide) rfl k j _ _ (Nat.zero_add _).symm rfl
  · exact fun k j => ld2 (m0 := 1024) (m1 := 1024) 0 3072 arg8 harg8 x7 _ (by decide) rfl k j _ _ (Nat.zero_add _).symm rfl
  · exact fun j n => ld2 (m0 := 1024) (m1 := 1024) 0 0 arg9 harg9 x8 _ (by decide) rfl j n _ _ rfl (Nat.zero_add _).symm
  · exact fun j n => ld2 (m0 := 1024) (m1 := 1024) 1024 0 arg9 harg9 x8 _ (by decide) rfl j n _ _ rfl (Nat.zero_add _).symm
  · exact fun j n => ld2 (m0 := 1024) (m1 := 1024) 2048 0 arg9 harg9 x8 _ (by decide) rfl j n _ _ rfl (Nat.zero_add _).symm
  · exact fun j n => ld2 (m0 := 1024) (m1 := 1024) 3072 0 arg9 harg9 x8 _ (by decide) rfl j n _ _ rfl (Nat.zero_add _).symm
  · unfold ov
    congr 2
    · congr 1
      funext k
      exact ld2 (m0 := 1) (m1 := 1024) 0 0 arg7 harg7 x6 _ (by decide) rfl 0 k _ _ rfl (Nat.zero_add _).symm
    · funext k
      exact ld2 (m0 := 1) (m1 := 1024) 0 0 arg10 harg10 x9 _ (by decide) rfl 0 k _ _ rfl (Nat.zero_add _).symm

end Cert.Kernel2Ideal.Ffn
-- ==== Proof.FfnRef.lean ====
module

public import proofs.«01_k».proof.Proof.Gen.Reference2Ideal.Run
public import proofs.«01_k».proof.Proof.FfnSem

@[expose] public section

set_option maxRecDepth 16384
set_option maxHeartbeats 2000000

noncomputable section

namespace Cert.Reference2Ideal.Ffn

open Cert.Reference2Ideal Cert.Reference2Ideal.Gen Cert.Reference2Ideal.Value
open Cert.Kernel2Ideal.Ffn (hd lo hi qt eps mlv xv nrm av qv yv ov zero_eq)
open Idealize.ShloMosaic Idealize.ShloMosaic.Tactic Idealize.ShloMosaic.TcCoe

/-! The reference's own steps, one array after another, each read at an index. -/

/-- The states, a row's heads one after another. -/
def Hs (ht : FVec Ideal S4x256x128x128 .f32) : FVec Ideal S32768x4x128 .f32 :=
  shapeCast _ (transpose S256x128x4x128 [1, 3, 0, 2] ht transposes_S4x256x128x128_S256x128x4x128_1_3_0_2) shapeCasts_S256x128x4x128_S32768x4x128

theorem Hs_apply (ht : FVec Ideal S4x256x128x128 .f32) (r : Fin 32768) (h : Fin 4) (d : Fin 128) :
    Hs ht (ix3 r h d) = ht (ix4 h (⟨r.val / 128, by omega⟩ : Fin 256) d (⟨r.val % 128, by omega⟩ : Fin 128)) := by
  pointwise [Hs]

/-- The states, each head normalised. -/
def Hn (H : FVec Ideal S32768x4x128 .f32) (ng : FVec Ideal S1x512 .f32) : FVec Ideal S32768x4x128 .f32 :=
  mulf (mulf H (broadcastInDim S32768x4x128 ![0, 1, 2] bcast_S32768x4x1_S32768x4x128_0_1_2 (Host.rsqrt (addf (Host.divf (broadcastInDim S32768x4x1 ![0, 1] bcast_S32768x4_S32768x4x1_0_1 (Host.reduceAdd (mulf H H) (constant S_ .f32 0x00000000#32) reducesTo_S32768x4x128_S32768x4_d2 h_S_)) (broadcastInDim S32768x4x1 ![] bcast_S_S32768x4x1 (constant S_ .f32 0x43000000#32))) (broadcastInDim S32768x4x1 ![] bcast_S_S32768x4x1 (constant S_ .f32 0x358637BD#32)))))) (broadcastInDim S32768x4x128 ![0, 1, 2] bcast_S1x4x128_S32768x4x128_0_1_2 (shapeCast _ ng shapeCasts_S1x512_S1x4x128))

theorem Hn_apply (H : FVec Ideal S32768x4x128 .f32) (ng : FVec Ideal S1x512 .f32) (r : Fin 32768) (h : Fin 4) (d : Fin 128) :
    Hn H ng (ix3 r h d) = H (ix3 r h d) * Ideal.rsqrt (Ideal.div (∑ e : Fin 128, H (ix3 r h e) * H (ix3 r h e)) (Ideal.ofBits FTy.f32 0x43000000#32) + eps)
      * ng (ix2 0 (⟨h.val * 128 + d.val, by omega⟩ : Fin 512)) := by
  pointwise [Hn]
  rfl

/-- The gate's sigmoid times the normalised states. -/
def Ml (pj : FVec Ideal S32768x1280 .bf16) (N : FVec Ideal S32768x4x128 .f32) : FVec Ideal S32768x512 .f32 :=
  mulf (Host.divf (broadcastInDim S32768x512 ![] bcast_S_S32768x512 (constant S_ .f32 0x3F800000#32)) (addf (broadcastInDim S32768x512 ![] bcast_S_S32768x512 (constant S_ .f32 0x3F800000#32)) (Host.exp (Host.negf (extf .f32 (extractStridedSlice S32768x512 ![0, 512] pj slices_S32768x1280_S32768x512_0_512) bitsLt_bf16_f32))))) (shapeCast _ N shapeCasts_S32768x4x128_S32768x512)

theorem Ml_apply (pj : FVec Ideal S32768x1280 .bf16) (N : FVec Ideal S32768x4x128 .f32) (r : Fin 32768) (k : Fin 512) :
    Ml pj N (ix2 r k) = Ideal.div 1 (1 + Ideal.exp (0 - pj (ix2 r (⟨512 + k.val, by omega⟩ : Fin 1280))))
      * N (ix3 r (⟨k.val / 128, by omega⟩ : Fin 4) (⟨k.val % 128, by omega⟩ : Fin 128)) := by
  pointwise [Ml]
  rw [zero_sub]

/-- The attention's output beside the mLSTM's. -/
def Ct (at' : FVec Ideal S32768x512 .bf16) (M : FVec Ideal S32768x512 .f32) : FVec Ideal S32768x1024 .f32 :=
  concatenate S32768x1024 1 [⟨S32768x512, (extf .f32 at' bitsLt_bf16_f32)⟩, ⟨S32768x512, M⟩] concatenates_S32768x512_S32768x512_S32768x1024_d1

theorem Ct_apply (at' : FVec Ideal S32768x512 .bf16) (M : FVec Ideal S32768x512 .f32) (r : Fin 32768) (k : Fin 1024) :
    Ct at' M (ix2 r k) = if h : k.val < 512 then at' (ix2 r (⟨k.val, h⟩ : Fin 512)) else M (ix2 r (⟨k.val - 512, by omega⟩ : Fin 512)) := by
  pointwise [Ct]

/-- The residual plus the projection. -/
def Xr (x2 C : FVec Ideal S32768x1024 .f32) (wo : FVec Ideal S1024x1024 .bf16) : FVec Ideal S32768x1024 .f32 :=
  addf x2 (Host.dotGeneral dot_S32768x1024_S1024x1024_S32768x1024_1_0_0_1_n_n none C (extf .f32 wo bitsLt_bf16_f32))

theorem Xr_apply (x2 C : FVec Ideal S32768x1024 .f32) (wo : FVec Ideal S1024x1024 .bf16) (r : Fin 32768) (n : Fin 1024) :
    Xr x2 C wo (ix2 r n) = x2 (ix2 r n) + ∑ k : Fin 1024, C (ix2 r k) * wo (ix2 k n) := by
  pointwise [Xr]

/-- Rows normalised. -/
def Nr (X : FVec Ideal S32768x1024 .f32) (g : FVec Ideal S1x1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

theorem Nr_apply (X : FVec Ideal S32768x1024 .f32) (g : FVec Ideal S1x1024 .f32) (r : Fin 32768) (n : Fin 1024) :
    Nr X g (ix2 r n) = nrm (fun k => X (ix2 r k)) (fun k => g (ix2 0 k)) n := by
  pointwise [Nr]
  rfl

/-- The hidden units. -/
def Hd (N : FVec Ideal S32768x1024 .f32) (u : FVec Ideal S1024x4096 .bf16) : FVec Ideal S32768x4096 .f32 :=
  Host.dotGeneral dot_S32768x1024_S1024x4096_S32768x4096_1_0_0_1_n_n none N (extf .f32 u bitsLt_bf16_f32)

theorem Hd_apply (N : FVec Ideal S32768x1024 .f32) (u : FVec Ideal S1024x4096 .bf16) (r : Fin 32768) (j : Fin 4096) :
    Hd N u (ix2 r j) = ∑ k : Fin 1024, N (ix2 r k) * u (ix2 k j) := by
  pointwise [Hd]

theorem zeros_apply (y : S32768x4096.Idx) : broadcastInDim S32768x4096 ![] bcast_S_S32768x4096 (constant (F := Ideal) S_ .f32 0x00000000#32) y = (0 : EReal) :=
  zero_eq

theorem greater_apply {t : Shape} (X Y : FVec Ideal t .f32) (y : t.Idx) : maximumf X Y y = max (X y) (Y y) := rfl

theorem times_apply {t : Shape} (X Y : FVec Ideal t .f32) (y : t.Idx) : mulf X Y y = X y * Y y := rfl

/-- The hidden units, rectified and squared. -/
def Ac (H : FVec Ideal S32768x4096 .f32) : FVec Ideal S32768x4096 .f32 :=
  mulf (maximumf H (broadcastInDim S32768x4096 ![] bcast_S_S32768x4096 (constant S_ .f32 0x00000000#32))) (maximumf H (broadcastInDim S32768x4096 ![] bcast_S_S32768x4096 (constant S_ .f32 0x00000000#32)))

theorem Ac_apply (H : FVec Ideal S32768x4096 .f32) (y : S32768x4096.Idx) : Ac H y = max (H y) 0 * max (H y) 0 := by
  unfold Ac
  rw [times_apply, greater_apply, zeros_apply]

/-- The rows with the feed-forward part added. -/
def Yr (X : FVec Ideal S32768x1024 .f32) (A : FVec Ideal S32768x4096 .f32) (d : FVec Ideal S4096x1024 .bf16) : FVec Ideal S32768x1024 .f32 :=
  addf X (Host.dotGeneral dot_S32768x4096_S4096x1024_S32768x1024_1_0_0_1_n_n none A (extf .f32 d bitsLt_bf16_f32))

theorem Yr_apply (X : FVec Ideal S32768x1024 .f32) (A : FVec Ideal S32768x4096 .f32) (d : FVec Ideal S4096x1024 .bf16) (r : Fin 32768) (n : Fin 1024) :
    Yr X A d (ix2 r n) = X (ix2 r n) + ∑ j : Fin 4096, A (ix2 r j) * d (ix2 j n) := by
  pointwise [Yr]

/-- The reference's steps in order. -/
def Ra (a : FVec Ideal S32768x512 .bf16) (ht : FVec Ideal S4x256x128x128 .f32) (pj : FVec Ideal S32768x1280 .bf16) (ng : FVec Ideal S1x512 .f32)
    (x2 : FVec Ideal S32768x1024 .f32) (wo : FVec Ideal S1024x1024 .bf16) (g2 : FVec Ideal S1x1024 .f32) (u : FVec Ideal S1024x4096 .bf16)
    (d : FVec Ideal S4096x1024 .bf16) (gf : FVec Ideal S1x1024 .f32) : FVec Ideal S32768x1024 .f32 :=
  Nr (Yr (Xr x2 (Ct a (Ml pj (Hn (Hs ht) ng))) wo) (Ac (Hd (Nr (Xr x2 (Ct a (Ml pj (Hn (Hs ht) ng))) wo) g2) u)) d) gf

theorem res_eq (m : (ℓ : Loc nD τ sig) → Buf (Elt Ideal) ℓ) (c : Dev nD) :
    res_main_v60 m c = Ra (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

/-- A row of the states, a head after another. -/
def hrowR (ht : FVec Ideal S4x256x128x128 .f32) (r : Fin 32768) (k : Fin 512) : EReal :=
  ht (ix4 (⟨k.val / 128, by omega⟩ : Fin 4) (⟨r.val / 128, by omega⟩ : Fin 256) (⟨k.val % 128, by omega⟩ : Fin 128) (⟨r.val % 128, by omega⟩ : Fin 128))

theorem Ml_row (ht : FVec Ideal S4x256x128x128 .f32) (pj : FVec Ideal S32768x1280 .bf16) (ng : FVec Ideal S1x512 .f32) (r : Fin 32768) (k : Fin 512) :
    Ml pj (Hn (Hs ht) ng) (ix2 r k) = mlv (hrowR ht r) (fun k => ng (ix2 0 k)) (fun k => pj (ix2 r (⟨512 + k.val, by omega⟩ : Fin 1280))) k := by
  rw [Ml_apply, Hn_apply, mul_comm]
  simp only [Hs_apply]
  have eh : ∀ d : Fin 128, hrowR ht r (hd k d) = ht (ix4 (⟨k.val / 128, by omega⟩ : Fin 4) (⟨r.val / 128, by omega⟩ : Fin 256) d (⟨r.val % 128, by omega⟩ : Fin 128)) := by
    intro d
    unfold hrowR hd
    congr 2 <;> apply Fin.ext <;> simp only [] <;> omega
  have ek : (⟨k.val / 128 * 128 + k.val % 128, by omega⟩ : Fin 512) = k := Fin.ext (by simp only []; omega)
  unfold mlv
  simp only [eh, ek]
  rfl

theorem sum_cat (f : Fin 1024 → EReal) : ∑ k : Fin 1024, f k = (∑ k : Fin 512, f (lo k)) + ∑ k : Fin 512, f (hi k) :=
  Fin.sum_univ_two_halves 512 512 rfl f

theorem sum_quarters (f : Fin 4096 → EReal) :
    ∑ k : Fin 4096, f k = (∑ k : Fin 1024, f (qt 0 k)) + (∑ k : Fin 1024, f (qt 1 k)) + (∑ k : Fin 1024, f (qt 2 k)) + ∑ k : Fin 1024, f (qt 3 k) := by
  refine (Fin.sum_univ_two_halves 3072 1024 rfl f).trans ?_
  congr 1
  · refine (Fin.sum_univ_two_halves 2048 1024 rfl _).trans ?_
    congr 1
    refine (Fin.sum_univ_two_halves 1024 1024 rfl _).trans ?_
    congr 1

theorem Xr_row (a : FVec Ideal S32768x512 .bf16) (M : FVec Ideal S32768x512 .f32) (x2 : FVec Ideal S32768x1024 .f32) (wo : FVec Ideal S1024x1024 .bf16)
    (r : Fin 32768) (n : Fin 1024) :
    Xr x2 (Ct a M) wo (ix2 r n) = xv (fun n => x2 (ix2 r n)) (fun k => a (ix2 r k)) (fun k => M (ix2 r k)) (fun k n => wo (ix2 k n)) n := by
  rw [Xr_apply, sum_cat, ← add_assoc]
  unfold xv
  congr 1
  · congr 1
    refine Finset.sum_congr rfl fun k _ => ?_
    rw [Ct_apply, dif_pos (show (lo k).val < 512 from k.isLt)]
    rfl
  · refine Finset.sum_congr rfl fun k _ => ?_
    rw [Ct_apply, dif_neg (show ¬ (hi k).val < 512 by simp only [hi]; omega)]
    congr 3
    apply Fin.ext
    simp only [hi]
    omega

theorem Yr_row (X N : FVec Ideal S32768x1024 .f32) (u : FVec Ideal S1024x4096 .bf16) (d : FVec Ideal S4096x1024 .bf16) (r : Fin 32768) (n : Fin 1024) :
    Yr X (Ac (Hd N u)) d (ix2 r n) = yv (fun n => X (ix2 r n)) (fun k => N (ix2 r k)) (fun k j => u (ix2 k j)) (fun j n => d (ix2 j n)) n := by
  rw [Yr_apply, sum_quarters, ← add_assoc, ← add_assoc, ← add_assoc]
  simp only [Ac_apply, Hd_apply]
  rfl

/-- A row of the reference's result. -/
theorem Ra_apply (a : FVec Ideal S32768x512 .bf16) (ht : FVec Ideal S4x256x128x128 .f32) (pj : FVec Ideal S32768x1280 .bf16) (ng : FVec Ideal S1x512 .f32)
    (x2 : FVec Ideal S32768x1024 .f32) (wo : FVec Ideal S1024x1024 .bf16) (g2 : FVec Ideal S1x1024 .f32) (u : FVec Ideal S1024x4096 .bf16)
    (d : FVec Ideal S4096x1024 .bf16) (gf : FVec Ideal S1x1024 .f32) (r : Fin 32768) (n : Fin 1024) :
    Ra a ht pj ng x2 wo g2 u d gf (ix2 r n) = ov (fun k => a (ix2 r k)) (hrowR ht r) (fun k => pj (ix2 r (⟨512 + k.val, by omega⟩ : Fin 1280)))
      (fun n => x2 (ix2 r n)) (fun k => ng (ix2 0 k)) (fun k n => wo (ix2 k n)) (fun k => g2 (ix2 0 k)) (fun k j => u (ix2 k j)) (fun j n => d (ix2 j n))
      (fun k => gf (ix2 0 k)) n := by
  unfold Ra
  rw [Nr_apply]
  simp only [Yr_row, Nr_apply, Xr_row, Ml_row]
  rfl

end Cert.Reference2Ideal.Ffn
-- ==== Proof.FfnBlocks.lean ====
module

public import proofs.«01_k».proof.Proof.FfnOut
public import proofs.«01_k».proof.Proof.FfnRef

@[expose] public section

set_option maxRecDepth 16384

noncomputable section

namespace Cert.Kernel2Ideal.Ffn

open Cert.Kernel2Ideal Cert.Kernel2Ideal.Gen
open Cert.Reference2Ideal.Ffn (Ra Ra_apply hrowR)
open Idealize.ShloMosaic Idealize.ShloMosaic.TcCoe Idealize.ShloMosaic.Tactic
open Idealize.SL Idealize.SL.Sem

/-! The last call's blocks as parts of its arguments, and its result. -/

theorem idx0 : ∀ t : Fin cfg0.N, (cfg0.win 0).index t = ![t.val, 0] := by decide +kernel
theorem idx1 : ∀ t : Fin cfg0.N, (cfg0.win 1).index t = ![0, t.val, 0, 0] := by decide +kernel
theorem idx2 : ∀ t : Fin cfg0.N, (cfg0.win 2).index t = ![t.val, 1] := by decide +kernel
theorem idx3 : ∀ t : Fin cfg0.N, (cfg0.win 3).index t = ![0, 0] := by decide +kernel
theorem idx4 : ∀ t : Fin cfg0.N, (cfg0.win 4).index t = ![t.val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![t.val, 0] := by decide +kernel

variable (m : (ℓ : Loc nD τ sig) → Buf (Elt Ideal) ℓ) (c : Dev nD) (t : Fin cfg0.N)

theorem row_lt (t : Fin cfg0.N) (a : Fin 1024) : 1024 * t.val + a.val < 32768 := by
  have ht : t.val < 32 := t.isLt
  omega

theorem read0 (a : Fin 1024) (k : Fin 512) :
    (iblk m c 0 t : Vec Ideal S1024x512 .bf16) (ix2 a k) = (m ((c : Thread nD τ).loc main_arg0) : Vec Ideal S32768x512 .bf16) (ix2 (⟨1024 * t.val + a.val, row_lt t a⟩ : Fin 32768) k) := by
  have ht : t.val < 32 := t.isLt
  refine congrArg (m ((c : Thread nD τ).loc main_arg0)) ?_
  blk_ext [iblk, idx0 t]

theorem read1 (i : Fin 4) (j : Fin 8) (d e : Fin 128) (h : 8 * t.val + j.val < 256) :
    (iblk m c 1 t : Vec Ideal S4x8x128x128 .f32) (ix4 i j d e) = (m ((c : Thread nD τ).loc main_arg1) : Vec Ideal S4x256x128x128 .f32) (ix4 i (⟨8 * t.val + j.val, h⟩ : Fin 256) d e) := by
  have ht : t.val < 32 := t.isLt
  refine congrArg (m ((c : Thread nD τ).loc main_arg1)) ?_
  blk_ext [iblk, idx1 t]

theorem read2 (a : Fin 1024) (k : Fin 512) :
    (X0_2 m c t : Vec Ideal S1024x512 .bf16) (ix2 a k) = (m ((c : Thread nD τ).loc main_arg2) : Vec Ideal S32768x1280 .bf16) (ix2 (⟨1024 * t.val + a.val, row_lt t a⟩ : Fin 32768) (⟨512 + k.val, by omega⟩ : Fin 1280)) := by
  have ht : t.val < 32 := t.isLt
  unfold X0_2 Pipeline.Window.fill
  rw [dif_pos (moved0_2 t _)]
  refine congrArg (m ((c : Thread nD τ).loc main_arg2)) ?_
  blk_ext [iblk, idx2 t]

theorem read3 (k : Fin 512) :
    (iblk m c 3 t : Vec Ideal S1x512 .f32) (ix2 0 k) = (m ((c : Thread nD τ).loc main_arg3) : Vec Ideal S1x512 .f32) (ix2 0 k) := by
  refine congrArg (m ((c : Thread nD τ).loc main_arg3)) ?_
  blk_ext [iblk, idx3 t]

theorem read4 (a n : Fin 1024) :
    (iblk m c 4 t : Vec Ideal S1024x1024 .f32) (ix2 a n) = (m ((c : Thread nD τ).loc main_arg4) : Vec Ideal S32768x1024 .f32) (ix2 (⟨1024 * t.val + a.val, row_lt t a⟩ : Fin 32768) n) := by
  have ht : t.val < 32 := t.isLt
  refine congrArg (m ((c : Thread nD τ).loc main_arg4)) ?_
  blk_ext [iblk, idx4 t]

theorem read5 (k n : Fin 1024) :
    (iblk m c 5 t : Vec Ideal S1024x1024 .bf16) (ix2 k n) = (m ((c : Thread nD τ).loc main_arg5) : Vec Ideal S1024x1024 .bf16) (ix2 k n) := by
  refine congrArg (m ((c : Thread nD τ).loc main_arg5)) ?_
  blk_ext [iblk, idx5 t]

theorem read6 (k : Fin 1024) :
    (iblk m c 6 t : Vec Ideal S1x1024 .f32) (ix2 0 k) = (m ((c : Thread nD τ).loc main_arg6) : Vec Ideal S1x1024 .f32) (ix2 0 k) := by
  refine congrArg (m ((c : Thread nD τ).loc main_arg6)) ?_
  blk_ext [iblk, idx6 t]

theorem read7 (k : Fin 1024) (j : Fin 4096) :
    (iblk m c 7 t : Vec Ideal S1024x4096 .bf16) (ix2 k j) = (m ((c : Thread nD τ).loc main_arg7) : Vec Ideal S1024x4096 .bf16) (ix2 k j) := by
  refine congrArg (m ((c : Thread nD τ).loc main_arg7)) ?_
  blk_ext [iblk, idx7 t]

theorem read8 (j : Fin 4096) (n : Fin 1024) :
    (iblk m c 8 t : Vec Ideal S4096x1024 .bf16) (ix2 j n) = (m ((c : Thread nD τ).loc main_arg8) : Vec Ideal S4096x1024 .bf16) (ix2 j n) := by
  refine congrArg (m ((c : Thread nD τ).loc main_arg8)) ?_
  blk_ext [iblk, idx8 t]

theorem read9 (k : Fin 1024) :
    (iblk m c 9 t : Vec Ideal S1x1024 .f32) (ix2 0 k) = (m ((c : Thread nD τ).loc main_arg9) : Vec Ideal S1x1024 .f32) (ix2 0 k) := by
  refine congrArg (m ((c : Thread nD τ).loc main_arg9)) ?_
  blk_ext [iblk, idx9 t]

theorem out_half0 (a : Fin 512) (b : Fin 1024) :
    outsAt0 m c t (ix2 (⟨0 + a.val, by omega⟩ : Fin 1024) b) = ov (fun k => iblk m c 0 t (ix2 (⟨0 + a.val, by omega⟩ : Fin 1024) k)) (hrow (iblk m c 1 t) (⟨0 + a.val, by omega⟩ : Fin 1024))
      (fun k => X0_2 m c t (ix2 (⟨0 + a.val, by omega⟩ : Fin 1024) k)) (fun n => iblk m c 4 t (ix2 (⟨0 + a.val, by omega⟩ : Fin 1024) n)) (fun k => iblk m c 3 t (ix2 0 k)) (fun k n => iblk m c 5 t (ix2 k n)) (fun k => iblk m c 6 t (ix2 0 k))
      (fun k j => iblk m c 7 t (ix2 k j)) (fun j n => iblk m c 8 t (ix2 j n)) (fun k => iblk m c 9 t (ix2 0 k)) b := by
  unfold outsAt0
  exact first_half c (grid0.coords t) _ _ _ _ _ _ _ _ _ _ _ _ _ _ _ _ _ _ _ _ _ _ _ _ _ _ _ _ _ _ _ _ _ _ a b

theorem out_half1 (a : Fin 512) (b : Fin 1024) :
    outsAt0 m c t (ix2 (⟨512 + a.val, by omega⟩ : Fin 1024) b) = ov (fun k => iblk m c 0 t (ix2 (⟨512 + a.val, by omega⟩ : Fin 1024) k)) (hrow (iblk m c 1 t) (⟨512 + a.val, by omega⟩ : Fin 1024))
      (fun k => X0_2 m c t (ix2 (⟨512 + a.val, by omega⟩ : Fin 1024) k)) (fun n => iblk m c 4 t (ix2 (⟨512 + a.val, by omega⟩ : Fin 1024) n)) (fun k => iblk m c 3 t (ix2 0 k)) (fun k n => iblk m c 5 t (ix2 k n)) (fun k => iblk m c 6 t (ix2 0 k))
      (fun k j => iblk m c 7 t (ix2 k j)) (fun j n => iblk m c 8 t (ix2 j n)) (fun k => iblk m c 9 t (ix2 0 k)) b := by
  unfold outsAt0
  exact second_half c (grid0.coords t) _ _ _ _ _ _ _ _ _ _ _ _ _ _ _ _ _ _ _ _ _ _ _ _ _ _ _ _ _ _ _ _ _ _ a b

theorem out_row (a b : Fin 1024) :
    outsAt0 m c t (ix2 a b) = ov (fun k => iblk m c 0 t (ix2 a k)) (hrow (iblk m c 1 t) a)
      (fun k => X0_2 m c t (ix2 a k)) (fun n => iblk m c 4 t (ix2 a n)) (fun k => iblk m c 3 t (ix2 0 k)) (fun k n => iblk m c 5 t (ix2 k n)) (fun k => iblk m c 6 t (ix2 0 k))
      (fun k j => iblk m c 7 t (ix2 k j)) (fun j n => iblk m c 8 t (ix2 j n)) (fun k => iblk m c 9 t (ix2 0 k)) b := by
  have l0 : ∀ a' : Fin 512, 0 + a'.val < 1024 := fun a' => by have := a'.isLt; omega
  have l512 : ∀ a' : Fin 512, 512 + a'.val < 1024 := fun a' => by have := a'.isLt; omega
  have ha := a.isLt
  by_cases h : a.val < 512
  · obtain ⟨a', rfl⟩ : ∃ a' : Fin 512, a = (⟨0 + a'.val, l0 a'⟩ : Fin 1024) := ⟨⟨a.val, h⟩, Fin.ext (by simp only []; omega)⟩
    exact out_half0 m c t a' b
  · obtain ⟨a', rfl⟩ : ∃ a' : Fin 512, a = (⟨512 + a'.val, l512 a'⟩ : Fin 1024) := ⟨⟨a.val - 512, by omega⟩, Fin.ext (by simp only []; omega)⟩
    exact out_half1 m c t a' b

theorem hrow_eq (a : Fin 1024) (k : Fin 512) :
    hrow (iblk m c 1 t) a k = hrowR (m ((c : Thread nD τ).loc main_arg1)) (⟨1024 * t.val + a.val, row_lt t a⟩ : Fin 32768) k := by
  have ht : t.val < 32 := t.isLt
  have ha := a.isLt
  unfold hrow hrowR
  refine (read1 m c t _ _ _ _ (by simp only []; omega)).trans ?_
  refine congrArg (m ((c : Thread nD τ).loc main_arg1)) ?_
  congr 1
  · apply Fin.ext; simp only []; omega
  · apply Fin.ext; simp only []; omega

/-- The reference's function of the call's arguments. -/
def Rm : FVec Ideal S32768x1024 .f32 :=
  Ra (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem out_eq (a b : Fin 1024) : outsAt0 m c t (ix2 a b) = Rm m c (ix2 (⟨1024 * t.val + a.val, row_lt t a⟩ : Fin 32768) b) := by
  rw [out_row]
  unfold Rm
  rw [Ra_apply]
  refine congrFun ?_ b
  congr 1
  · exact funext fun k => read0 m c t a k
  · exact funext fun k => hrow_eq m c t a k
  · exact funext fun k => read2 m c t a k
  · exact funext fun k => read4 m c t a k
  · exact funext fun k => read3 m c t k
  · exact funext fun k => funext fun n => read5 m c t k n
  · exact funext fun k => read6 m c t k
  · exact funext fun k => funext fun n => read7 m c t k n
  · exact funext fun k => funext fun n => read8 m c t k n
  · exact funext fun k => read9 m c t k

/-- The call's result is the reference's function of its arguments. -/
theorem result : (dats m 0 c).arrAt 10 cfg0.N = Rm m c := by
  refine (dats m 0 c).arrAt_eq_of_covers 10 _ (by decide +kernel) fun t hf y => ?_
  blk_simp
  rw [after0_10]
  have ht : t.val < 32 := t.isLt
  idx_vars y
  have := y0.isLt
  rw [out_eq m c t y0 y1]
  refine congrArg (Rm m c) ?_
  blk_ext [idx10 t]

end Cert.Kernel2Ideal.Ffn
-- ==== Proof.BiasTerm.lean ====
module

public import proofs.«01_k».proof.Proof.Gen.Kernel3Ideal.Value
public import proofs.«01_k».proof.Proof.AttnReads

@[expose] public section

set_option maxRecDepth 16384
set_option maxHeartbeats 4000000

noncomputable section

namespace Cert.Kernel3Ideal.Bias

open Cert.Kernel3Ideal Cert.Kernel3Ideal.Gen
open Idealize.ShloMosaic Idealize.ShloMosaic.TcCoe Idealize.ShloMosaic.Tactic
open Idealize.ShloMosaic.Pipeline (Dat Cfg Window cellOf)

variable {F : FTy → Type} [FloatOps F] [Named F]

/-- The bias of bucket `b` and head `h`, as the body reads it. -/
def rd (arg0 : Memref sig .tc .smem S32x8 .f32) (harg0 : arg0.IsWhole) (x0 : Vec F S32x8 .f32) (h b : ℕ) (hh : h < 8) (hb : b < 32) : Elt F .f32 :=
  View.readAt (Elt F) arg0.view (Rect.unit (s := S32x8) ![b, h] ![1, 1] (fun a => match a with | 0 => hb | 1 => hh)).toLoadRect (harg0.unread x0)
    (Shape.Idx.first (show 0 < (⟨2, ![1, 1]⟩ : Shape).numel by decide))

/-- The table after the first `n` buckets. -/
def acc (v0 : Vec F S384x128 .i32) (f : (b : ℕ) → b < 32 → Elt F .f32) : (n : ℕ) → n ≤ 32 → FVec F S384x128 .f32
  | 0, _ => broadcast S384x128 (Scalar.ofBits .f32 0x00000000#32)
  | n + 1, h => select (cmpi .eq v0 (broadcast S384x128 (BitVec.ofNat 32 n))) (broadcast S384x128 (f n h)) (acc v0 f n (Nat.le_of_succ_le h))

/-- A head's table as it is stored. -/
def tbl (v0 : Vec F S384x128 .i32) (f : (b : ℕ) → b < 32 → Elt F .f32) : FVec F S1x384x128 .f32 :=
  shapeCast S1x384x128 (select k0_pay2 (mulf (acc v0 f 32 (Nat.le_refl 32)) (broadcast S384x128 (Named.named κ "log2e" 0x3FB8AA3B#32)))
    (broadcast S384x128 (Scalar.ofBits .f32 0xFF800000#32))) shapeCasts_S384x128_S1x384x128

/-- Head `h`'s table, from the call's arguments. -/
def tblOf (arg0 : Memref sig .tc .smem S32x8 .f32) (harg0 : arg0.IsWhole) (arg1 : Memref sig .tc .vmem S384x128 .i32) (harg1 : arg1.IsWhole)
    (x0 : Vec F S32x8 .f32) (x1 : Vec F S384x128 .i32) (h : ℕ) (hh : h < 8) : FVec F S1x384x128 .f32 :=
  tbl (View.readAt (Elt F) arg1.view (Rect.unit (s := S384x128) ![0, 0] S384x128.size (by decide)).toLoadRect (harg1.unread x1)) (fun b hb => rd arg0 harg0 x0 h b hh hb)

theorem stored (c : Dev nD) (arg0 : Memref sig .tc .smem S32x8 .f32) (harg0 : arg0.IsWhole) (arg1 : Memref sig .tc .vmem S384x128 .i32) (harg1 : arg1.IsWhole) (arg2 : Memref sig .tc .vmem S8x384x128 .f32) (harg2 : arg2.IsWhole)
    (x0 : Vec F S32x8 .f32) (x1 : Vec F S384x128 .i32) :
    (kernelRun0_A c arg0 harg0 arg1 harg1 arg2 harg2 x0 x1).1 =
      [⟨Rect.unit (s := S8x384x128) ![7, 0, 0] ![1, 384, 128] (by decide), tblOf arg0 harg0 arg1 harg1 x0 x1 7 (by decide)⟩,
       ⟨Rect.unit (s := S8x384x128) ![6, 0, 0] ![1, 384, 128] (by decide), tblOf arg0 harg0 arg1 harg1 x0 x1 6 (by decide)⟩,
       ⟨Rect.unit (s := S8x384x128) ![5, 0, 0] ![1, 384, 128] (by decide), tblOf arg0 harg0 arg1 harg1 x0 x1 5 (by decide)⟩,
       ⟨Rect.unit (s := S8x384x128) ![4, 0, 0] ![1, 384, 128] (by decide), tblOf arg0 harg0 arg1 harg1 x0 x1 4 (by decide)⟩,
       ⟨Rect.unit (s := S8x384x128) ![3, 0, 0] ![1, 384, 128] (by decide), tblOf arg0 harg0 arg1 harg1 x0 x1 3 (by decide)⟩,
       ⟨Rect.unit (s := S8x384x128) ![2, 0, 0] ![1, 384, 128] (by decide), tblOf arg0 harg0 arg1 harg1 x0 x1 2 (by decide)⟩,
       ⟨Rect.unit (s := S8x384x128) ![1, 0, 0] ![1, 384, 128] (by decide), tblOf arg0 harg0 arg1 harg1 x0 x1 1 (by decide)⟩,
       ⟨Rect.unit (s := S8x384x128) ![0, 0, 0] ![1, 384, 128] (by decide), tblOf arg0 harg0 arg1 harg1 x0 x1 0 (by decide)⟩] := rfl

end Cert.Kernel3Ideal.Bias
-- ==== Proof.BiasSem.lean ====
module

public import proofs.«01_k».proof.Proof.Gen.Reference3Ideal.Run
public import proofs.«01_k».proof.Proof.BiasTerm
public import proofs.«01_k».proof.Proof.FfnOut

@[expose] public section

set_option maxRecDepth 16384
set_option maxHeartbeats 2000000

noncomputable section

namespace Cert.Kernel3Ideal.Bias

open Cert.Kernel3Ideal Cert.Kernel3Ideal.Gen
open Cert.KernelIdeal.Attn (emb2 emb3 load2)
open Idealize.ShloMosaic Idealize.ShloMosaic.TcCoe Idealize.ShloMosaic.Tactic
open Idealize.ShloMosaic.Pipeline (Dat Cfg Window cellOf)

/-! The table's value: the bias of the bucket, or zero where there is no such bucket, in the window, and minus infinity outside it. -/

theorem ld2 {sp : Space} {e : EltTy} {n0 n1 m0 m1 : ℕ} (o0 o1 : ℕ) (A : Memref sig .tc sp ⟨2, ![n0, n1]⟩ e) (h : A.IsWhole) (x : Vec Ideal ⟨2, ![n0, n1]⟩ e) (off : Fin 2 → ℕ)
    (inb : ∀ a, off a + (![m0, m1] : Fin 2 → ℕ) a ≤ (⟨2, ![n0, n1]⟩ : Shape).size a) (ho : off = ![o0, o1])
    (a : Fin m0) (b : Fin m1) (a' : Fin n0) (b' : Fin n1) (ha : a'.val = o0 + a.val) (hb : b'.val = o1 + b.val) :
    View.readAt (Elt Ideal) A.view (Rect.unit (s := ⟨2, ![n0, n1]⟩) off ![m0, m1] inb).toLoadRect (h.unread x) (ix2 a b) = x (ix2 a' b') := by
  subst ho
  refine (congrArg (A.view.read (Elt Ideal) (h.unread x)) (emb2 inb a b (by omega) (by omega))).trans ?_
  rw [h.read_unread]
  exact congrArg x (congrArg₂ ix2 (Fin.ext ha.symm) (Fin.ext hb.symm))

theorem pick_apply (v0 : Vec Ideal S384x128 .i32) (w : BitVec 32) (x : Elt Ideal .f32) (p : FVec Ideal S384x128 .f32) (y : S384x128.Idx) :
    (select (cmpi .eq v0 (broadcast S384x128 w)) (broadcast S384x128 x) p : FVec Ideal S384x128 .f32) y = if (v0 y : BitVec 32) = w then (x : EReal) else p y := by
  show (if (Scalar.cmpi .eq (v0 y) w) = 1#1 then x else p y) = _
  by_cases h : (v0 y : BitVec 32) = w
  · rw [if_pos h, if_pos]; rw [h]; simp [Scalar.cmpi, IntOp.cmpi]
  · rw [if_neg h, if_neg]
    have e : ((v0 y : BitVec 32) == w) = false := beq_eq_false_iff_ne.mpr h
    show ¬ BitVec.ofBool ((v0 y : BitVec 32) == w) = 1#1
    rw [e]
    decide

theorem acc_apply (v0 : Vec Ideal S384x128 .i32) (f : (b : ℕ) → b < 32 → Elt Ideal .f32) (y : S384x128.Idx) :
    ∀ (n : ℕ) (hn : n ≤ 32), (acc v0 f n hn y : EReal) = ∑ b : Fin n, if (v0 y : BitVec 32) = BitVec.ofNat 32 b.val then (f b.val (by omega) : EReal) else 0
  | 0, _ => by
    rw [Fin.sum_univ_zero]
    exact Cert.Kernel2Ideal.Ffn.zero_eq
  | n + 1, hn => by
    rw [Fin.sum_univ_castSucc]
    unfold acc
    rw [pick_apply, acc_apply v0 f y n (by omega)]
    by_cases h : (v0 y : BitVec 32) = BitVec.ofNat 32 n
    · rw [if_pos h, Finset.sum_eq_zero, zero_add]
      · exact (if_pos h).symm
      · intro b _
        refine if_neg fun h' => ?_
        have e := congrArg BitVec.toNat (h.symm.trans h')
        have hb := b.isLt
        simp only [BitVec.toNat_ofNat, Fin.val_castSucc] at e
        omega
    · rw [if_neg h]
      refine (add_zero _).symm.trans (congrArg₂ (· + ·) rfl ?_)
      exact (if_neg h).symm

theorem rd_eq (arg0 : Memref sig .tc .smem S32x8 .f32) (harg0 : arg0.IsWhole) (x0 : Vec Ideal S32x8 .f32) (h b : ℕ) (hh : h < 8) (hb : b < 32) :
    rd arg0 harg0 x0 h b hh hb = x0 (ix2 (⟨b, hb⟩ : Fin 32) (⟨h, hh⟩ : Fin 8)) := by
  unfold rd
  have e : (Shape.Idx.first (show 0 < (⟨2, ![1, 1]⟩ : Shape).numel by decide)) = ix2 (0 : Fin 1) (0 : Fin 1) := by
    funext k
    match k with
    | 0 => exact Subsingleton.elim (α := Fin 1) _ _
    | 1 => exact Subsingleton.elim (α := Fin 1) _ _
  rw [e]
  exact ld2 b h arg0 harg0 x0 _ _ rfl 0 0 _ _ rfl rfl

/-- The table at an index. -/
def bv (x0 : Vec Ideal S32x8 .f32) (x1 : Vec Ideal S384x128 .i32) (h : Fin 8) (k : Fin 384) (r : Fin 128) : EReal :=
  if (k0_pay2 (ix2 k r) : BitVec 1) = 1#1 then
    (∑ b : Fin 32, if (x1 (ix2 k r) : BitVec 32) = BitVec.ofNat 32 b.val then (x0 (ix2 b h) : EReal) else 0) * (((Real.log 2)⁻¹ : ℝ) : EReal)
  else ⊥

theorem ninf_eq : Ideal.ofBits FTy.f32 0xFF800000#32 = ⊥ := by
  simp [Ideal.ofBits, Ideal.ieee]

theorem bot_eq : (Scalar.ofBits (F := Ideal) .f32 0xFF800000#32 : EReal) = ⊥ := ninf_eq

theorem tblOf_apply (arg0 : Memref sig .tc .smem S32x8 .f32) (harg0 : arg0.IsWhole) (arg1 : Memref sig .tc .vmem S384x128 .i32) (harg1 : arg1.IsWhole)
    (x0 : Vec Ideal S32x8 .f32) (x1 : Vec Ideal S384x128 .i32) (h : ℕ) (hh : h < 8) (z : Fin 1) (k : Fin 384) (r : Fin 128) :
    tblOf arg0 harg0 arg1 harg1 x0 x1 h hh (ix3 z k r) = bv x0 x1 ⟨h, hh⟩ k r := by
  unfold tblOf tbl
  have ec : ∀ X : FVec Ideal S384x128 .f32, shapeCast S1x384x128 X shapeCasts_S384x128_S1x384x128 (ix3 z k r) = X (ix2 k r) := fun X => by pointwise []
  rw [ec]
  show (if (k0_pay2 (ix2 k r) : BitVec 1) = 1#1 then (acc (F := Ideal) _ _ 32 _ (ix2 k r) : EReal) * (((Real.log 2)⁻¹ : ℝ) : EReal) else Scalar.ofBits (F := Ideal) .f32 0xFF800000#32) = _
  rw [acc_apply, bot_eq]
  unfold bv
  have e1 : View.readAt (Elt Ideal) arg1.view (Rect.unit (s := S384x128) ![0, 0] S384x128.size (by decide)).toLoadRect (harg1.unread x1) (ix2 k r) = x1 (ix2 k r) :=
    ld2 0 0 arg1 harg1 x1 _ _ rfl k r k r (by omega) (by omega)
  simp only [e1, rd_eq, Fin.eta]

end Cert.Kernel3Ideal.Bias
-- ==== Proof.BiasOut.lean ====
module

public import proofs.«01_k».proof.Proof.BiasSem
public import proofs.«01_k».proof.Proof.Gen.Kernel3Ideal.Value

@[expose] public section

set_option maxRecDepth 16384
set_option maxHeartbeats 2000000

noncomputable section

namespace Cert.Kernel3Ideal.Bias

open Cert.Kernel3Ideal Cert.Kernel3Ideal.Gen
open Cert.KernelIdeal.Attn (emb3)
open Idealize.ShloMosaic Idealize.ShloMosaic.TcCoe Idealize.ShloMosaic.Tactic
open Idealize.SL Idealize.SL.Sem

/-! The call's result: the table of its two arguments. -/

/-- The table as an array. -/
def Tb (x0 : Vec Ideal S32x8 .f32) (x1 : Vec Ideal S384x128 .i32) : Vec Ideal S8x384x128 .f32 :=
  fun y => bv x0 x1 (y 0) (y 1) (y 2)

theorem piece (arg0 : Memref sig .tc .smem S32x8 .f32) (harg0 : arg0.IsWhole) (arg1 : Memref sig .tc .vmem S384x128 .i32) (harg1 : arg1.IsWhole)
    (x0 : Vec Ideal S32x8 .f32) (x1 : Vec Ideal S384x128 .i32) (h : ℕ) (hh : h < 8)
    (inb : ∀ a, (![h, 0, 0] : Fin 3 → ℕ) a + (![1, 384, 128] : Fin 3 → ℕ) a ≤ S8x384x128.size a) (x : (⟨3, ![1, 384, 128]⟩ : Shape).Idx) :
    tblOf arg0 harg0 arg1 harg1 x0 x1 h hh x = Tb x0 x1 ((Rect.unit (s := S8x384x128) ![h, 0, 0] ![1, 384, 128] inb).emb x) := by
  obtain ⟨a, b, c, rfl⟩ : ∃ (a : Fin 1) (b : Fin 384) (c : Fin 128), x = ix3 a b c := ⟨x 0, x 1, x 2, eq_ix3 x⟩
  have ea := a.isLt; have eb := b.isLt; have ec := c.isLt
  rw [tblOf_apply]
  refine Eq.trans ?_ (congrArg (Tb x0 x1) (emb3 inb a b c (by omega) (by omega) (by omega))).symm
  refine congr (congr (congrArg (bv x0 x1) (Fin.ext ?_)) (Fin.ext ?_)) (Fin.ext ?_)
  · show h = h + a.val
    omega
  · show b.val = 0 + b.val
    omega
  · show c.val = 0 + c.val
    omega

theorem out_eq (c : Dev nD) (arg0 : Memref sig .tc .smem S32x8 .f32) (harg0 : arg0.IsWhole) (arg1 : Memref sig .tc .vmem S384x128 .i32) (harg1 : arg1.IsWhole) (arg2 : Memref sig .tc .vmem S8x384x128 .f32) (harg2 : arg2.IsWhole)
    (x0 : Vec Ideal S32x8 .f32) (x1 : Vec Ideal S384x128 .i32) : out0_A_2 c arg0 harg0 arg1 harg1 arg2 harg2 x0 x1 = Tb x0 x1 := by
  funext y
  unfold out0_A_2
  have hP : View.PiecesOf (Val := Elt Ideal) (Tb x0 x1) (kernelRun0_A c arg0 harg0 arg1 harg1 arg2 harg2 x0 x1).1 := by
    rw [stored]
    exact ⟨piece arg0 harg0 arg1 harg1 x0 x1 7 (by decide) (by decide), piece arg0 harg0 arg1 harg1 x0 x1 6 (by decide) (by decide), piece arg0 harg0 arg1 harg1 x0 x1 5 (by decide) (by decide), piece arg0 harg0 arg1 harg1 x0 x1 4 (by decide) (by decide),
      piece arg0 harg0 arg1 harg1 x0 x1 3 (by decide) (by decide), piece arg0 harg0 arg1 harg1 x0 x1 2 (by decide) (by decide), piece arg0 harg0 arg1 harg1 x0 x1 1 (by decide) (by decide), piece arg0 harg0 arg1 harg1 x0 x1 0 (by decide) (by decide), trivial⟩
  exact View.read_writes_apply_of_pieces VO0_2 VO0_2.junk (Tb x0 x1) _ hP.mem y (cover0_A_2 c arg0 harg0 arg1 harg1 arg2 harg2 x0 x1 y)

theorem idx0 : ∀ t : Fin cfg0.N, (cfg0.win 0).index t = ![0, 0] := by decide +kernel
theorem idx1 : ∀ t : Fin cfg0.N, (cfg0.win 1).index t = ![0, 0] := by decide +kernel
theorem idx2 : ∀ t : Fin cfg0.N, (cfg0.win 2).index t = ![0, 0, 0] := by decide +kernel

variable (m : (ℓ : Loc nD τ sig) → Buf (Elt Ideal) ℓ) (c : Dev nD) (t : Fin cfg0.N)

theorem read0 : (iblk m c 0 t : Vec Ideal S32x8 .f32) = (m ((c : Thread nD τ).loc main_arg0) : Vec Ideal S32x8 .f32) := by
  funext y
  idx_vars y
  refine congrArg (m ((c : Thread nD τ).loc main_arg0)) ?_
  blk_ext [iblk, idx0 t]

theorem read1 : (iblk m c 1 t : Vec Ideal S384x128 .i32) = (m ((c : Thread nD τ).loc main_arg1) : Vec Ideal S384x128 .i32) := by
  funext y
  idx_vars y
  refine congrArg (m ((c : Thread nD τ).loc main_arg1)) ?_
  blk_ext [iblk, idx1 t]

/-- The call's result is the table of its arguments. -/
theorem result : (dats m 0 c).arrAt 2 cfg0.N = Tb (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [out_eq, read0, read1]
  idx_vars y
  refine congrArg (Tb _ _) ?_
  blk_ext [idx2 t]

end Cert.Kernel3Ideal.Bias
-- ==== Proof.BiasRef.lean ====
module

public import proofs.«01_k».proof.Proof.BiasOut

@[expose] public section

set_option maxRecDepth 16384
set_option maxHeartbeats 2000000

noncomputable section

namespace Cert.Reference3Ideal.Bias

open Cert.Reference3Ideal Cert.Reference3Ideal.Gen
open Cert.Kernel3Ideal.Bias (bv bot_eq)
open Idealize.ShloMosaic Idealize.ShloMosaic.TcCoe Idealize.ShloMosaic.Tactic Idealize.SL.Sem

/-! The reference's table, index by index. -/

/-- Where a key lies in the window of a query. -/
def Mk : IVec S8x384x128 1 := broadcastInDim S8x384x128 ![0, 1, 2] bcast_S1x384x128_S8x384x128_0_1_2 (broadcastInDim S1x384x128 ![1, 2] bcast_S384x128_S1x384x128_1_2 (cmpi .sle (absi (subi (broadcastInDim S384x128 ![0, 1] bcast_S384x1_S384x128_0_1 (subi (broadcastInDim S384x1 ![0] bcast_S384_S384x1_0 (iotaInDim S384 32 0)) (broadcastInDim S384x1 ![] bcast_S_S384x1 (constantI S_ 32 128#32)))) (broadcastInDim S384x128 ![0, 1] bcast_S1x128_S384x128_0_1 (broadcastInDim S1x128 ![1] bcast_S128_S1x128_1 (iotaInDim S128 32 0))))) (broadcastInDim S384x128 ![] bcast_S_S384x128 (constantI S_ 32 128#32))))

/-- The bias of one bucket, where it is the pair's bucket. -/
def Pk (x0 : FVec Ideal S32x8 .f32) (x1 : IVec S384x128 32) : FVec Ideal S8x32x384x128 .f32 := select (cmpi .eq (broadcastInDim S8x32x384x128 ![0, 1, 2, 3] bcast_S1x1x384x128_S8x32x384x128_0_1_2_3 (broadcastInDim S1x1x384x128 ![2, 3] bcast_S384x128_S1x1x384x128_2_3 x1)) (broadcastInDim S8x32x384x128 ![0, 1, 2, 3] bcast_S1x32x1x1_S8x32x384x128_0_1_2_3 (shapeCast _ (iotaInDim S32 32 0) shapeCasts_S32_S1x32x1x1))) (broadcastInDim S8x32x384x128 ![0, 1, 2, 3] bcast_S8x32x1x1_S8x32x384x128_0_1_2_3 (shapeCast _ (transpose S8x32 [1, 0] x0 transposes_S32x8_S8x32_1_0) shapeCasts_S8x32_S8x32x1x1)) (broadcastInDim S8x32x384x128 ![] bcast_S_S8x32x384x128 (id (constant S_ .f32 0x00000000#32)))

/-- The table. -/
def Rb (x0 : FVec Ideal S32x8 .f32) (x1 : IVec S384x128 32) : FVec Ideal S8x384x128 .f32 := select Mk (Host.divf (Host.reduceAdd (Pk x0 x1) (constant S_ .f32 0x00000000#32) reducesTo_S8x32x384x128_S8x384x128_d1 h_S_) (broadcastInDim S8x384x128 ![] bcast_S_S8x384x128 (Host.log (constant S_ .f32 0x40000000#32)))) (broadcastInDim S8x384x128 ![] bcast_S_S8x384x128 (id (constant S_ .f32 0xFF800000#32)))

theorem two_eq : Ideal.ofBits FTy.f32 0x40000000#32 = ((2 : ℝ) : EReal) := by
  simp [Ideal.ofBits, Ideal.ieee]
  rw [← EReal.coe_mul]
  norm_num

theorem Mk_apply (h : Fin 8) (k : Fin 384) (r : Fin 128) : Mk (ix3 h k r) = (Cert.Kernel3Ideal.Gen.k0_pay2 (ix2 k r) : BitVec 1) := by
  pointwise [Mk, Cert.Kernel3Ideal.Gen.k0_pay2]

theorem Pk_apply (x0 : FVec Ideal S32x8 .f32) (x1 : IVec S384x128 32) (h : Fin 8) (b : Fin 32) (k : Fin 384) (r : Fin 128) :
    (Pk x0 x1 (ix4 h b k r) : EReal) = if (x1 (ix2 k r) : BitVec 32) = BitVec.ofNat 32 b.val then (x0 (ix2 b h) : EReal) else 0 := by
  pointwise [Pk]
  show (if IntOp.cmpi CmpIPredicate.eq (x1 (ix2 k r)) (BitVec.ofNat 32 b.val) = 1#1 then _ else (Ideal.ofBits FTy.f32 0#32 : EReal)) = _
  rw [Cert.Kernel2Ideal.Ffn.zero_eq]
  by_cases e : (x1 (ix2 k r) : BitVec 32) = BitVec.ofNat 32 b.val
  · rw [if_pos e, if_pos]; rw [e]; simp [IntOp.cmpi]
  · rw [if_neg e, if_neg]
    have e' : ((x1 (ix2 k r) : BitVec 32) == BitVec.ofNat 32 b.val) = false := beq_eq_false_iff_ne.mpr e
    show ¬ BitVec.ofBool ((x1 (ix2 k r) : BitVec 32) == BitVec.ofNat 32 b.val) = 1#1
    rw [e']
    decide

theorem Rb_apply (x0 : FVec Ideal S32x8 .f32) (x1 : IVec S384x128 32) (h : Fin 8) (k : Fin 384) (r : Fin 128) :
    (Rb x0 x1 (ix3 h k r) : EReal) = if (Mk (ix3 h k r) : BitVec 1) = 1#1 then Ideal.div (∑ b : Fin 32, (Pk x0 x1 (ix4 h b k r) : EReal)) ((Real.log 2 : ℝ) : EReal) else ⊥ := by
  pointwise [Rb]
  rw [two_eq, Ideal.log_coe, if_neg (by norm_num)]
  show (if Mk (ix3 h k r) = 1#1 then _ else (Scalar.ofBits (F := Ideal) .f32 0xFF800000#32 : EReal)) = _
  rw [bot_eq]

theorem div_log2 (x : EReal) : Ideal.div x ((Real.log 2 : ℝ) : EReal) = x * (((Real.log 2)⁻¹ : ℝ) : EReal) := by
  have h : Real.log 2 ≠ 0 := (Real.log_pos one_lt_two).ne'
  unfold Ideal.div
  rw [if_neg (by exact_mod_cast h), EReal.coe_inv]

/-- The reference's table is the kernel's. -/
theorem Rb_eq (x0 : FVec Ideal S32x8 .f32) (x1 : IVec S384x128 32) : Rb x0 x1 = Cert.Kernel3Ideal.Bias.Tb x0 x1 := by
  funext y
  obtain ⟨h, k, r, rfl⟩ : ∃ (h : Fin 8) (k : Fin 384) (r : Fin 128), y = ix3 h k r := ⟨y 0, y 1, y 2, eq_ix3 y⟩
  rw [Rb_apply, div_log2, Mk_apply]
  show _ = bv x0 x1 h k r
  unfold bv
  simp only [Pk_apply]

end Cert.Reference3Ideal.Bias
-- ==== Proof.lean ====
module

public import proofs.«01_k».proof.Defs
public import proofs.«01_k».proof.Proof.AttnFrame
public import proofs.«01_k».proof.Proof.AttnFrameIdeal
public import proofs.«01_k».proof.Proof.AttnAlg
public import proofs.«01_k».proof.Proof.FfnBlocks
public import proofs.«01_k».proof.Proof.Gen.Kernel2Ideal.Value
public import proofs.«01_k».proof.Proof.BiasRef
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The attention runs from every memory and leaves its arguments as they were. -/
theorem frame_attention : Cert.quiescent_Kernel := fun m ρ _ => Cert.Kernel.Attn.frame m ρ

/-- The same of the attention over the extended reals. -/
theorem frame_attentionIdeal : Cert.quiescent_KernelIdeal := fun m ρ _ => Cert.KernelIdeal.Attn.frame m ρ

/-- The attention's reference runs and leaves its arguments as they were. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The last call runs from every memory and leaves its arguments as they were. -/
theorem frame_ffn : Cert.quiescent_Kernel2 := fun m ρ _ => Cert.Kernel2.Gen.frame m ρ

/-- The same of the last call over the extended reals. -/
theorem frame_ffnIdeal : Cert.quiescent_Kernel2Ideal := fun m ρ _ => Cert.Kernel2Ideal.Gen.frame m ρ

/-- The last call's reference runs and leaves its arguments as they were. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The attention's one named constant, the base-two logarithm of e, is the real `(log 2)⁻¹`. -/
theorem preserves_attention : Cert.preserves_Kernel_KernelIdeal :=
  IdealRules.named_const.statement Cert.KernelIdeal.κ "log2e" .f32 0x3FB8AA3B#32 (((Real.log 2)⁻¹ : ℝ) : EReal) rfl

section value
open Cert.KernelIdeal Cert.KernelIdeal.Gen Cert.KernelIdeal.Attn

/-- The kernel's first result is the reference's function of the arguments. -/
theorem attention_result (m : (ℓ : Loc nD τ sig) → Buf (Elt Ideal) ℓ) (c : Dev nD) :
    (dats m 0 c).arrAt 7 cfg0.N
      = Cert.ReferenceIdeal.Attn.Ra (m ((c : Thread nD τ).loc main_arg0)) (m ((c : Thread nD τ).loc main_arg1))
          (m ((c : Thread nD τ).loc main_arg2)) (m ((c : Thread nD τ).loc main_arg3)) := by
  refine arr7 m c _ fun t a b ha => ?_
  have ht : t.val < 16 := t.isLt
  have h1 := a.isLt
  have h2 := b.isLt
  have he : b.val % 128 = b.val % 128 / 64 * 64 + b.val % 64 := by omega
  show outv _ _ _ _ _ (a.val / 128) (b.val / 128) (b.val % 128) (a.val % 128) = _
  rw [he]
  exact outv_eq _ _ _ _ _ _ _ _ _ t.val (fun h hh => read_sink m c t h hh) (fun j l q hj hl hq => read_queries m c t j l q hj hl hq)
    (fun r l hr hl => read_keys m c t r l hr hl) (fun r l hr hl => read_values m c t r l hr hl)
    (fun h x q hh hx hq => read_bias m c t h x q hh hx hq) (a.val / 128) (b.val / 128) (b.val % 128 / 64) (a.val % 128) (b.val % 64)
    ht (by omega) (by omega) (by omega) (by omega) (by omega) _ _ (show t.val * 2048 + a.val = _ by omega) (by omega)

end value

/-- The attention's three results, over the extended reals, are the reference's. -/
theorem algebraic_attention : Cert.algebraic_KernelIdeal_ReferenceIdeal := fun m g m' g' _ hag =>
  ⟨fun c => Cert.ReferenceIdeal.Attn.Ra (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => fun i => m ((c.tc : Thread Cert.KernelIdeal.nD Cert.KernelIdeal.τ).loc Cert.KernelIdeal.main_arg4) i,
    fun c => fun i => m ((c.tc : Thread Cert.KernelIdeal.nD Cert.KernelIdeal.τ).loc Cert.KernelIdeal.main_arg5) i,
    (θ_run Cert.KernelIdeal.defs _ _).mono (fun r h c => ⟨(h c).1.trans (attention_result m c),
        (h c).2.1.trans (Cert.KernelIdeal.Attn.arr8 m c), (h c).2.2.1.trans (Cert.KernelIdeal.Attn.arr9 m c), (h c).2.2.2⟩)
      (Cert.KernelIdeal.Attn.run_arrays m g),
    (θ_run Cert.ReferenceIdeal.defs _ _).mono (fun r h c => ⟨(h c).1.trans ((Cert.ReferenceIdeal.Attn.res_eq m' c).trans (by
          rw [(hag c).1, (hag c).2.1, (hag c).2.2.1, (hag c).2.2.2.1])),
        (h c).2.1.trans (show (fun i => m' ((c.tc : Thread Cert.ReferenceIdeal.nD Cert.ReferenceIdeal.τ).loc Cert.ReferenceIdeal.main_arg4) i) = _ by
          rw [(hag c).2.2.2.2.1]; rfl),
        (h c).2.2.1.trans (show (fun i => m' ((c.tc : Thread Cert.ReferenceIdeal.nD Cert.ReferenceIdeal.τ).loc Cert.ReferenceIdeal.main_arg5) i) = _ by
          rw [(hag c).2.2.2.2.2]; rfl), (h c).2.2.2⟩)
      (Cert.ReferenceIdeal.Value.run (F := Ideal) m' g')⟩

/-- No operation of the last call was rewritten. -/
theorem preserves_ffn : Cert.preserves_Kernel2_Kernel2Ideal := trivial

/-- The last call's result, over the extended reals, is the reference's. -/
theorem algebraic_ffn : Cert.algebraic_Kernel2Ideal_Reference2Ideal := fun m g m' g' _ hag =>
  ⟨fun c => Cert.Kernel2Ideal.Ffn.Rm m c,
    (θ_run Cert.Kernel2Ideal.defs _ _).mono (fun r h c => ⟨(h c).1.trans (Cert.Kernel2Ideal.Ffn.result m c), (h c).2⟩)
      (Cert.Kernel2Ideal.Value.run_blocks (F := Ideal) m g),
    (θ_run Cert.Reference2Ideal.defs _ _).mono (fun r h c => ⟨(h c).1.trans ((Cert.Reference2Ideal.Ffn.res_eq m' c).trans (by
          obtain ⟨h0, h1, h2, h3, h4, h5, h6, h7, h8, h9⟩ := hag c
          rw [h0, h1, h2, h3, h4, h5, h6, h7, h8, h9]; rfl)), (h c).2⟩)
      (Cert.Reference2Ideal.Value.run (F := Ideal) m' g')⟩

/-- The bias table's call runs from every memory and leaves its arguments as they were. -/
theorem frame_bias : Cert.quiescent_Kernel3 := fun m ρ _ => Cert.Kernel3.Gen.frame m ρ

/-- The same of the bias table's call over the extended reals. -/
theorem frame_biasIdeal : Cert.quiescent_Kernel3Ideal := fun m ρ _ => Cert.Kernel3Ideal.Gen.frame m ρ

/-- The bias table's reference runs and leaves its arguments as they were. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The bias table's one named constant is the attention's. -/
theorem preserves_bias : Cert.preserves_Kernel3_Kernel3Ideal :=
  IdealRules.named_const.statement Cert.Kernel3Ideal.κ "log2e" .f32 0x3FB8AA3B#32 (((Real.log 2)⁻¹ : ℝ) : EReal) rfl

/-- The bias table, over the extended reals, is the reference's. -/
theorem algebraic_bias : Cert.algebraic_Kernel3Ideal_Reference3Ideal := fun m g m' g' _ hag =>
  ⟨fun c => Cert.Kernel3Ideal.Bias.Tb (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run Cert.Kernel3Ideal.defs _ _).mono (fun r h c => ⟨(h c).1.trans (Cert.Kernel3Ideal.Bias.result m c), (h c).2⟩)
      (Cert.Kernel3Ideal.Value.run_blocks (F := Ideal) m g),
    (θ_run Cert.Reference3Ideal.defs _ _).mono (fun r h c => ⟨(h c).1.trans ((show _ = Cert.Reference3Ideal.Bias.Rb
          (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg1)) from rfl).trans (by
          obtain ⟨h0, h1⟩ := hag c
          rw [h0, h1]; exact Cert.Reference3Ideal.Bias.Rb_eq _ _)), (h c).2⟩)
      (Cert.Reference3Ideal.Value.run (F := Ideal) m' g')⟩

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    frame_attention, frame_attentionIdeal, frame_reference, frame_ffn, frame_ffnIdeal, frame_reference2,
    frame_bias, frame_biasIdeal, frame_reference3,
    preserves_attention, algebraic_attention, preserves_ffn, algebraic_ffn,
    preserves_bias, algebraic_bias⟩

end Cert.Proof

end
